-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  IdealRules.named_const.Statement Cert.KernelIdeal.κ "q_scale" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v5) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  IdealRules.named_const.Statement Cert.Kernel7Ideal.κ "q_scale" .f32 0x3E0293EE#32 (((Real.sqrt 128)⁻¹ * (Real.log 2)⁻¹ : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v45) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S8192x4096 : Shape := ⟨2, ![8192, 4096]⟩
abbrev S1x4096x20496 : Shape := ⟨3, ![1, 4096, 20496]⟩
abbrev S4096x20496 : Shape := ⟨2, ![4096, 20496]⟩
abbrev S20496x4096 : Shape := ⟨2, ![20496, 4096]⟩
abbrev S8192x14336 : Shape := ⟨2, ![8192, 14336]⟩
abbrev S2048x4096 : Shape := ⟨2, ![2048, 4096]⟩
abbrev S512x4096 : Shape := ⟨2, ![512, 4096]⟩
abbrev S2048x512 : Shape := ⟨2, ![2048, 512]⟩
abbrev S4096x512 : Shape := ⟨2, ![4096, 512]⟩
abbrev S512x256 : Shape := ⟨2, ![512, 256]⟩
abbrev S256x256 : Shape := ⟨2, ![256, 256]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x20496, .f32⟩
  | .hbm, ⟨2, _⟩ => ⟨S4096x20496, .f32⟩
  | .hbm, ⟨3, _⟩ => ⟨S20496x4096, .f32⟩
  | .hbm, ⟨4, _⟩ => ⟨S8192x14336, .bf16⟩
  | .local _ .vmem, ⟨0, _⟩ => ⟨S2048x4096, .bf16⟩
  | .local _ .vmem, ⟨1, _⟩ => ⟨S512x4096, .f32⟩
  | .local _ .vmem, ⟨2, _⟩ => ⟨S512x4096, .f32⟩
  | .local _ .vmem, ⟨3, _⟩ => ⟨S2048x512, .bf16⟩
  | .local _ .vmem, ⟨4, _⟩ => ⟨S2048x512, .bf16⟩
  | .local _ .vmem, ⟨5, _⟩ => ⟨S4096x512, .bf16⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![113], ![false]⟩

def k0_mult1 (i : grid0.Coords) : BitVec 32 :=
  let c6160_i32 : BitVec 32 := 6160#32
  let arg0 : BitVec 32 := BitVec.ofNat 32 (i 0).val
  let c111_i32 : BitVec 32 := 111#32
  let v0 : BitVec 32 := Scalar.minsi arg0 c111_i32
  let c28_i32 : BitVec 32 := 28#32
  let c0_i32 : BitVec 32 := 0#32
  let v1 : BitVec 1 := Scalar.cmpi .eq c28_i32 c0_i32
  let c1_i32 : BitVec 32 := 1#32
  let v2 : BitVec 32 := Scalar.select v1 c1_i32 c28_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c512_i32 : BitVec 32 := 512#32
  let v11 : BitVec 32 := Scalar.muli v10 c512_i32
  let v12 : BitVec 32 := Scalar.addi c6160_i32 v11
  v12
def k0_cond2 (i : grid0.Coords) : BitVec 1 :=
  let c111_i32 : BitVec 32 := 111#32
  let c0_i32 : BitVec 32 := 0#32
  let arg0 : BitVec 32 := BitVec.ofNat 32 (i 0).val
  let c1_i32 : BitVec 32 := 1#32
  let v0 : BitVec 32 := Scalar.subi arg0 c1_i32
  let v1 : BitVec 32 := Scalar.maxsi c0_i32 v0
  let v2 : BitVec 32 := Scalar.minsi c111_i32 v1
  let c28_i32 : BitVec 32 := 28#32
  let c0_i32_0 : BitVec 32 := 0#32
  let v3 : BitVec 1 := Scalar.cmpi .eq c28_i32 c0_i32_0
  let c1_i32_1 : BitVec 32 := 1#32
  let v4 : BitVec 32 := Scalar.select v3 c1_i32_1 c28_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_7 : BitVec 32 := 0#32
  let v16 : BitVec 1 := Scalar.cmpi .sge v12 c0_i32_7
  let c4_i32 : BitVec 32 := 4#32
  let v17 : BitVec 1 := Scalar.cmpi .slt v12 c4_i32
  let v18 : BitVec 1 := Scalar.andi v16 v17
  let c2_i32 : BitVec 32 := 2#32
  let c0_i32_8 : BitVec 32 := 0#32
  let v19 : BitVec 1 := Scalar.cmpi .eq c2_i32 c0_i32_8
  let c1_i32_9 : BitVec 32 := 1#32
  let v20 : BitVec 32 := Scalar.select v19 c1_i32_9 c2_i32
  let v21 : BitVec 32 := Scalar.remsi arg0 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let c0_i32_13 : BitVec 32 := 0#32
  let v29 : BitVec 1 := Scalar.cmpi .eq v28 c0_i32_13
  let v30 : BitVec 1 := Scalar.andi v18 v29
  let v31 : BitVec 32 := Scalar.extui v30
  let c0_i32_14 : BitVec 32 := 0#32
  let v32 : BitVec 1 := Scalar.cmpi .ne v31 c0_i32_14
  v32

def k0_cond3 (i : grid0.Coords) : BitVec 1 :=
  let c111_i32 : BitVec 32 := 111#32
  let c0_i32 : BitVec 32 := 0#32
  let arg0 : BitVec 32 := BitVec.ofNat 32 (i 0).val
  let c1_i32 : BitVec 32 := 1#32
  let v0 : BitVec 32 := Scalar.subi arg0 c1_i32
  let v1 : BitVec 32 := Scalar.maxsi c0_i32 v0
  let v2 : BitVec 32 := Scalar.minsi c111_i32 v1
  let c28_i32 : BitVec 32 := 28#32
  let c0_i32_0 : BitVec 32 := 0#32
  let v3 : BitVec 1 := Scalar.cmpi .eq c28_i32 c0_i32_0
  let c1_i32_1 : BitVec 32 := 1#32
  let v4 : BitVec 32 := Scalar.select v3 c1_i32_1 c28_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_15 : BitVec 32 := 0#32
  let v33 : BitVec 1 := Scalar.cmpi .sge v12 c0_i32_15
  let c4_i32_16 : BitVec 32 := 4#32
  let v34 : BitVec 1 := Scalar.cmpi .slt v12 c4_i32_16
  let v35 : BitVec 1 := Scalar.andi v33 v34
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi arg0 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c1_i32_23 : BitVec 32 := 1#32
  let v46 : BitVec 1 := Scalar.cmpi .eq v45 c1_i32_23
  let v47 : BitVec 1 := Scalar.andi v35 v46
  let v48 : BitVec 32 := Scalar.extui v47
  let c0_i32_24 : BitVec 32 := 0#32
  let v49 : BitVec 1 := Scalar.cmpi .ne v48 c0_i32_24
  v49

def k0_cond4 (i : grid0.Coords) : BitVec 1 :=
  let c111_i32 : BitVec 32 := 111#32
  let c0_i32 : BitVec 32 := 0#32
  let arg0 : BitVec 32 := BitVec.ofNat 32 (i 0).val
  let c1_i32 : BitVec 32 := 1#32
  let v0 : BitVec 32 := Scalar.subi arg0 c1_i32
  let v1 : BitVec 32 := Scalar.maxsi c0_i32 v0
  let v2 : BitVec 32 := Scalar.minsi c111_i32 v1
  let c28_i32 : BitVec 32 := 28#32
  let c0_i32_0 : BitVec 32 := 0#32
  let v3 : BitVec 1 := Scalar.cmpi .eq c28_i32 c0_i32_0
  let c1_i32_1 : BitVec 32 := 1#32
  let v4 : BitVec 32 := Scalar.select v3 c1_i32_1 c28_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32_25 : BitVec 32 := 4#32
  let v50 : BitVec 1 := Scalar.cmpi .sge v12 c4_i32_25
  let c12_i32 : BitVec 32 := 12#32
  let v51 : BitVec 1 := Scalar.cmpi .slt v12 c12_i32
  let v52 : BitVec 1 := Scalar.andi v50 v51
  let c2_i32_26 : BitVec 32 := 2#32
  let c0_i32_27 : BitVec 32 := 0#32
  let v53 : BitVec 1 := Scalar.cmpi .eq c2_i32_26 c0_i32_27
  let c1_i32_28 : BitVec 32 := 1#32
  let v54 : BitVec 32 := Scalar.select v53 c1_i32_28 c2_i32_26
  let v55 : BitVec 32 := Scalar.remsi arg0 v54
  let c0_i32_30 : BitVec 32 := 0#32
  let v57 : BitVec 1 := Scalar.cmpi .slt v55 c0_i32_30
  let c0_i32_31 : BitVec 32 := 0#32
  let v58 : BitVec 1 := Scalar.cmpi .slt v54 c0_i32_31
  let v59 : BitVec 1 := Scalar.xori v57 v58
  let c0_i32_29 : BitVec 32 := 0#32
  let v56 : BitVec 1 := Scalar.cmpi .ne v55 c0_i32_29
  let v60 : BitVec 1 := Scalar.andi v59 v56
  let v61 : BitVec 32 := Scalar.addi v55 v54
  let v62 : BitVec 32 := Scalar.select v60 v61 v55
  let c0_i32_32 : BitVec 32 := 0#32
  let v63 : BitVec 1 := Scalar.cmpi .eq v62 c0_i32_32
  let v64 : BitVec 1 := Scalar.andi v52 v63
  let v65 : BitVec 32 := Scalar.extui v64
  let c0_i32_33 : BitVec 32 := 0#32
  let v66 : BitVec 1 := Scalar.cmpi .ne v65 c0_i32_33
  v66

def k0_cond5 (i : grid0.Coords) : BitVec 1 :=
  let c111_i32 : BitVec 32 := 111#32
  let c0_i32 : BitVec 32 := 0#32
  let arg0 : BitVec 32 := BitVec.ofNat 32 (i 0).val
  let c1_i32 : BitVec 32 := 1#32
  let v0 : BitVec 32 := Scalar.subi arg0 c1_i32
  let v1 : BitVec 32 := Scalar.maxsi c0_i32 v0
  let v2 : BitVec 32 := Scalar.minsi c111_i32 v1
  let c28_i32 : BitVec 32 := 28#32
  let c0_i32_0 : BitVec 32 := 0#32
  let v3 : BitVec 1 := Scalar.cmpi .eq c28_i32 c0_i32_0
  let c1_i32_1 : BitVec 32 := 1#32
  let v4 : BitVec 32 := Scalar.select v3 c1_i32_1 c28_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32_34 : BitVec 32 := 4#32
  let v67 : BitVec 1 := Scalar.cmpi .sge v12 c4_i32_34
  let c12_i32_35 : BitVec 32 := 12#32
  let v68 : BitVec 1 := Scalar.cmpi .slt v12 c12_i32_35
  let v69 : BitVec 1 := Scalar.andi v67 v68
  let c2_i32_36 : BitVec 32 := 2#32
  let c0_i32_37 : BitVec 32 := 0#32
  let v70 : BitVec 1 := Scalar.cmpi .eq c2_i32_36 c0_i32_37
  let c1_i32_38 : BitVec 32 := 1#32
  let v71 : BitVec 32 := Scalar.select v70 c1_i32_38 c2_i32_36
  let v72 : BitVec 32 := Scalar.remsi arg0 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c1_i32_42 : BitVec 32 := 1#32
  let v80 : BitVec 1 := Scalar.cmpi .eq v79 c1_i32_42
  let v81 : BitVec 1 := Scalar.andi v69 v80
  let v82 : BitVec 32 := Scalar.extui v81
  let c0_i32_43 : BitVec 32 := 0#32
  let v83 : BitVec 1 := Scalar.cmpi .ne v82 c0_i32_43
  v83

def k0_cond6 (i : grid0.Coords) : BitVec 1 :=
  let c111_i32 : BitVec 32 := 111#32
  let c0_i32 : BitVec 32 := 0#32
  let arg0 : BitVec 32 := BitVec.ofNat 32 (i 0).val
  let c1_i32 : BitVec 32 := 1#32
  let v0 : BitVec 32 := Scalar.subi arg0 c1_i32
  let v1 : BitVec 32 := Scalar.maxsi c0_i32 v0
  let v2 : BitVec 32 := Scalar.minsi c111_i32 v1
  let c28_i32 : BitVec 32 := 28#32
  let c0_i32_0 : BitVec 32 := 0#32
  let v3 : BitVec 1 := Scalar.cmpi .eq c28_i32 c0_i32_0
  let c1_i32_1 : BitVec 32 := 1#32
  let v4 : BitVec 32 := Scalar.select v3 c1_i32_1 c28_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c12_i32_44 : BitVec 32 := 12#32
  let v84 : BitVec 1 := Scalar.cmpi .sge v12 c12_i32_44
  let c28_i32_45 : BitVec 32 := 28#32
  let v85 : BitVec 1 := Scalar.cmpi .slt v12 c28_i32_45
  let v86 : BitVec 1 := Scalar.andi v84 v85
  let c2_i32_46 : BitVec 32 := 2#32
  let c0_i32_47 : BitVec 32 := 0#32
  let v87 : BitVec 1 := Scalar.cmpi .eq c2_i32_46 c0_i32_47
  let c1_i32_48 : BitVec 32 := 1#32
  let v88 : BitVec 32 := Scalar.select v87 c1_i32_48 c2_i32_46
  let v89 : BitVec 32 := Scalar.remsi arg0 v88
  let c0_i32_50 : BitVec 32 := 0#32
  let v91 : BitVec 1 := Scalar.cmpi .slt v89 c0_i32_50
  let c0_i32_51 : BitVec 32 := 0#32
  let v92 : BitVec 1 := Scalar.cmpi .slt v88 c0_i32_51
  let v93 : BitVec 1 := Scalar.xori v91 v92
  let c0_i32_49 : BitVec 32 := 0#32
  let v90 : BitVec 1 := Scalar.cmpi .ne v89 c0_i32_49
  let v94 : BitVec 1 := Scalar.andi v93 v90
  let v95 : BitVec 32 := Scalar.addi v89 v88
  let v96 : BitVec 32 := Scalar.select v94 v95 v89
  let c0_i32_52 : BitVec 32 := 0#32
  let v97 : BitVec 1 := Scalar.cmpi .eq v96 c0_i32_52
  let v98 : BitVec 1 := Scalar.andi v86 v97
  let v99 : BitVec 32 := Scalar.extui v98
  let c0_i32_53 : BitVec 32 := 0#32
  let v100 : BitVec 1 := Scalar.cmpi .ne v99 c0_i32_53
  v100

def k0_cond7 (i : grid0.Coords) : BitVec 1 :=
  let c111_i32 : BitVec 32 := 111#32
  let c0_i32 : BitVec 32 := 0#32
  let arg0 : BitVec 32 := BitVec.ofNat 32 (i 0).val
  let c1_i32 : BitVec 32 := 1#32
  let v0 : BitVec 32 := Scalar.subi arg0 c1_i32
  let v1 : BitVec 32 := Scalar.maxsi c0_i32 v0
  let v2 : BitVec 32 := Scalar.minsi c111_i32 v1
  let c28_i32 : BitVec 32 := 28#32
  let c0_i32_0 : BitVec 32 := 0#32
  let v3 : BitVec 1 := Scalar.cmpi .eq c28_i32 c0_i32_0
  let c1_i32_1 : BitVec 32 := 1#32
  let v4 : BitVec 32 := Scalar.select v3 c1_i32_1 c28_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c12_i32_54 : BitVec 32 := 12#32
  let v101 : BitVec 1 := Scalar.cmpi .sge v12 c12_i32_54
  let c28_i32_55 : BitVec 32 := 28#32
  let v102 : BitVec 1 := Scalar.cmpi .slt v12 c28_i32_55
  let v103 : BitVec 1 := Scalar.andi v101 v102
  let c2_i32_56 : BitVec 32 := 2#32
  let c0_i32_57 : BitVec 32 := 0#32
  let v104 : BitVec 1 := Scalar.cmpi .eq c2_i32_56 c0_i32_57
  let c1_i32_58 : BitVec 32 := 1#32
  let v105 : BitVec 32 := Scalar.select v104 c1_i32_58 c2_i32_56
  let v106 : BitVec 32 := Scalar.remsi arg0 v105
  let c0_i32_60 : BitVec 32 := 0#32
  let v108 : BitVec 1 := Scalar.cmpi .slt v106 c0_i32_60
  let c0_i32_61 : BitVec 32 := 0#32
  let v109 : BitVec 1 := Scalar.cmpi .slt v105 c0_i32_61
  let v110 : BitVec 1 := Scalar.xori v108 v109
  let c0_i32_59 : BitVec 32 := 0#32
  let v107 : BitVec 1 := Scalar.cmpi .ne v106 c0_i32_59
  let v111 : BitVec 1 := Scalar.andi v110 v107
  let v112 : BitVec 32 := Scalar.addi v106 v105
  let v113 : BitVec 32 := Scalar.select v111 v112 v106
  let c1_i32_62 : BitVec 32 := 1#32
  let v114 : BitVec 1 := Scalar.cmpi .eq v113 c1_i32_62
  let v115 : BitVec 1 := Scalar.andi v103 v114
  let v116 : BitVec 32 := Scalar.extui v115
  let c0_i32_63 : BitVec 32 := 0#32
  let v117 : BitVec 1 := Scalar.cmpi .ne v116 c0_i32_63
  v117

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c111_i32 : BitVec 32 := 111#32
  let v1 : BitVec 32 := Scalar.maxsi c0_i32 v0
  let v2 : BitVec 32 := Scalar.minsi c111_i32 v1
  let c28_i32 : BitVec 32 := 28#32
  let v3 : BitVec 32 := Scalar.divsi v2 c28_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c28_i32 c0_i32_2
  let v10 : BitVec 32 := Scalar.extui v9
  let c0_i32_3 : BitVec 32 := 0#32
  let v11 : BitVec 1 := Scalar.cmpi .slt c28_i32 c0_i32_3
  let v12 : BitVec 32 := Scalar.extui v11
  let v13 : BitVec 32 := Scalar.subi v10 v12
  let v14 : BitVec 1 := Scalar.cmpi .ne v8 v13
  let v15 : BitVec 32 := Scalar.remsi v2 c28_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let c0_i32_7 : BitVec 32 := 0#32
  ![v19.toNat, c0_i32_6.toNat]

def cc0_transform_1 (i : grid0.Coords) : Fin 2 → Nat :=
  let arg0 : BitVec 32 := BitVec.ofNat 32 (i 0).val
  let c111_i32 : BitVec 32 := 111#32
  let v0 : BitVec 32 := Scalar.minsi arg0 c111_i32
  let c28_i32 : BitVec 32 := 28#32
  let c0_i32 : BitVec 32 := 0#32
  let v1 : BitVec 1 := Scalar.cmpi .eq c28_i32 c0_i32
  let c1_i32 : BitVec 32 := 1#32
  let v2 : BitVec 32 := Scalar.select v1 c1_i32 c28_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c512_i32 : BitVec 32 := 512#32
  let v11 : BitVec 32 := Scalar.muli v10 c512_i32
  let c6160_i32 : BitVec 32 := 6160#32
  let v12 : BitVec 32 := Scalar.addi c6160_i32 v11
  let v13 : BitVec 32 := v12
  let c0_i32_3 : BitVec 32 := 0#32
  let c0_i32_4 : BitVec 32 := 0#32
  ![v13.toNat, c0_i32_3.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c111_i32 : BitVec 32 := 111#32
  let v1 : BitVec 32 := Scalar.maxsi c0_i32 v0
  let v2 : BitVec 32 := Scalar.minsi c111_i32 v1
  let c28_i32 : BitVec 32 := 28#32
  let v3 : BitVec 32 := Scalar.divsi v2 c28_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c28_i32 c0_i32_2
  let v10 : BitVec 32 := Scalar.extui v9
  let c0_i32_3 : BitVec 32 := 0#32
  let v11 : BitVec 1 := Scalar.cmpi .slt c28_i32 c0_i32_3
  let v12 : BitVec 32 := Scalar.extui v11
  let v13 : BitVec 32 := Scalar.subi v10 v12
  let v14 : BitVec 1 := Scalar.cmpi .ne v8 v13
  let v15 : BitVec 32 := Scalar.remsi v2 c28_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.subi arg0 c1_i32_6
  let c0_i32_7 : BitVec 32 := 0#32
  let c111_i32_8 : BitVec 32 := 111#32
  let v21 : BitVec 32 := Scalar.maxsi c0_i32_7 v20
  let v22 : BitVec 32 := Scalar.minsi c111_i32_8 v21
  let c28_i32_9 : BitVec 32 := 28#32
  let c0_i32_10 : BitVec 32 := 0#32
  let v23 : BitVec 1 := Scalar.cmpi .eq c28_i32_9 c0_i32_10
  let c1_i32_11 : BitVec 32 := 1#32
  let v24 : BitVec 32 := Scalar.select v23 c1_i32_11 c28_i32_9
  let v25 : BitVec 32 := Scalar.remsi v22 v24
  let c0_i32_12 : BitVec 32 := 0#32
  let v26 : BitVec 1 := Scalar.cmpi .ne v25 c0_i32_12
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let v30 : BitVec 1 := Scalar.andi v29 v26
  let v31 : BitVec 32 := Scalar.addi v25 v24
  let v32 : BitVec 32 := Scalar.select v30 v31 v25
  let c0_i32_15 : BitVec 32 := 0#32
  ![v19.toNat, v32.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "q_scale" => some (((Real.sqrt 128)⁻¹ * (Real.log 2)⁻¹ : ℝ) : EReal)
  | _ => none
-- ==== ReferenceIdeal.lean ====
abbrev S8192x4096 : Shape := ⟨2, ![8192, 4096]⟩
abbrev S1x4096x20496 : Shape := ⟨3, ![1, 4096, 20496]⟩
abbrev S4096x20496 : Shape := ⟨2, ![4096, 20496]⟩
abbrev S8192x20496 : Shape := ⟨2, ![8192, 20496]⟩
abbrev S8192x2048 : Shape := ⟨2, ![8192, 2048]⟩
abbrev S_ : Shape := ⟨0, ![]⟩
abbrev S8192x14336 : Shape := ⟨2, ![8192, 14336]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x20496, .f32⟩
  | .hbm, ⟨2, _⟩ => ⟨S8192x4096, .f32⟩
  | .hbm, ⟨3, _⟩ => ⟨S4096x20496, .f32⟩
  | .hbm, ⟨4, _⟩ => ⟨S8192x20496, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S8192x14336, .f32⟩
  | .hbm, ⟨35, _⟩ => ⟨S8192x14336, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel2.lean ====
abbrev S8192x11008 : Shape := ⟨2, ![8192, 11008]⟩
abbrev S1x11008x4096 : Shape := ⟨3, ![1, 11008, 4096]⟩
abbrev S8192x4096 : Shape := ⟨2, ![8192, 4096]⟩
abbrev S11008x4096 : Shape := ⟨2, ![11008, 4096]⟩
abbrev S1024x5504 : Shape := ⟨2, ![1024, 5504]⟩
abbrev S5504x512 : Shape := ⟨2, ![5504, 512]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S8192x11008, .bf16⟩
  | .hbm, ⟨1, _⟩ => ⟨S1x11008x4096, .f32⟩
  | .hbm, ⟨2, _⟩ => ⟨S8192x4096, .f32⟩
  | .hbm, ⟨3, _⟩ => ⟨S11008x4096, .f32⟩
  | .hbm, ⟨4, _⟩ => ⟨S11008x4096, .bf16⟩
  | .hbm, ⟨5, _⟩ => ⟨S8192x4096, .f32⟩
  | .local _ .vmem, ⟨0, _⟩ => ⟨S1024x5504, .bf16⟩
  | .local _ .vmem, ⟨1, _⟩ => ⟨S1024x5504, .bf16⟩
  | .local _ .vmem, ⟨2, _⟩ => ⟨S5504x512, .bf16⟩
  | .local _ .vmem, ⟨3, _⟩ => ⟨S5504x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x11008 : Shape := ⟨2, ![8192, 11008]⟩
abbrev S1x11008x4096 : Shape := ⟨3, ![1, 11008, 4096]⟩
abbrev S8192x4096 : Shape := ⟨2, ![8192, 4096]⟩
abbrev S11008x4096 : Shape := ⟨2, ![11008, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S1x11008x4096, .f32⟩
  | .hbm, ⟨2, _⟩ => ⟨S8192x4096, .f32⟩
  | .hbm, ⟨3, _⟩ => ⟨S8192x11008, .f32⟩
  | .hbm, ⟨4, _⟩ => ⟨S11008x4096, .f32⟩
  | .hbm, ⟨5, _⟩ => ⟨S8192x4096, .f32⟩
  | .hbm, ⟨6, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S8192x4096 : Shape := ⟨2, ![8192, 4096]⟩
abbrev S1x4096x4096 : Shape := ⟨3, ![1, 4096, 4096]⟩
abbrev S1x1x8192x256 : Shape := ⟨4, ![1, 1, 8192, 256]⟩
abbrev S1x256x4096 : Shape := ⟨3, ![1, 256, 4096]⟩
abbrev S4096x4096 : Shape := ⟨2, ![4096, 4096]⟩
abbrev S8192x256 : Shape := ⟨2, ![8192, 256]⟩
abbrev S256x4096 : Shape := ⟨2, ![256, 4096]⟩
abbrev S1024x4096 : Shape := ⟨2, ![1024, 4096]⟩
abbrev S4096x512 : Shape := ⟨2, ![4096, 512]⟩
abbrev S1024x256 : Shape := ⟨2, ![1024, 256]⟩
abbrev S256x512 : Shape := ⟨2, ![256, 512]⟩
abbrev S1024x512 : Shape := ⟨2, ![1024, 512]⟩
abbrev S4096x256 : Shape := ⟨2, ![4096, 256]⟩
abbrev S256x256 : Shape := ⟨2, ![256, 256]⟩

abbrev nBuf : Space → Nat
  | .hbm => 11
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S1x1x8192x256, .f32⟩
  | .hbm, ⟨3, _⟩ => ⟨S1x256x4096, .f32⟩
  | .hbm, ⟨4, _⟩ => ⟨S8192x4096, .f32⟩
  | .hbm, ⟨5, _⟩ => ⟨S4096x4096, .f32⟩
  | .hbm, ⟨6, _⟩ => ⟨S4096x4096, .bf16⟩
  | .hbm, ⟨7, _⟩ => ⟨S8192x256, .f32⟩
  | .hbm, ⟨8, _⟩ => ⟨S256x4096, .f32⟩
  | .hbm, ⟨9, _⟩ => ⟨S256x4096, .bf16⟩
  | .hbm, ⟨10, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x256, .f32⟩
  | .local _ .vmem, ⟨5, _⟩ => ⟨S1024x256, .f32⟩
  | .local _ .vmem, ⟨6, _⟩ => ⟨S256x512, .bf16⟩
  | .local _ .vmem, ⟨7, _⟩ => ⟨S256x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8192x4096 : Shape := ⟨2, ![8192, 4096]⟩
abbrev S1x4096x4096 : Shape := ⟨3, ![1, 4096, 4096]⟩
abbrev S1x1x8192x256 : Shape := ⟨4, ![1, 1, 8192, 256]⟩
abbrev S1x256x4096 : Shape := ⟨3, ![1, 256, 4096]⟩
abbrev S4096x4096 : Shape := ⟨2, ![4096, 4096]⟩
abbrev S_ : Shape := ⟨0, ![]⟩
abbrev S8192x256 : Shape := ⟨2, ![8192, 256]⟩
abbrev S256x4096 : Shape := ⟨2, ![256, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S1x1x8192x256, .f32⟩
  | .hbm, ⟨3, _⟩ => ⟨S1x256x4096, .f32⟩
  | .hbm, ⟨4, _⟩ => ⟨S8192x4096, .f32⟩
  | .hbm, ⟨5, _⟩ => ⟨S8192x4096, .f32⟩
  | .hbm, ⟨6, _⟩ => ⟨S4096x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x256, .f32⟩
  | .hbm, ⟨17, _⟩ => ⟨S256x4096, .f32⟩
  | .hbm, ⟨18, _⟩ => ⟨S8192x4096, .f32⟩
  | .hbm, ⟨19, _⟩ => ⟨S8192x4096, .f32⟩
  | .hbm, ⟨20, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Kernel4.lean ====
abbrev S8192x4096 : Shape := ⟨2, ![8192, 4096]⟩
abbrev S1x4096x22016 : Shape := ⟨3, ![1, 4096, 22016]⟩
abbrev S1x3x22016 : Shape := ⟨3, ![1, 3, 22016]⟩
abbrev S1x22016 : Shape := ⟨2, ![1, 22016]⟩
abbrev S4096x22016 : Shape := ⟨2, ![4096, 22016]⟩
abbrev S3x22016 : Shape := ⟨2, ![3, 22016]⟩
abbrev S22016 : Shape := ⟨1, ![22016]⟩
abbrev S8192x11008 : Shape := ⟨2, ![8192, 11008]⟩
abbrev S2048x4096 : Shape := ⟨2, ![2048, 4096]⟩
abbrev S4096x256 : Shape := ⟨2, ![4096, 256]⟩
abbrev S3x256 : Shape := ⟨2, ![3, 256]⟩
abbrev S1x256 : Shape := ⟨2, ![1, 256]⟩
abbrev S2048x256 : Shape := ⟨2, ![2048, 256]⟩
abbrev S2056x256 : Shape := ⟨2, ![2056, 256]⟩
abbrev S43x8x256 : Shape := ⟨3, ![43, 8, 256]⟩
abbrev S512x256 : Shape := ⟨2, ![512, 256]⟩
abbrev S256x256 : Shape := ⟨2, ![256, 256]⟩
abbrev S32x256 : Shape := ⟨2, ![32, 256]⟩
abbrev S1x8x256 : Shape := ⟨3, ![1, 8, 256]⟩
abbrev S8x256 : Shape := ⟨2, ![8, 256]⟩

abbrev nBuf : Space → Nat
  | .hbm => 9
  | .vmem => 25
  | .smem => 0
  | _ => 0

abbrev bufTy : (tb : Table) → Fin (tcTables nBuf tb) → BufTy
  | .hbm, ⟨0, _⟩ => ⟨S8192x4096, .bf16⟩
  | .hbm, ⟨1, _⟩ => ⟨S1x4096x22016, .f32⟩
  | .hbm, ⟨2, _⟩ => ⟨S1x3x22016, .f32⟩
  | .hbm, ⟨3, _⟩ => ⟨S1x22016, .f32⟩
  | .hbm, ⟨4, _⟩ => ⟨S4096x22016, .f32⟩
  | .hbm, ⟨5, _⟩ => ⟨S3x22016, .f32⟩
  | .hbm, ⟨6, _⟩ => ⟨S22016, .f32⟩
  | .hbm, ⟨7, _⟩ => ⟨S1x22016, .f32⟩
  | .hbm, ⟨8, _⟩ => ⟨S8192x11008, .bf16⟩
  | .local _ .vmem, ⟨0, _⟩ => ⟨S2048x4096, .bf16⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S2048x256, .bf16⟩
  | .local _ .vmem, ⟨14, _⟩ => ⟨S2048x256, .bf16⟩
  | .local _ .vmem, ⟨15, _⟩ => ⟨S4096x256, .bf16⟩
  | .local _ .vmem, ⟨16, _⟩ => ⟨S4096x256, .bf16⟩
  | .local _ .vmem, ⟨17, _⟩ => ⟨S4096x256, .bf16⟩
  | .local _ .vmem, ⟨18, _⟩ => ⟨S4096x256, .bf16⟩
  | .local _ .vmem, ⟨19, _⟩ => ⟨S2056x256, .f32⟩
  | .local _ .vmem, ⟨20, _⟩ => ⟨S2056x256, .f32⟩
  | .local _ .vmem, ⟨21, _⟩ => ⟨S2056x256, .f32⟩
  | .local _ .vmem, ⟨22, _⟩ => ⟨S2056x256, .f32⟩
  | .local _ .vmem, ⟨23, _⟩ => ⟨S43x8x256, .f32⟩
  | .local _ .vmem, ⟨24, _⟩ => ⟨S43x8x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![174], ![false]⟩

def k0_cond2 (i : grid0.Coords) : BitVec 1 :=
  let arg0 : BitVec 32 := BitVec.ofNat 32 (i 0).val
  let c2_i32 : BitVec 32 := 2#32
  let c0_i32_15 : BitVec 32 := 0#32
  let v34 : BitVec 1 := Scalar.cmpi .eq c2_i32 c0_i32_15
  let c1_i32_16 : BitVec 32 := 1#32
  let v35 : BitVec 32 := Scalar.select v34 c1_i32_16 c2_i32
  let v36 : BitVec 32 := Scalar.remsi arg0 v35
  let c0_i32_18 : BitVec 32 := 0#32
  let v38 : BitVec 1 := Scalar.cmpi .slt v36 c0_i32_18
  let c0_i32_19 : BitVec 32 := 0#32
  let v39 : BitVec 1 := Scalar.cmpi .slt v35 c0_i32_19
  let v40 : BitVec 1 := Scalar.xori v38 v39
  let c0_i32_17 : BitVec 32 := 0#32
  let v37 : BitVec 1 := Scalar.cmpi .ne v36 c0_i32_17
  let v41 : BitVec 1 := Scalar.andi v40 v37
  let v42 : BitVec 32 := Scalar.addi v36 v35
  let v43 : BitVec 32 := Scalar.select v41 v42 v36
  let c0_i32_20 : BitVec 32 := 0#32
  let v44 : BitVec 1 := Scalar.cmpi .eq v43 c0_i32_20
  let v45 : BitVec 32 := Scalar.extui v44
  let c0_i32_21 : BitVec 32 := 0#32
  let v46 : BitVec 1 := Scalar.cmpi .ne v45 c0_i32_21
  v46

def k0_off1 (i : grid0.Coords) : Fin 3 → Nat :=
  let c171_i32 : BitVec 32 := 171#32
  let c0_i32 : BitVec 32 := 0#32
  let arg0 : BitVec 32 := BitVec.ofNat 32 (i 0).val
  let c1_i32 : BitVec 32 := 1#32
  let v0 : BitVec 32 := Scalar.subi arg0 c1_i32
  let v1 : BitVec 32 := Scalar.maxsi c0_i32 v0
  let v2 : BitVec 32 := Scalar.minsi c171_i32 v1
  let c43_i32 : BitVec 32 := 43#32
  let c0_i32_0 : BitVec 32 := 0#32
  let v3 : BitVec 1 := Scalar.cmpi .eq c43_i32 c0_i32_0
  let c1_i32_1 : BitVec 32 := 1#32
  let v4 : BitVec 32 := Scalar.select v3 c1_i32_1 c43_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v1082 : Index := Scalar.indexCast v12
  let c0_559 : Index := 0#32
  let c0_560 : Index := 0#32
  ![v1082.toNat, 0, 0]
def k0_cond3 (i : grid0.Coords) : BitVec 1 :=
  let arg0 : BitVec 32 := BitVec.ofNat 32 (i 0).val
  let c2_i32_22 : BitVec 32 := 2#32
  let c0_i32_23 : BitVec 32 := 0#32
  let v47 : BitVec 1 := Scalar.cmpi .eq c2_i32_22 c0_i32_23
  let c1_i32_24 : BitVec 32 := 1#32
  let v48 : BitVec 32 := Scalar.select v47 c1_i32_24 c2_i32_22
  let v49 : BitVec 32 := Scalar.remsi arg0 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let c1_i32_28 : BitVec 32 := 1#32
  let v57 : BitVec 1 := Scalar.cmpi .eq v56 c1_i32_28
  let v58 : BitVec 32 := Scalar.extui v57
  let c0_i32_29 : BitVec 32 := 0#32
  let v59 : BitVec 1 := Scalar.cmpi .ne v58 c0_i32_29
  v59

def k0_off2 (i : grid0.Coords) : Fin 3 → Nat :=
  let c171_i32 : BitVec 32 := 171#32
  let c0_i32 : BitVec 32 := 0#32
  let arg0 : BitVec 32 := BitVec.ofNat 32 (i 0).val
  let c1_i32 : BitVec 32 := 1#32
  let v0 : BitVec 32 := Scalar.subi arg0 c1_i32
  let v1 : BitVec 32 := Scalar.maxsi c0_i32 v0
  let v2 : BitVec 32 := Scalar.minsi c171_i32 v1
  let c43_i32 : BitVec 32 := 43#32
  let c0_i32_0 : BitVec 32 := 0#32
  let v3 : BitVec 1 := Scalar.cmpi .eq c43_i32 c0_i32_0
  let c1_i32_1 : BitVec 32 := 1#32
  let v4 : BitVec 32 := Scalar.select v3 c1_i32_1 c43_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v1082 : Index := Scalar.indexCast v12
  let c0_559 : Index := 0#32
  let c0_560 : Index := 0#32
  ![v1082.toNat, 0, 0]
def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c171_i32 : BitVec 32 := 171#32
  let v1 : BitVec 32 := Scalar.maxsi c0_i32 v0
  let v2 : BitVec 32 := Scalar.minsi c171_i32 v1
  let c43_i32 : BitVec 32 := 43#32
  let v3 : BitVec 32 := Scalar.divsi v2 c43_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c43_i32 c0_i32_2
  let v10 : BitVec 32 := Scalar.extui v9
  let c0_i32_3 : BitVec 32 := 0#32
  let v11 : BitVec 1 := Scalar.cmpi .slt c43_i32 c0_i32_3
  let v12 : BitVec 32 := Scalar.extui v11
  let v13 : BitVec 32 := Scalar.subi v10 v12
  let v14 : BitVec 1 := Scalar.cmpi .ne v8 v13
  let v15 : BitVec 32 := Scalar.remsi v2 c43_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let c0_i32_7 : BitVec 32 := 0#32
  ![v19.toNat, c0_i32_6.toNat]

def cc0_transform_1 (i : grid0.Coords) : Fin 2 → Nat :=
  let arg0 : BitVec 32 := BitVec.ofNat 32 (i 0).val
  let c171_i32 : BitVec 32 := 171#32
  let v0 : BitVec 32 := Scalar.minsi arg0 c171_i32
  let c43_i32 : BitVec 32 := 43#32
  let c0_i32 : BitVec 32 := 0#32
  let v1 : BitVec 1 := Scalar.cmpi .eq c43_i32 c0_i32
  let c1_i32 : BitVec 32 := 1#32
  let v2 : BitVec 32 := Scalar.select v1 c1_i32 c43_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_2 (i : grid0.Coords) : Fin 2 → Nat :=
  let arg0 : BitVec 32 := BitVec.ofNat 32 (i 0).val
  let c171_i32 : BitVec 32 := 171#32
  let v0 : BitVec 32 := Scalar.minsi arg0 c171_i32
  let c43_i32 : BitVec 32 := 43#32
  let c0_i32 : BitVec 32 := 0#32
  let v1 : BitVec 1 := Scalar.cmpi .eq c43_i32 c0_i32
  let c1_i32 : BitVec 32 := 1#32
  let v2 : BitVec 32 := Scalar.select v1 c1_i32 c43_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c43_i32_3 : BitVec 32 := 43#32
  let v11 : BitVec 32 := Scalar.addi c43_i32_3 v10
  let c0_i32_4 : BitVec 32 := 0#32
  let c0_i32_5 : BitVec 32 := 0#32
  ![c0_i32_4.toNat, v11.toNat]

def cc0_transform_3 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c171_i32 : BitVec 32 := 171#32
  let v1 : BitVec 32 := Scalar.maxsi c0_i32 v0
  let v2 : BitVec 32 := Scalar.minsi c171_i32 v1
  let c43_i32 : BitVec 32 := 43#32
  let c0_i32_0 : BitVec 32 := 0#32
  let v3 : BitVec 1 := Scalar.cmpi .eq c43_i32 c0_i32_0
  let c1_i32 : BitVec 32 := 1#32
  let v4 : BitVec 32 := Scalar.select v3 c1_i32 c43_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  ![c0_i32_4.toNat, v12.toNat]

def cc0_transform_4 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c171_i32 : BitVec 32 := 171#32
  let v1 : BitVec 32 := Scalar.maxsi c0_i32 v0
  let v2 : BitVec 32 := Scalar.minsi c171_i32 v1
  let c43_i32 : BitVec 32 := 43#32
  let c0_i32_0 : BitVec 32 := 0#32
  let v3 : BitVec 1 := Scalar.cmpi .eq c43_i32 c0_i32_0
  let c1_i32 : BitVec 32 := 1#32
  let v4 : BitVec 32 := Scalar.select v3 c1_i32 c43_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c43_i32_4 : BitVec 32 := 43#32
  let v13 : BitVec 32 := Scalar.addi c43_i32_4 v12
  let c0_i32_5 : BitVec 32 := 0#32
  let c0_i32_6 : BitVec 32 := 0#32
  ![c0_i32_5.toNat, v13.toNat]

def cc0_transform_5 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c171_i32 : BitVec 32 := 171#32
  let v1 : BitVec 32 := Scalar.maxsi c0_i32 v0
  let v2 : BitVec 32 := Scalar.minsi c171_i32 v1
  let c43_i32 : BitVec 32 := 43#32
  let c0_i32_0 : BitVec 32 := 0#32
  let v3 : BitVec 1 := Scalar.cmpi .eq c43_i32 c0_i32_0
  let c1_i32 : BitVec 32 := 1#32
  let v4 : BitVec 32 := Scalar.select v3 c1_i32 c43_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  ![c0_i32_4.toNat, v12.toNat]

def cc0_transform_6 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c171_i32 : BitVec 32 := 171#32
  let v1 : BitVec 32 := Scalar.maxsi c0_i32 v0
  let v2 : BitVec 32 := Scalar.minsi c171_i32 v1
  let c43_i32 : BitVec 32 := 43#32
  let c0_i32_0 : BitVec 32 := 0#32
  let v3 : BitVec 1 := Scalar.cmpi .eq c43_i32 c0_i32_0
  let c1_i32 : BitVec 32 := 1#32
  let v4 : BitVec 32 := Scalar.select v3 c1_i32 c43_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c43_i32_4 : BitVec 32 := 43#32
  let v13 : BitVec 32 := Scalar.addi c43_i32_4 v12
  let c0_i32_5 : BitVec 32 := 0#32
  let c0_i32_6 : BitVec 32 := 0#32
  ![c0_i32_5.toNat, v13.toNat]

def cc0_transform_7 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c171_i32 : BitVec 32 := 171#32
  let v1 : BitVec 32 := Scalar.maxsi c0_i32 v0
  let v2 : BitVec 32 := Scalar.minsi c171_i32 v1
  let c43_i32 : BitVec 32 := 43#32
  let v3 : BitVec 32 := Scalar.divsi v2 c43_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c43_i32 c0_i32_2
  let v10 : BitVec 32 := Scalar.extui v9
  let c0_i32_3 : BitVec 32 := 0#32
  let v11 : BitVec 1 := Scalar.cmpi .slt c43_i32 c0_i32_3
  let v12 : BitVec 32 := Scalar.extui v11
  let v13 : BitVec 32 := Scalar.subi v10 v12
  let v14 : BitVec 1 := Scalar.cmpi .ne v8 v13
  let v15 : BitVec 32 := Scalar.remsi v2 c43_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c2_i32_5 : BitVec 32 := 2#32
  let v20 : BitVec 32 := Scalar.subi arg0 c2_i32_5
  let c0_i32_6 : BitVec 32 := 0#32
  let c171_i32_7 : BitVec 32 := 171#32
  let v21 : BitVec 32 := Scalar.maxsi c0_i32_6 v20
  let v22 : BitVec 32 := Scalar.minsi c171_i32_7 v21
  let c43_i32_8 : BitVec 32 := 43#32
  let c0_i32_9 : BitVec 32 := 0#32
  let v23 : BitVec 1 := Scalar.cmpi .eq c43_i32_8 c0_i32_9
  let c1_i32_10 : BitVec 32 := 1#32
  let v24 : BitVec 32 := Scalar.select v23 c1_i32_10 c43_i32_8
  let v25 : BitVec 32 := Scalar.remsi v22 v24
  let c0_i32_11 : BitVec 32 := 0#32
  let v26 : BitVec 1 := Scalar.cmpi .ne v25 c0_i32_11
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let v30 : BitVec 1 := Scalar.andi v29 v26
  let v31 : BitVec 32 := Scalar.addi v25 v24
  let v32 : BitVec 32 := Scalar.select v30 v31 v25
  let c0_i32_14 : BitVec 32 := 0#32
  ![v19.toNat, v32.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8192x4096 : Shape := ⟨2, ![8192, 4096]⟩
abbrev S1x4096x22016 : Shape := ⟨3, ![1, 4096, 22016]⟩
abbrev S1x3x22016 : Shape := ⟨3, ![1, 3, 22016]⟩
abbrev S1x22016 : Shape := ⟨2, ![1, 22016]⟩
abbrev S4096x22016 : Shape := ⟨2, ![4096, 22016]⟩
abbrev S8192x22016 : Shape := ⟨2, ![8192, 22016]⟩
abbrev S_ : Shape := ⟨0, ![]⟩
abbrev S8194x22016 : Shape := ⟨2, ![8194, 22016]⟩
abbrev S22016 : Shape := ⟨1, ![22016]⟩
abbrev S3x22016 : Shape := ⟨2, ![3, 22016]⟩
abbrev S8192x11008 : Shape := ⟨2, ![8192, 11008]⟩

abbrev nBuf : Space → Nat
  | .hbm => 50
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x22016, .f32⟩
  | .hbm, ⟨2, _⟩ => ⟨S1x3x22016, .f32⟩
  | .hbm, ⟨3, _⟩ => ⟨S1x22016, .f32⟩
  | .hbm, ⟨4, _⟩ => ⟨S8192x4096, .f32⟩
  | .hbm, ⟨5, _⟩ => ⟨S4096x22016, .f32⟩
  | .hbm, ⟨6, _⟩ => ⟨S8192x22016, .f32⟩
  | .hbm, ⟨7, _⟩ => ⟨S_, .i32⟩
  | .hbm, ⟨8, _⟩ => ⟨S_, .f32⟩
  | .hbm, ⟨9, _⟩ => ⟨S8194x22016, .f32⟩
  | .hbm, ⟨10, _⟩ => ⟨S22016, .f32⟩
  | .hbm, ⟨11, _⟩ => ⟨S3x22016, .f32⟩
  | .hbm, ⟨12, _⟩ => ⟨S1x22016, .f32⟩
  | .hbm, ⟨13, _⟩ => ⟨S22016, .f32⟩
  | .hbm, ⟨14, _⟩ => ⟨S8192x22016, .f32⟩
  | .hbm, ⟨15, _⟩ => ⟨S1x22016, .f32⟩
  | .hbm, ⟨16, _⟩ => ⟨S8192x22016, .f32⟩
  | .hbm, ⟨17, _⟩ => ⟨S8192x22016, .f32⟩
  | .hbm, ⟨18, _⟩ => ⟨S1x22016, .f32⟩
  | .hbm, ⟨19, _⟩ => ⟨S8192x22016, .f32⟩
  | .hbm, ⟨20, _⟩ => ⟨S8192x22016, .f32⟩
  | .hbm, ⟨21, _⟩ => ⟨S3x22016, .f32⟩
  | .hbm, ⟨22, _⟩ => ⟨S1x22016, .f32⟩
  | .hbm, ⟨23, _⟩ => ⟨S22016, .f32⟩
  | .hbm, ⟨24, _⟩ => ⟨S8192x22016, .f32⟩
  | .hbm, ⟨25, _⟩ => ⟨S1x22016, .f32⟩
  | .hbm, ⟨26, _⟩ => ⟨S8192x22016, .f32⟩
  | .hbm, ⟨27, _⟩ => ⟨S8192x22016, .f32⟩
  | .hbm, ⟨28, _⟩ => ⟨S8192x22016, .f32⟩
  | .hbm, ⟨29, _⟩ => ⟨S3x22016, .f32⟩
  | .hbm, ⟨30, _⟩ => ⟨S1x22016, .f32⟩
  | .hbm, ⟨31, _⟩ => ⟨S22016, .f32⟩
  | .hbm, ⟨32, _⟩ => ⟨S8192x22016, .f32⟩
  | .hbm, ⟨33, _⟩ => ⟨S1x22016, .f32⟩
  | .hbm, ⟨34, _⟩ => ⟨S8192x22016, .f32⟩
  | .hbm, ⟨35, _⟩ => ⟨S8192x22016, .f32⟩
  | .hbm, ⟨36, _⟩ => ⟨S8192x22016, .f32⟩
  | .hbm, ⟨37, _⟩ => ⟨S8192x11008, .f32⟩
  | .hbm, ⟨38, _⟩ => ⟨S8192x11008, .f32⟩
  | .hbm, ⟨39, _⟩ => ⟨S8192x11008, .f32⟩
  | .hbm, ⟨40, _⟩ => ⟨S8192x11008, .f32⟩
  | .hbm, ⟨41, _⟩ => ⟨S_, .f32⟩
  | .hbm, ⟨42, _⟩ => ⟨S8192x11008, .f32⟩
  | .hbm, ⟨43, _⟩ => ⟨S8192x11008, .f32⟩
  | .hbm, ⟨44, _⟩ => ⟨S_, .f32⟩
  | .hbm, ⟨45, _⟩ => ⟨S8192x11008, .f32⟩
  | .hbm, ⟨46, _⟩ => ⟨S8192x11008, .f32⟩
  | .hbm, ⟨47, _⟩ => ⟨S8192x11008, .f32⟩
  | .hbm, ⟨48, _⟩ => ⟨S8192x11008, .f32⟩
  | .hbm, ⟨49, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel5.lean ====
abbrev S8192x2048 : Shape := ⟨2, ![8192, 2048]⟩
abbrev S1x2048x4096 : Shape := ⟨3, ![1, 2048, 4096]⟩
abbrev S8192x14336 : Shape := ⟨2, ![8192, 14336]⟩
abbrev S1x11008x4096 : Shape := ⟨3, ![1, 11008, 4096]⟩
abbrev S2048x4096 : Shape := ⟨2, ![2048, 4096]⟩
abbrev S11008x4096 : Shape := ⟨2, ![11008, 4096]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩
abbrev S256x4096 : Shape := ⟨2, ![256, 4096]⟩
abbrev S2048x256 : Shape := ⟨2, ![2048, 256]⟩
abbrev S1024x256 : Shape := ⟨2, ![1024, 256]⟩

abbrev nBuf : Space → Nat
  | .hbm => 13
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x2048x4096, .f32⟩
  | .hbm, ⟨3, _⟩ => ⟨S1x2048x4096, .f32⟩
  | .hbm, ⟨4, _⟩ => ⟨S8192x14336, .bf16⟩
  | .hbm, ⟨5, _⟩ => ⟨S1x11008x4096, .f32⟩
  | .hbm, ⟨6, _⟩ => ⟨S2048x4096, .f32⟩
  | .hbm, ⟨7, _⟩ => ⟨S2048x4096, .bf16⟩
  | .hbm, ⟨8, _⟩ => ⟨S2048x4096, .f32⟩
  | .hbm, ⟨9, _⟩ => ⟨S2048x4096, .bf16⟩
  | .hbm, ⟨10, _⟩ => ⟨S11008x4096, .f32⟩
  | .hbm, ⟨11, _⟩ => ⟨S8192x4096, .bf16⟩
  | .hbm, ⟨12, _⟩ => ⟨S11008x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S256x4096, .f32⟩
  | .local _ .vmem, ⟨13, _⟩ => ⟨S256x4096, .f32⟩
  | .local _ .vmem, ⟨14, _⟩ => ⟨S1024x512, .bf16⟩
  | .local _ .vmem, ⟨15, _⟩ => ⟨S1024x512, .bf16⟩
  | .local _ .vmem, ⟨16, _⟩ => ⟨S256x4096, .bf16⟩
  | .local _ .vmem, ⟨17, _⟩ => ⟨S256x4096, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32 : BitVec 32 := 0#32
  let v2 : BitVec 1 := Scalar.cmpi .sge v1 c0_i32
  let c43_i32 : BitVec 32 := 43#32
  let v3 : BitVec 1 := Scalar.cmpi .slt v1 c43_i32
  let v4 : BitVec 1 := Scalar.andi v2 v3
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let v2 : BitVec 32 := Scalar.subi v1 c0_i32
  let c0_i32_0 : BitVec 32 := 0#32
  let c42_i32 : BitVec 32 := 42#32
  let v3 : BitVec 32 := Scalar.maxsi c0_i32_0 v2
  let v4 : BitVec 32 := Scalar.minsi c42_i32 v3
  let c0_i32_1 : BitVec 32 := 0#32
  let c0_i32_2 : BitVec 32 := 0#32
  ![v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let v2 : BitVec 32 := Scalar.subi v1 c0_i32
  let c0_i32_0 : BitVec 32 := 0#32
  let c42_i32 : BitVec 32 := 42#32
  let v3 : BitVec 32 := Scalar.maxsi c0_i32_0 v2
  let v4 : BitVec 32 := Scalar.minsi c42_i32 v3
  let c0_i32_1 : BitVec 32 := 0#32
  let c0_i32_2 : BitVec 32 := 0#32
  ![v4.toNat, c0_i32_1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S8192x2048 : Shape := ⟨2, ![8192, 2048]⟩
abbrev S1x2048x4096 : Shape := ⟨3, ![1, 2048, 4096]⟩
abbrev S8192x14336 : Shape := ⟨2, ![8192, 14336]⟩
abbrev S1x11008x4096 : Shape := ⟨3, ![1, 11008, 4096]⟩
abbrev S8192x4096 : Shape := ⟨2, ![8192, 4096]⟩
abbrev S2048x4096 : Shape := ⟨2, ![2048, 4096]⟩
abbrev S11008x4096 : Shape := ⟨2, ![11008, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x2048x4096, .f32⟩
  | .hbm, ⟨3, _⟩ => ⟨S1x2048x4096, .f32⟩
  | .hbm, ⟨4, _⟩ => ⟨S8192x14336, .bf16⟩
  | .hbm, ⟨5, _⟩ => ⟨S1x11008x4096, .f32⟩
  | .hbm, ⟨6, _⟩ => ⟨S8192x4096, .bf16⟩
  | .hbm, ⟨7, _⟩ => ⟨S8192x4096, .f32⟩
  | .hbm, ⟨8, _⟩ => ⟨S8192x4096, .bf16⟩
  | .hbm, ⟨9, _⟩ => ⟨S8192x4096, .f32⟩
  | .hbm, ⟨10, _⟩ => ⟨S8192x2048, .f32⟩
  | .hbm, ⟨11, _⟩ => ⟨S2048x4096, .f32⟩
  | .hbm, ⟨12, _⟩ => ⟨S8192x4096, .f32⟩
  | .hbm, ⟨13, _⟩ => ⟨S8192x4096, .f32⟩
  | .hbm, ⟨14, _⟩ => ⟨S8192x2048, .f32⟩
  | .hbm, ⟨15, _⟩ => ⟨S2048x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .bf16⟩
  | .hbm, ⟨20, _⟩ => ⟨S11008x4096, .f32⟩
  | .hbm, ⟨21, _⟩ => ⟨S11008x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel6.lean ====
abbrev S8192x4096 : Shape := ⟨2, ![8192, 4096]⟩
abbrev S1x4096x4096 : Shape := ⟨3, ![1, 4096, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩
abbrev S128x4096 : Shape := ⟨2, ![128, 4096]⟩
abbrev S1024x256 : Shape := ⟨2, ![1024, 256]⟩
abbrev S4096x256 : Shape := ⟨2, ![4096, 256]⟩

abbrev nBuf : Space → Nat
  | .hbm => 9
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S1x4096x4096, .f32⟩
  | .hbm, ⟨4, _⟩ => ⟨S4096x4096, .f32⟩
  | .hbm, ⟨5, _⟩ => ⟨S4096x4096, .bf16⟩
  | .hbm, ⟨6, _⟩ => ⟨S4096x4096, .f32⟩
  | .hbm, ⟨7, _⟩ => ⟨S8192x4096, .f32⟩
  | .hbm, ⟨8, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S128x4096, .f32⟩
  | .local _ .vmem, ⟨7, _⟩ => ⟨S128x4096, .f32⟩
  | .local _ .vmem, ⟨8, _⟩ => ⟨S1024x512, .f32⟩
  | .local _ .vmem, ⟨9, _⟩ => ⟨S1024x512, .f32⟩
  | .local _ .vmem, ⟨10, _⟩ => ⟨S128x4096, .bf16⟩
  | .local _ .vmem, ⟨11, _⟩ => ⟨S128x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32 : BitVec 32 := 0#32
  let v2 : BitVec 1 := Scalar.cmpi .sge v1 c0_i32
  let c32_i32 : BitVec 32 := 32#32
  let v3 : BitVec 1 := Scalar.cmpi .slt v1 c32_i32
  let v4 : BitVec 1 := Scalar.andi v2 v3
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let v2 : BitVec 32 := Scalar.subi v1 c0_i32
  let c0_i32_0 : BitVec 32 := 0#32
  let c31_i32 : BitVec 32 := 31#32
  let v3 : BitVec 32 := Scalar.maxsi c0_i32_0 v2
  let v4 : BitVec 32 := Scalar.minsi c31_i32 v3
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let v2 : BitVec 32 := Scalar.subi v1 c0_i32
  let c0_i32_0 : BitVec 32 := 0#32
  let c31_i32 : BitVec 32 := 31#32
  let v3 : BitVec 32 := Scalar.maxsi c0_i32_0 v2
  let v4 : BitVec 32 := Scalar.minsi c31_i32 v3
  let c0_i32_1 : BitVec 32 := 0#32
  let c0_i32_2 : BitVec 32 := 0#32
  ![v4.toNat, c0_i32_1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S1x4096x4096, .f32⟩
  | .hbm, ⟨4, _⟩ => ⟨S8192x4096, .f32⟩
  | .hbm, ⟨5, _⟩ => ⟨S4096x4096, .f32⟩
  | .hbm, ⟨6, _⟩ => ⟨S8192x4096, .f32⟩
  | .hbm, ⟨7, _⟩ => ⟨S8192x4096, .f32⟩
  | .hbm, ⟨8, _⟩ => ⟨S4096x4096, .f32⟩
  | .hbm, ⟨9, _⟩ => ⟨S4096x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S8192x4096 : Shape := ⟨2, ![8192, 4096]⟩
abbrev S1x4096x20496 : Shape := ⟨3, ![1, 4096, 20496]⟩
abbrev S1x128 : Shape := ⟨2, ![1, 128]⟩
abbrev S4096x20496 : Shape := ⟨2, ![4096, 20496]⟩
abbrev S20496x4096 : Shape := ⟨2, ![20496, 4096]⟩
abbrev S8192x6144 : Shape := ⟨2, ![8192, 6144]⟩
abbrev S2048x4096 : Shape := ⟨2, ![2048, 4096]⟩
abbrev S512x4096 : Shape := ⟨2, ![512, 4096]⟩
abbrev S2048x512 : Shape := ⟨2, ![2048, 512]⟩
abbrev S4096x512 : Shape := ⟨2, ![4096, 512]⟩
abbrev S512x256 : Shape := ⟨2, ![512, 256]⟩
abbrev S256x256 : Shape := ⟨2, ![256, 256]⟩
abbrev S256x512 : Shape := ⟨2, ![256, 512]⟩
abbrev S512x128 : Shape := ⟨2, ![512, 128]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S1x4096x20496, .f32⟩
  | .hbm, ⟨2, _⟩ => ⟨S1x128, .f32⟩
  | .hbm, ⟨3, _⟩ => ⟨S1x128, .f32⟩
  | .hbm, ⟨4, _⟩ => ⟨S4096x20496, .f32⟩
  | .hbm, ⟨5, _⟩ => ⟨S20496x4096, .f32⟩
  | .hbm, ⟨6, _⟩ => ⟨S8192x6144, .bf16⟩
  | .local _ .vmem, ⟨0, _⟩ => ⟨S2048x4096, .bf16⟩
  | .local _ .vmem, ⟨1, _⟩ => ⟨S512x4096, .f32⟩
  | .local _ .vmem, ⟨2, _⟩ => ⟨S512x4096, .f32⟩
  | .local _ .vmem, ⟨3, _⟩ => ⟨S1x128, .f32⟩
  | .local _ .vmem, ⟨4, _⟩ => ⟨S1x128, .f32⟩
  | .local _ .vmem, ⟨5, _⟩ => ⟨S2048x512, .bf16⟩
  | .local _ .vmem, ⟨6, _⟩ => ⟨S2048x512, .bf16⟩
  | .local _ .vmem, ⟨7, _⟩ => ⟨S4096x512, .bf16⟩
  | .local _ .vmem, ⟨8, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![49], ![false]⟩

def k0_mult1 (i : grid0.Coords) : BitVec 32 :=
  let c0_i32_3 : BitVec 32 := 0#32
  let arg0 : BitVec 32 := BitVec.ofNat 32 (i 0).val
  let c47_i32 : BitVec 32 := 47#32
  let v0 : BitVec 32 := Scalar.minsi arg0 c47_i32
  let c12_i32 : BitVec 32 := 12#32
  let c0_i32 : BitVec 32 := 0#32
  let v1 : BitVec 1 := Scalar.cmpi .eq c12_i32 c0_i32
  let c1_i32 : BitVec 32 := 1#32
  let v2 : BitVec 32 := Scalar.select v1 c1_i32 c12_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c512_i32 : BitVec 32 := 512#32
  let v11 : BitVec 32 := Scalar.muli v10 c512_i32
  let v12 : BitVec 32 := Scalar.addi c0_i32_3 v11
  v12
def k0_cond2 (i : grid0.Coords) : BitVec 1 :=
  let c47_i32 : BitVec 32 := 47#32
  let c0_i32 : BitVec 32 := 0#32
  let arg0 : BitVec 32 := BitVec.ofNat 32 (i 0).val
  let c1_i32 : BitVec 32 := 1#32
  let v0 : BitVec 32 := Scalar.subi arg0 c1_i32
  let v1 : BitVec 32 := Scalar.maxsi c0_i32 v0
  let v2 : BitVec 32 := Scalar.minsi c47_i32 v1
  let c12_i32 : BitVec 32 := 12#32
  let c0_i32_0 : BitVec 32 := 0#32
  let v3 : BitVec 1 := Scalar.cmpi .eq c12_i32 c0_i32_0
  let c1_i32_1 : BitVec 32 := 1#32
  let v4 : BitVec 32 := Scalar.select v3 c1_i32_1 c12_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_7 : BitVec 32 := 0#32
  let v16 : BitVec 1 := Scalar.cmpi .sge v12 c0_i32_7
  let c4_i32 : BitVec 32 := 4#32
  let v17 : BitVec 1 := Scalar.cmpi .slt v12 c4_i32
  let v18 : BitVec 1 := Scalar.andi v16 v17
  let c2_i32 : BitVec 32 := 2#32
  let c0_i32_8 : BitVec 32 := 0#32
  let v19 : BitVec 1 := Scalar.cmpi .eq c2_i32 c0_i32_8
  let c1_i32_9 : BitVec 32 := 1#32
  let v20 : BitVec 32 := Scalar.select v19 c1_i32_9 c2_i32
  let v21 : BitVec 32 := Scalar.remsi arg0 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let c0_i32_13 : BitVec 32 := 0#32
  let v29 : BitVec 1 := Scalar.cmpi .eq v28 c0_i32_13
  let v30 : BitVec 1 := Scalar.andi v18 v29
  let v31 : BitVec 32 := Scalar.extui v30
  let c0_i32_14 : BitVec 32 := 0#32
  let v32 : BitVec 1 := Scalar.cmpi .ne v31 c0_i32_14
  v32

def k0_cond3 (i : grid0.Coords) : BitVec 1 :=
  let c47_i32 : BitVec 32 := 47#32
  let c0_i32 : BitVec 32 := 0#32
  let arg0 : BitVec 32 := BitVec.ofNat 32 (i 0).val
  let c1_i32 : BitVec 32 := 1#32
  let v0 : BitVec 32 := Scalar.subi arg0 c1_i32
  let v1 : BitVec 32 := Scalar.maxsi c0_i32 v0
  let v2 : BitVec 32 := Scalar.minsi c47_i32 v1
  let c12_i32 : BitVec 32 := 12#32
  let c0_i32_0 : BitVec 32 := 0#32
  let v3 : BitVec 1 := Scalar.cmpi .eq c12_i32 c0_i32_0
  let c1_i32_1 : BitVec 32 := 1#32
  let v4 : BitVec 32 := Scalar.select v3 c1_i32_1 c12_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_15 : BitVec 32 := 0#32
  let v33 : BitVec 1 := Scalar.cmpi .sge v12 c0_i32_15
  let c4_i32_16 : BitVec 32 := 4#32
  let v34 : BitVec 1 := Scalar.cmpi .slt v12 c4_i32_16
  let v35 : BitVec 1 := Scalar.andi v33 v34
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi arg0 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c1_i32_23 : BitVec 32 := 1#32
  let v46 : BitVec 1 := Scalar.cmpi .eq v45 c1_i32_23
  let v47 : BitVec 1 := Scalar.andi v35 v46
  let v48 : BitVec 32 := Scalar.extui v47
  let c0_i32_24 : BitVec 32 := 0#32
  let v49 : BitVec 1 := Scalar.cmpi .ne v48 c0_i32_24
  v49

def k0_cond4 (i : grid0.Coords) : BitVec 1 :=
  let c47_i32 : BitVec 32 := 47#32
  let c0_i32 : BitVec 32 := 0#32
  let arg0 : BitVec 32 := BitVec.ofNat 32 (i 0).val
  let c1_i32 : BitVec 32 := 1#32
  let v0 : BitVec 32 := Scalar.subi arg0 c1_i32
  let v1 : BitVec 32 := Scalar.maxsi c0_i32 v0
  let v2 : BitVec 32 := Scalar.minsi c47_i32 v1
  let c12_i32 : BitVec 32 := 12#32
  let c0_i32_0 : BitVec 32 := 0#32
  let v3 : BitVec 1 := Scalar.cmpi .eq c12_i32 c0_i32_0
  let c1_i32_1 : BitVec 32 := 1#32
  let v4 : BitVec 32 := Scalar.select v3 c1_i32_1 c12_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32_25 : BitVec 32 := 4#32
  let v50 : BitVec 1 := Scalar.cmpi .sge v12 c4_i32_25
  let c8_i32 : BitVec 32 := 8#32
  let v51 : BitVec 1 := Scalar.cmpi .slt v12 c8_i32
  let v52 : BitVec 1 := Scalar.andi v50 v51
  let c2_i32_26 : BitVec 32 := 2#32
  let c0_i32_27 : BitVec 32 := 0#32
  let v53 : BitVec 1 := Scalar.cmpi .eq c2_i32_26 c0_i32_27
  let c1_i32_28 : BitVec 32 := 1#32
  let v54 : BitVec 32 := Scalar.select v53 c1_i32_28 c2_i32_26
  let v55 : BitVec 32 := Scalar.remsi arg0 v54
  let c0_i32_30 : BitVec 32 := 0#32
  let v57 : BitVec 1 := Scalar.cmpi .slt v55 c0_i32_30
  let c0_i32_31 : BitVec 32 := 0#32
  let v58 : BitVec 1 := Scalar.cmpi .slt v54 c0_i32_31
  let v59 : BitVec 1 := Scalar.xori v57 v58
  let c0_i32_29 : BitVec 32 := 0#32
  let v56 : BitVec 1 := Scalar.cmpi .ne v55 c0_i32_29
  let v60 : BitVec 1 := Scalar.andi v59 v56
  let v61 : BitVec 32 := Scalar.addi v55 v54
  let v62 : BitVec 32 := Scalar.select v60 v61 v55
  let c0_i32_32 : BitVec 32 := 0#32
  let v63 : BitVec 1 := Scalar.cmpi .eq v62 c0_i32_32
  let v64 : BitVec 1 := Scalar.andi v52 v63
  let v65 : BitVec 32 := Scalar.extui v64
  let c0_i32_33 : BitVec 32 := 0#32
  let v66 : BitVec 1 := Scalar.cmpi .ne v65 c0_i32_33
  v66

def k0_cond5 (i : grid0.Coords) : BitVec 1 :=
  let c47_i32 : BitVec 32 := 47#32
  let c0_i32 : BitVec 32 := 0#32
  let arg0 : BitVec 32 := BitVec.ofNat 32 (i 0).val
  let c1_i32 : BitVec 32 := 1#32
  let v0 : BitVec 32 := Scalar.subi arg0 c1_i32
  let v1 : BitVec 32 := Scalar.maxsi c0_i32 v0
  let v2 : BitVec 32 := Scalar.minsi c47_i32 v1
  let c12_i32 : BitVec 32 := 12#32
  let c0_i32_0 : BitVec 32 := 0#32
  let v3 : BitVec 1 := Scalar.cmpi .eq c12_i32 c0_i32_0
  let c1_i32_1 : BitVec 32 := 1#32
  let v4 : BitVec 32 := Scalar.select v3 c1_i32_1 c12_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32_34 : BitVec 32 := 4#32
  let v67 : BitVec 1 := Scalar.cmpi .sge v12 c4_i32_34
  let c8_i32_35 : BitVec 32 := 8#32
  let v68 : BitVec 1 := Scalar.cmpi .slt v12 c8_i32_35
  let v69 : BitVec 1 := Scalar.andi v67 v68
  let c2_i32_36 : BitVec 32 := 2#32
  let c0_i32_37 : BitVec 32 := 0#32
  let v70 : BitVec 1 := Scalar.cmpi .eq c2_i32_36 c0_i32_37
  let c1_i32_38 : BitVec 32 := 1#32
  let v71 : BitVec 32 := Scalar.select v70 c1_i32_38 c2_i32_36
  let v72 : BitVec 32 := Scalar.remsi arg0 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c1_i32_42 : BitVec 32 := 1#32
  let v80 : BitVec 1 := Scalar.cmpi .eq v79 c1_i32_42
  let v81 : BitVec 1 := Scalar.andi v69 v80
  let v82 : BitVec 32 := Scalar.extui v81
  let c0_i32_43 : BitVec 32 := 0#32
  let v83 : BitVec 1 := Scalar.cmpi .ne v82 c0_i32_43
  v83

def k0_cond6 (i : grid0.Coords) : BitVec 1 :=
  let c47_i32 : BitVec 32 := 47#32
  let c0_i32 : BitVec 32 := 0#32
  let arg0 : BitVec 32 := BitVec.ofNat 32 (i 0).val
  let c1_i32 : BitVec 32 := 1#32
  let v0 : BitVec 32 := Scalar.subi arg0 c1_i32
  let v1 : BitVec 32 := Scalar.maxsi c0_i32 v0
  let v2 : BitVec 32 := Scalar.minsi c47_i32 v1
  let c12_i32 : BitVec 32 := 12#32
  let c0_i32_0 : BitVec 32 := 0#32
  let v3 : BitVec 1 := Scalar.cmpi .eq c12_i32 c0_i32_0
  let c1_i32_1 : BitVec 32 := 1#32
  let v4 : BitVec 32 := Scalar.select v3 c1_i32_1 c12_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c8_i32_44 : BitVec 32 := 8#32
  let v84 : BitVec 1 := Scalar.cmpi .sge v12 c8_i32_44
  let c12_i32_45 : BitVec 32 := 12#32
  let v85 : BitVec 1 := Scalar.cmpi .slt v12 c12_i32_45
  let v86 : BitVec 1 := Scalar.andi v84 v85
  let c2_i32_46 : BitVec 32 := 2#32
  let c0_i32_47 : BitVec 32 := 0#32
  let v87 : BitVec 1 := Scalar.cmpi .eq c2_i32_46 c0_i32_47
  let c1_i32_48 : BitVec 32 := 1#32
  let v88 : BitVec 32 := Scalar.select v87 c1_i32_48 c2_i32_46
  let v89 : BitVec 32 := Scalar.remsi arg0 v88
  let c0_i32_50 : BitVec 32 := 0#32
  let v91 : BitVec 1 := Scalar.cmpi .slt v89 c0_i32_50
  let c0_i32_51 : BitVec 32 := 0#32
  let v92 : BitVec 1 := Scalar.cmpi .slt v88 c0_i32_51
  let v93 : BitVec 1 := Scalar.xori v91 v92
  let c0_i32_49 : BitVec 32 := 0#32
  let v90 : BitVec 1 := Scalar.cmpi .ne v89 c0_i32_49
  let v94 : BitVec 1 := Scalar.andi v93 v90
  let v95 : BitVec 32 := Scalar.addi v89 v88
  let v96 : BitVec 32 := Scalar.select v94 v95 v89
  let c0_i32_52 : BitVec 32 := 0#32
  let v97 : BitVec 1 := Scalar.cmpi .eq v96 c0_i32_52
  let v98 : BitVec 1 := Scalar.andi v86 v97
  let v99 : BitVec 32 := Scalar.extui v98
  let c0_i32_53 : BitVec 32 := 0#32
  let v100 : BitVec 1 := Scalar.cmpi .ne v99 c0_i32_53
  v100

def k0_cond7 (i : grid0.Coords) : BitVec 1 :=
  let c47_i32 : BitVec 32 := 47#32
  let c0_i32 : BitVec 32 := 0#32
  let arg0 : BitVec 32 := BitVec.ofNat 32 (i 0).val
  let c1_i32 : BitVec 32 := 1#32
  let v0 : BitVec 32 := Scalar.subi arg0 c1_i32
  let v1 : BitVec 32 := Scalar.maxsi c0_i32 v0
  let v2 : BitVec 32 := Scalar.minsi c47_i32 v1
  let c12_i32 : BitVec 32 := 12#32
  let c0_i32_0 : BitVec 32 := 0#32
  let v3 : BitVec 1 := Scalar.cmpi .eq c12_i32 c0_i32_0
  let c1_i32_1 : BitVec 32 := 1#32
  let v4 : BitVec 32 := Scalar.select v3 c1_i32_1 c12_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c8_i32_54 : BitVec 32 := 8#32
  let v101 : BitVec 1 := Scalar.cmpi .sge v12 c8_i32_54
  let c12_i32_55 : BitVec 32 := 12#32
  let v102 : BitVec 1 := Scalar.cmpi .slt v12 c12_i32_55
  let v103 : BitVec 1 := Scalar.andi v101 v102
  let c2_i32_56 : BitVec 32 := 2#32
  let c0_i32_57 : BitVec 32 := 0#32
  let v104 : BitVec 1 := Scalar.cmpi .eq c2_i32_56 c0_i32_57
  let c1_i32_58 : BitVec 32 := 1#32
  let v105 : BitVec 32 := Scalar.select v104 c1_i32_58 c2_i32_56
  let v106 : BitVec 32 := Scalar.remsi arg0 v105
  let c0_i32_60 : BitVec 32 := 0#32
  let v108 : BitVec 1 := Scalar.cmpi .slt v106 c0_i32_60
  let c0_i32_61 : BitVec 32 := 0#32
  let v109 : BitVec 1 := Scalar.cmpi .slt v105 c0_i32_61
  let v110 : BitVec 1 := Scalar.xori v108 v109
  let c0_i32_59 : BitVec 32 := 0#32
  let v107 : BitVec 1 := Scalar.cmpi .ne v106 c0_i32_59
  let v111 : BitVec 1 := Scalar.andi v110 v107
  let v112 : BitVec 32 := Scalar.addi v106 v105
  let v113 : BitVec 32 := Scalar.select v111 v112 v106
  let c1_i32_62 : BitVec 32 := 1#32
  let v114 : BitVec 1 := Scalar.cmpi .eq v113 c1_i32_62
  let v115 : BitVec 1 := Scalar.andi v103 v114
  let v116 : BitVec 32 := Scalar.extui v115
  let c0_i32_63 : BitVec 32 := 0#32
  let v117 : BitVec 1 := Scalar.cmpi .ne v116 c0_i32_63
  v117

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c47_i32 : BitVec 32 := 47#32
  let v1 : BitVec 32 := Scalar.maxsi c0_i32 v0
  let v2 : BitVec 32 := Scalar.minsi c47_i32 v1
  let c12_i32 : BitVec 32 := 12#32
  let v3 : BitVec 32 := Scalar.divsi v2 c12_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c12_i32 c0_i32_2
  let v10 : BitVec 32 := Scalar.extui v9
  let c0_i32_3 : BitVec 32 := 0#32
  let v11 : BitVec 1 := Scalar.cmpi .slt c12_i32 c0_i32_3
  let v12 : BitVec 32 := Scalar.extui v11
  let v13 : BitVec 32 := Scalar.subi v10 v12
  let v14 : BitVec 1 := Scalar.cmpi .ne v8 v13
  let v15 : BitVec 32 := Scalar.remsi v2 c12_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let c0_i32_7 : BitVec 32 := 0#32
  ![v19.toNat, c0_i32_6.toNat]

def cc0_transform_1 (i : grid0.Coords) : Fin 2 → Nat :=
  let arg0 : BitVec 32 := BitVec.ofNat 32 (i 0).val
  let c47_i32 : BitVec 32 := 47#32
  let v0 : BitVec 32 := Scalar.minsi arg0 c47_i32
  let c12_i32 : BitVec 32 := 12#32
  let c0_i32 : BitVec 32 := 0#32
  let v1 : BitVec 1 := Scalar.cmpi .eq c12_i32 c0_i32
  let c1_i32 : BitVec 32 := 1#32
  let v2 : BitVec 32 := Scalar.select v1 c1_i32 c12_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c512_i32 : BitVec 32 := 512#32
  let v11 : BitVec 32 := Scalar.muli v10 c512_i32
  let c0_i32_3 : BitVec 32 := 0#32
  let v12 : BitVec 32 := Scalar.addi c0_i32_3 v11
  let v13 : BitVec 32 := v12
  let c0_i32_4 : BitVec 32 := 0#32
  let c0_i32_5 : BitVec 32 := 0#32
  ![v13.toNat, c0_i32_4.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c47_i32 : BitVec 32 := 47#32
  let v1 : BitVec 32 := Scalar.maxsi c0_i32 v0
  let v2 : BitVec 32 := Scalar.minsi c47_i32 v1
  let c12_i32 : BitVec 32 := 12#32
  let v3 : BitVec 32 := Scalar.divsi v2 c12_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c12_i32 c0_i32_2
  let v10 : BitVec 32 := Scalar.extui v9
  let c0_i32_3 : BitVec 32 := 0#32
  let v11 : BitVec 1 := Scalar.cmpi .slt c12_i32 c0_i32_3
  let v12 : BitVec 32 := Scalar.extui v11
  let v13 : BitVec 32 := Scalar.subi v10 v12
  let v14 : BitVec 1 := Scalar.cmpi .ne v8 v13
  let v15 : BitVec 32 := Scalar.remsi v2 c12_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.subi arg0 c1_i32_6
  let c0_i32_7 : BitVec 32 := 0#32
  let c47_i32_8 : BitVec 32 := 47#32
  let v21 : BitVec 32 := Scalar.maxsi c0_i32_7 v20
  let v22 : BitVec 32 := Scalar.minsi c47_i32_8 v21
  let c12_i32_9 : BitVec 32 := 12#32
  let c0_i32_10 : BitVec 32 := 0#32
  let v23 : BitVec 1 := Scalar.cmpi .eq c12_i32_9 c0_i32_10
  let c1_i32_11 : BitVec 32 := 1#32
  let v24 : BitVec 32 := Scalar.select v23 c1_i32_11 c12_i32_9
  let v25 : BitVec 32 := Scalar.remsi v22 v24
  let c0_i32_12 : BitVec 32 := 0#32
  let v26 : BitVec 1 := Scalar.cmpi .ne v25 c0_i32_12
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let v30 : BitVec 1 := Scalar.andi v29 v26
  let v31 : BitVec 32 := Scalar.addi v25 v24
  let v32 : BitVec 32 := Scalar.select v30 v31 v25
  let c0_i32_15 : BitVec 32 := 0#32
  ![v19.toNat, v32.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel7Ideal.lean ====
variable {F : FTy → Type} [FloatOps F] [Named F]
def κ : String → Option EReal := fun
  | "q_scale" => some (((Real.sqrt 128)⁻¹ * (Real.log 2)⁻¹ : ℝ) : EReal)
  | _ => none
-- ==== Reference7Ideal.lean ====
abbrev S8192x4096 : Shape := ⟨2, ![8192, 4096]⟩
abbrev S1x4096x20496 : Shape := ⟨3, ![1, 4096, 20496]⟩
abbrev S1x128 : Shape := ⟨2, ![1, 128]⟩
abbrev S4096x20496 : Shape := ⟨2, ![4096, 20496]⟩
abbrev S8192x20496 : Shape := ⟨2, ![8192, 20496]⟩
abbrev S8192x2048 : Shape := ⟨2, ![8192, 2048]⟩
abbrev S8192x16x128 : Shape := ⟨3, ![8192, 16, 128]⟩
abbrev S_ : Shape := ⟨0, ![]⟩
abbrev S8192x16 : Shape := ⟨2, ![8192, 16]⟩
abbrev S8192x16x1 : Shape := ⟨3, ![8192, 16, 1]⟩
abbrev S128 : Shape := ⟨1, ![128]⟩
abbrev S1x1x128 : Shape := ⟨3, ![1, 1, 128]⟩
abbrev S8192x6144 : Shape := ⟨2, ![8192, 6144]⟩

abbrev nBuf : Space → Nat
  | .hbm => 58
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x20496, .f32⟩
  | .hbm, ⟨2, _⟩ => ⟨S1x128, .f32⟩
  | .hbm, ⟨3, _⟩ => ⟨S1x128, .f32⟩
  | .hbm, ⟨4, _⟩ => ⟨S8192x4096, .f32⟩
  | .hbm, ⟨5, _⟩ => ⟨S4096x20496, .f32⟩
  | .hbm, ⟨6, _⟩ => ⟨S8192x20496, .f32⟩
  | .hbm, ⟨7, _⟩ => ⟨S8192x2048, .f32⟩
  | .hbm, ⟨8, _⟩ => ⟨S8192x16x128, .f32⟩
  | .hbm, ⟨9, _⟩ => ⟨S8192x16x128, .f32⟩
  | .hbm, ⟨10, _⟩ => ⟨S_, .f32⟩
  | .hbm, ⟨11, _⟩ => ⟨S8192x16, .f32⟩
  | .hbm, ⟨12, _⟩ => ⟨S8192x16x1, .f32⟩
  | .hbm, ⟨13, _⟩ => ⟨S_, .f32⟩
  | .hbm, ⟨14, _⟩ => ⟨S8192x16x1, .f32⟩
  | .hbm, ⟨15, _⟩ => ⟨S8192x16x1, .f32⟩
  | .hbm, ⟨16, _⟩ => ⟨S_, .f32⟩
  | .hbm, ⟨17, _⟩ => ⟨S8192x16x1, .f32⟩
  | .hbm, ⟨18, _⟩ => ⟨S8192x16x1, .f32⟩
  | .hbm, ⟨19, _⟩ => ⟨S8192x16x1, .f32⟩
  | .hbm, ⟨20, _⟩ => ⟨S8192x16x128, .f32⟩
  | .hbm, ⟨21, _⟩ => ⟨S8192x16x128, .f32⟩
  | .hbm, ⟨22, _⟩ => ⟨S128, .f32⟩
  | .hbm, ⟨23, _⟩ => ⟨S1x1x128, .f32⟩
  | .hbm, ⟨24, _⟩ => ⟨S8192x16x128, .f32⟩
  | .hbm, ⟨25, _⟩ => ⟨S8192x16x128, .f32⟩
  | .hbm, ⟨26, _⟩ => ⟨S8192x2048, .f32⟩
  | .hbm, ⟨27, _⟩ => ⟨S_, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x16x128, .f32⟩
  | .hbm, ⟨37, _⟩ => ⟨S8192x16x128, .f32⟩
  | .hbm, ⟨38, _⟩ => ⟨S_, .f32⟩
  | .hbm, ⟨39, _⟩ => ⟨S8192x16, .f32⟩
  | .hbm, ⟨40, _⟩ => ⟨S8192x16x1, .f32⟩
  | .hbm, ⟨41, _⟩ => ⟨S_, .f32⟩
  | .hbm, ⟨42, _⟩ => ⟨S8192x16x1, .f32⟩
  | .hbm, ⟨43, _⟩ => ⟨S8192x16x1, .f32⟩
  | .hbm, ⟨44, _⟩ => ⟨S_, .f32⟩
  | .hbm, ⟨45, _⟩ => ⟨S8192x16x1, .f32⟩
  | .hbm, ⟨46, _⟩ => ⟨S8192x16x1, .f32⟩
  | .hbm, ⟨47, _⟩ => ⟨S8192x16x1, .f32⟩
  | .hbm, ⟨48, _⟩ => ⟨S8192x16x128, .f32⟩
  | .hbm, ⟨49, _⟩ => ⟨S8192x16x128, .f32⟩
  | .hbm, ⟨50, _⟩ => ⟨S128, .f32⟩
  | .hbm, ⟨51, _⟩ => ⟨S1x1x128, .f32⟩
  | .hbm, ⟨52, _⟩ => ⟨S8192x16x128, .f32⟩
  | .hbm, ⟨53, _⟩ => ⟨S8192x16x128, .f32⟩
  | .hbm, ⟨54, _⟩ => ⟨S8192x2048, .f32⟩
  | .hbm, ⟨55, _⟩ => ⟨S8192x2048, .f32⟩
  | .hbm, ⟨56, _⟩ => ⟨S8192x6144, .f32⟩
  | .hbm, ⟨57, _⟩ => ⟨S8192x6144, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Proof.Tiles.lean ====
/- Arrays put together from equal rectangular tiles: an array of rank two given tile by tile, and the tile read back
   through the rectangle that names it. -/
module

public import Idealize.ShloMosaic.Lib.Pipeline.ValueKit

@[expose] public section

noncomputable section

namespace Cert.Tiles

open Idealize.ShloMosaic Idealize.SL.Sem

/-- The array of `p0 × p1` tiles of `b0 × b1` elements whose tile `(i, j)` is `P i j`. -/
def ofTiles {α : Type} {p0 p1 b0 b1 n0 n1 : ℕ} (h0 : n0 = p0 * b0) (h1 : n1 = p1 * b1)
    (P : Fin p0 → Fin p1 → (⟨2, ![b0, b1]⟩ : Shape).Idx → α) (y : (⟨2, ![n0, n1]⟩ : Shape).Idx) : α :=
  have e0 : (y 0).val < p0 * b0 := h0 ▸ (y 0).isLt
  have e1 : (y 1).val < p1 * b1 := h1 ▸ (y 1).isLt
  P ⟨(y 0).val / b0, Nat.div_lt_of_lt_mul (Nat.mul_comm p0 b0 ▸ e0)⟩
    ⟨(y 1).val / b1, Nat.div_lt_of_lt_mul (Nat.mul_comm p1 b1 ▸ e1)⟩
    (ix2 ⟨(y 0).val % b0, Nat.mod_lt _ (Nat.pos_of_ne_zero fun h => by simp [h] at e0)⟩
      ⟨(y 1).val % b1, Nat.mod_lt _ (Nat.pos_of_ne_zero fun h => by simp [h] at e1)⟩)

/-- Read through the rectangle of tile `(i, j)`, the array is that tile. -/
theorem ofTiles_emb {α : Type} {p0 p1 b0 b1 n0 n1 : ℕ} (h0 : n0 = p0 * b0) (h1 : n1 = p1 * b1)
    (P : Fin p0 → Fin p1 → (⟨2, ![b0, b1]⟩ : Shape).Idx → α) (i : Fin p0) (j : Fin p1) (o0 o1 : ℕ) (e0 : o0 = b0 * i.val) (e1 : o1 = b1 * j.val)
    (inb : ∀ a, (![o0, o1] : Fin 2 → ℕ) a + (![b0, b1] : Fin 2 → ℕ) a ≤ (⟨2, ![n0, n1]⟩ : Shape).size a)
    (x : (⟨2, ![b0, b1]⟩ : Shape).Idx) :
    ofTiles h0 h1 P ((Rect.unit (s := ⟨2, ![n0, n1]⟩) ![o0, o1] ![b0, b1] inb).emb x) = P i j x := by
  subst e0 e1
  have x0 : (x 0).val < b0 := (x 0).isLt
  have x1 : (x 1).val < b1 := (x 1).isLt
  have p0' : 0 < b0 := by omega
  have p1' : 0 < b1 := by omega
  have v0 : (((Rect.unit (s := ⟨2, ![n0, n1]⟩) ![b0 * i.val, b1 * j.val] ![b0, b1] inb).emb x) 0).val = b0 * i.val + (x 0).val := by
    simp [Rect.emb_apply]
  have v1 : (((Rect.unit (s := ⟨2, ![n0, n1]⟩) ![b0 * i.val, b1 * j.val] ![b0, b1] inb).emb x) 1).val = b1 * j.val + (x 1).val := by
    simp [Rect.emb_apply]
  have aux : ∀ {i i' : Fin p0} {j j' : Fin p1} {x x' : (⟨2, ![b0, b1]⟩ : Shape).Idx}, i = i' → j = j' → x = x' → P i j x = P i' j' x' := by
    rintro _ _ _ _ _ _ rfl rfl rfl; rfl
  refine aux (Fin.ext ?_) (Fin.ext ?_) ?_
  · show _ / b0 = _
    rw [v0, Nat.mul_add_div p0', Nat.div_eq_of_lt x0, Nat.add_zero]
  · show _ / b1 = _
    rw [v1, Nat.mul_add_div p1', Nat.div_eq_of_lt x1, Nat.add_zero]
  · refine funext fun a => ?_
    match a with
    | ⟨0, _⟩ =>
      refine Fin.ext ?_
      show _ % b0 = _
      rw [v0, Nat.mul_add_mod, Nat.mod_eq_of_lt x0]; rfl
    | ⟨1, _⟩ =>
      refine Fin.ext ?_
      show _ % b1 = _
      rw [v1, Nat.mul_add_mod, Nat.mod_eq_of_lt x1]; rfl

/-- A tile's rectangle lies in the array. -/
theorem tile_inb {p0 p1 b0 b1 n0 n1 : ℕ} (h0 : n0 = p0 * b0) (h1 : n1 = p1 * b1) (i : Fin p0) (j : Fin p1) :
    ∀ a, (![b0 * i.val, b1 * j.val] : Fin 2 → ℕ) a + (![b0, b1] : Fin 2 → ℕ) a ≤ (⟨2, ![n0, n1]⟩ : Shape).size a := by
  have k0 : b0 * i.val + b0 ≤ n0 := by
    rw [h0, Nat.mul_comm p0, ← Nat.mul_succ]; exact Nat.mul_le_mul_left _ i.isLt
  have k1 : b1 * j.val + b1 ≤ n1 := by
    rw [h1, Nat.mul_comm p1, ← Nat.mul_succ]; exact Nat.mul_le_mul_left _ j.isLt
  intro a
  match a with
  | ⟨0, _⟩ => exact k0
  | ⟨1, _⟩ => exact k1

/-- Tile `(i, j)` of an array. -/
abbrev tile {α : Type} {p0 p1 b0 b1 n0 n1 : ℕ} (h0 : n0 = p0 * b0) (h1 : n1 = p1 * b1) (X : (⟨2, ![n0, n1]⟩ : Shape).Idx → α)
    (i : Fin p0) (j : Fin p1) : (⟨2, ![b0, b1]⟩ : Shape).Idx → α :=
  fun x => X ((Rect.unit (s := ⟨2, ![n0, n1]⟩) ![b0 * i.val, b1 * j.val] ![b0, b1] (tile_inb h0 h1 i j)).idx x)

end Cert.Tiles

end
-- ==== Proof.Blocks.lean ====
/- What one point of the projection computes, tile by tile: the 512 × 256 tiles of the output block, each a sum of
   sixteen products of tiles of the activations and of the transposed weight block; and the next transposed weight
   block, in sixteen tiles of 256 rows. -/
module

public import proofs.«01_k».proof.Proof.Gen.KernelIdeal.Skeleton
public import proofs.«01_k».proof.Proof.Gen.KernelIdeal.Frame
public import Idealize.ShloMosaic.Lib.Pipeline.ReadBack
public import proofs.«01_k».proof.Proof.Tiles

@[expose] public section

set_option maxRecDepth 16384

noncomputable section

namespace Cert.KernelIdeal.Hand

open Idealize.ShloMosaic Idealize.SL.Sem
open Cert.KernelIdeal Cert.KernelIdeal.Gen Cert.Tiles

variable {F : FTy → Type} [FloatOps F] [Named F]

/-- The product of chunk `c` of row block `i` of the activations and chunk `c` of column block `j` of the weights. -/
def part (H : Vec F S2048x4096 .bf16) (B : Vec F S4096x512 .bf16) (i : Fin 4) (j : Fin 2) (c : Fin 16) : FVec F S512x256 .f32 :=
  matmul dot_S512x256_S256x256_S512x256_1_0_0_1_n_n none (tile (p0 := 4) (p1 := 16) (b0 := 512) (b1 := 256) rfl rfl H i c)
    (tile (p0 := 16) (p1 := 2) (b0 := 256) (b1 := 256) rfl rfl B c j) (constant S512x256 .f32 0x00000000#32)

/-- The first `n + 1` of those products, added up from the left. -/
def accN (H : Vec F S2048x4096 .bf16) (B : Vec F S4096x512 .bf16) (i : Fin 4) (j : Fin 2) : ℕ → FVec F S512x256 .f32
  | 0 => part H B i j 0
  | n + 1 => addf (accN H B i j n) (part H B i j (Fin.ofNat 16 (n + 1)))

/-- All sixteen: a tile of the product before its epilogue. -/
def acc (H : Vec F S2048x4096 .bf16) (B : Vec F S4096x512 .bf16) (i : Fin 4) (j : Fin 2) : FVec F S512x256 .f32 := accN H B i j 15

/-- The queries' epilogue: times the scale. -/
def epiQ (a : FVec F S512x256 .f32) : FVec F S512x256 .bf16 :=
  truncf .bf16 (mulf a (broadcast S512x256 (Named.named κ "q_scale" 0x3E0293EE#32))) bitsLt_bf16_f32
/-- The keys' and values' epilogue: none. -/
def epiP (a : FVec F S512x256 .f32) : FVec F S512x256 .bf16 := truncf .bf16 a bitsLt_bf16_f32
/-- The gates' epilogue: the sigmoid. -/
def epiG (a : FVec F S512x256 .f32) : FVec F S512x256 .bf16 := truncf .bf16 (logistic a) bitsLt_bf16_f32

/-- The three sections of the output's columns. -/
inductive Sec where
  /-- the queries -/ | q
  /-- the keys and the values -/ | p
  /-- the gates -/ | g
  deriving DecidableEq

/-- A section's epilogue. -/
def epi : Sec → FVec F S512x256 .f32 → FVec F S512x256 .bf16
  | .q => epiQ
  | .p => epiP
  | .g => epiG

/-- The branch a point takes: its section, and whether it is odd. -/
structure Turn (i : grid0.Coords) (s : Sec) (odd : Bool) : Prop where
  c2 : k0_cond2 i = 1#1 ↔ s = .q ∧ odd = false
  c3 : k0_cond3 i = 1#1 ↔ s = .q ∧ odd = true
  c4 : k0_cond4 i = 1#1 ↔ s = .p ∧ odd = false
  c5 : k0_cond5 i = 1#1 ↔ s = .p ∧ odd = true
  c6 : k0_cond6 i = 1#1 ↔ s = .g ∧ odd = false
  c7 : k0_cond7 i = 1#1 ↔ s = .g ∧ odd = true

/-- The output block under an epilogue. -/
def outBlk (epi : FVec F S512x256 .f32 → FVec F S512x256 .bf16) (H : Vec F S2048x4096 .bf16) (B : Vec F S4096x512 .bf16) : Vec F S2048x512 .bf16 :=
  ofTiles (p0 := 4) (p1 := 2) (b0 := 512) (b1 := 256) (n0 := 2048) (n1 := 512) rfl rfl fun i j => epi (acc H B i j)

/-- A tile of 256 columns of the weight block, transposed and rounded. -/
def castTile (W : Vec F S512x4096 .f32) (c : Fin 16) : FVec F S256x512 .bf16 :=
  k0_pay3 (tile (p0 := 1) (p1 := 16) (b0 := 512) (b1 := 256) rfl rfl W 0 c)

/-- The weight block transposed and rounded. -/
def castBlk (W : Vec F S512x4096 .f32) : Vec F S4096x512 .bf16 :=
  ofTiles (p0 := 16) (p1 := 1) (b0 := 256) (b1 := 512) (n0 := 4096) (n1 := 512) rfl rfl fun c _ => castTile W c

/-- A tile of the output block, read at its place. -/
theorem outBlk_emb (epi : FVec F S512x256 .f32 → FVec F S512x256 .bf16) (H : Vec F S2048x4096 .bf16) (B : Vec F S4096x512 .bf16)
    (i : Fin 4) (j : Fin 2) (o0 o1 : ℕ) (e0 : o0 = 512 * i.val) (e1 : o1 = 256 * j.val)
    (inb : ∀ a, (![o0, o1] : Fin 2 → ℕ) a + S512x256.size a ≤ S2048x512.size a) (p : FVec F S512x256 .bf16) (hp : p = epi (acc H B i j))
    (x : S512x256.Idx) : p x = outBlk epi H B ((Rect.unit (s := S2048x512) ![o0, o1] S512x256.size inb).emb x) := by
  subst hp
  exact (ofTiles_emb (p0 := 4) (p1 := 2) (b0 := 512) (b1 := 256) (n0 := 2048) (n1 := 512) rfl rfl (fun i j => epi (acc H B i j)) i j o0 o1 e0 e1 inb x).symm

/-- A tile of the transposed block, read at its place. -/
theorem castBlk_emb (W : Vec F S512x4096 .f32) (k : Fin 16) (o : ℕ) (e0 : o = 256 * k.val)
    (inb : ∀ a, (![o, 0] : Fin 2 → ℕ) a + S256x512.size a ≤ S4096x512.size a) (p : FVec F S256x512 .bf16) (hp : p = castTile W k)
    (x : S256x512.Idx) : p x = castBlk W ((Rect.unit (s := S4096x512) ![o, 0] S256x512.size inb).emb x) := by
  subst hp
  exact (ofTiles_emb (p0 := 16) (p1 := 1) (b0 := 256) (b1 := 512) (n0 := 4096) (n1 := 512) rfl rfl (fun c _ => castTile W c) k 0 o 0 e0 rfl inb x).symm

/-- The eight stores of a point's output tiles leave the output block. -/
theorem read_outBlk (v : View sig .tc .vmem S2048x512 .bf16) (f : v.ty.Contents (Elt F))
    (epi : FVec F S512x256 .f32 → FVec F S512x256 .bf16) (H : Vec F S2048x4096 .bf16) (B : Vec F S4096x512 .bf16)
    (p31 p30 p21 p20 p11 p10 p01 p00 : FVec F S512x256 .bf16)
    (h31 : p31 = epi (acc H B 3 1)) (h30 : p30 = epi (acc H B 3 0)) (h21 : p21 = epi (acc H B 2 1)) (h20 : p20 = epi (acc H B 2 0)) (h11 : p11 = epi (acc H B 1 1)) (h10 : p10 = epi (acc H B 1 0)) (h01 : p01 = epi (acc H B 0 1)) (h00 : p00 = epi (acc H B 0 0)) :
    v.read (Elt F) (v.writes (Elt F) f
      [ ⟨Rect.unit (s := S2048x512) ![1536, 256] S512x256.size inb_S2048x512_S512x256_1536_256, p31⟩,
        ⟨Rect.unit (s := S2048x512) ![1536, 0] S512x256.size inb_S2048x512_S512x256_1536_0, p30⟩,
        ⟨Rect.unit (s := S2048x512) ![1024, 256] S512x256.size inb_S2048x512_S512x256_1024_256, p21⟩,
        ⟨Rect.unit (s := S2048x512) ![1024, 0] S512x256.size inb_S2048x512_S512x256_1024_0, p20⟩,
        ⟨Rect.unit (s := S2048x512) ![512, 256] S512x256.size inb_S2048x512_S512x256_512_256, p11⟩,
        ⟨Rect.unit (s := S2048x512) ![512, 0] S512x256.size inb_S2048x512_S512x256_512_0, p10⟩,
        ⟨Rect.unit (s := S2048x512) ![0, 256] S512x256.size inb_S2048x512_S512x256_0_256, p01⟩,
        ⟨Rect.unit (s := S2048x512) ![0, 0] S512x256.size inb_S2048x512_S512x256_0_0, p00⟩ ]) = outBlk epi H B := by
  have cov : ∀ y : S2048x512.Idx, ∃ p ∈ ([ ⟨Rect.unit (s := S2048x512) ![1536, 256] S512x256.size inb_S2048x512_S512x256_1536_256, p31⟩,
        ⟨Rect.unit (s := S2048x512) ![1536, 0] S512x256.size inb_S2048x512_S512x256_1536_0, p30⟩,
        ⟨Rect.unit (s := S2048x512) ![1024, 256] S512x256.size inb_S2048x512_S512x256_1024_256, p21⟩,
        ⟨Rect.unit (s := S2048x512) ![1024, 0] S512x256.size inb_S2048x512_S512x256_1024_0, p20⟩,
        ⟨Rect.unit (s := S2048x512) ![512, 256] S512x256.size inb_S2048x512_S512x256_512_256, p11⟩,
        ⟨Rect.unit (s := S2048x512) ![512, 0] S512x256.size inb_S2048x512_S512x256_512_0, p10⟩,
        ⟨Rect.unit (s := S2048x512) ![0, 256] S512x256.size inb_S2048x512_S512x256_0_256, p01⟩,
        ⟨Rect.unit (s := S2048x512) ![0, 0] S512x256.size inb_S2048x512_S512x256_0_0, p00⟩ ] : List (View.Piece (Elt F) S2048x512 .bf16)), y ∈ p.1.set :=
    View.cover_of_tiledL _ S512x256.size (by sl_kernel_rfl)
  rw [View.read_writes_eq_canon _ _ _ cov]
  funext y
  refine View.canon_apply_of_pieces (outBlk epi H B) _ (View.PiecesOf.mem ?_) y (cov y)
  exact ⟨outBlk_emb epi H B 3 1 1536 256 rfl rfl inb_S2048x512_S512x256_1536_256 p31 h31,
    outBlk_emb epi H B 3 0 1536 0 rfl rfl inb_S2048x512_S512x256_1536_0 p30 h30,
    outBlk_emb epi H B 2 1 1024 256 rfl rfl inb_S2048x512_S512x256_1024_256 p21 h21,
    outBlk_emb epi H B 2 0 1024 0 rfl rfl inb_S2048x512_S512x256_1024_0 p20 h20,
    outBlk_emb epi H B 1 1 512 256 rfl rfl inb_S2048x512_S512x256_512_256 p11 h11,
    outBlk_emb epi H B 1 0 512 0 rfl rfl inb_S2048x512_S512x256_512_0 p10 h10,
    outBlk_emb epi H B 0 1 0 256 rfl rfl inb_S2048x512_S512x256_0_256 p01 h01,
    outBlk_emb epi H B 0 0 0 0 rfl rfl inb_S2048x512_S512x256_0_0 p00 h00, trivial⟩

/-- The sixteen stores of the transposed tiles leave the transposed block. -/
theorem read_castBlk (v : View sig .tc .vmem S4096x512 .bf16) (f : v.ty.Contents (Elt F)) (W : Vec F S512x4096 .f32)
    (p15 p14 p13 p12 p11 p10 p9 p8 p7 p6 p5 p4 p3 p2 p1 p0 : FVec F S256x512 .bf16)
    (h15 : p15 = castTile W 15) (h14 : p14 = castTile W 14) (h13 : p13 = castTile W 13) (h12 : p12 = castTile W 12) (h11 : p11 = castTile W 11) (h10 : p10 = castTile W 10) (h9 : p9 = castTile W 9) (h8 : p8 = castTile W 8) (h7 : p7 = castTile W 7) (h6 : p6 = castTile W 6) (h5 : p5 = castTile W 5) (h4 : p4 = castTile W 4) (h3 : p3 = castTile W 3) (h2 : p2 = castTile W 2) (h1 : p1 = castTile W 1) (h0 : p0 = castTile W 0) :
    v.read (Elt F) (v.writes (Elt F) f
      [ ⟨Rect.unit (s := S4096x512) ![3840, 0] S256x512.size inb_S4096x512_S256x512_3840_0, p15⟩,
        ⟨Rect.unit (s := S4096x512) ![3584, 0] S256x512.size inb_S4096x512_S256x512_3584_0, p14⟩,
        ⟨Rect.unit (s := S4096x512) ![3328, 0] S256x512.size inb_S4096x512_S256x512_3328_0, p13⟩,
        ⟨Rect.unit (s := S4096x512) ![3072, 0] S256x512.size inb_S4096x512_S256x512_3072_0, p12⟩,
        ⟨Rect.unit (s := S4096x512) ![2816, 0] S256x512.size inb_S4096x512_S256x512_2816_0, p11⟩,
        ⟨Rect.unit (s := S4096x512) ![2560, 0] S256x512.size inb_S4096x512_S256x512_2560_0, p10⟩,
        ⟨Rect.unit (s := S4096x512) ![2304, 0] S256x512.size inb_S4096x512_S256x512_2304_0, p9⟩,
        ⟨Rect.unit (s := S4096x512) ![2048, 0] S256x512.size inb_S4096x512_S256x512_2048_0, p8⟩,
        ⟨Rect.unit (s := S4096x512) ![1792, 0] S256x512.size inb_S4096x512_S256x512_1792_0, p7⟩,
        ⟨Rect.unit (s := S4096x512) ![1536, 0] S256x512.size inb_S4096x512_S256x512_1536_0, p6⟩,
        ⟨Rect.unit (s := S4096x512) ![1280, 0] S256x512.size inb_S4096x512_S256x512_1280_0, p5⟩,
        ⟨Rect.unit (s := S4096x512) ![1024, 0] S256x512.size inb_S4096x512_S256x512_1024_0, p4⟩,
        ⟨Rect.unit (s := S4096x512) ![768, 0] S256x512.size inb_S4096x512_S256x512_768_0, p3⟩,
        ⟨Rect.unit (s := S4096x512) ![512, 0] S256x512.size inb_S4096x512_S256x512_512_0, p2⟩,
        ⟨Rect.unit (s := S4096x512) ![256, 0] S256x512.size inb_S4096x512_S256x512_256_0, p1⟩,
        ⟨Rect.unit (s := S4096x512) ![0, 0] S256x512.size inb_S4096x512_S256x512_0_0, p0⟩ ]) = castBlk W := by
  have cov : ∀ y : S4096x512.Idx, ∃ p ∈ ([ ⟨Rect.unit (s := S4096x512) ![3840, 0] S256x512.size inb_S4096x512_S256x512_3840_0, p15⟩,
        ⟨Rect.unit (s := S4096x512) ![3584, 0] S256x512.size inb_S4096x512_S256x512_3584_0, p14⟩,
        ⟨Rect.unit (s := S4096x512) ![3328, 0] S256x512.size inb_S4096x512_S256x512_3328_0, p13⟩,
        ⟨Rect.unit (s := S4096x512) ![3072, 0] S256x512.size inb_S4096x512_S256x512_3072_0, p12⟩,
        ⟨Rect.unit (s := S4096x512) ![2816, 0] S256x512.size inb_S4096x512_S256x512_2816_0, p11⟩,
        ⟨Rect.unit (s := S4096x512) ![2560, 0] S256x512.size inb_S4096x512_S256x512_2560_0, p10⟩,
        ⟨Rect.unit (s := S4096x512) ![2304, 0] S256x512.size inb_S4096x512_S256x512_2304_0, p9⟩,
        ⟨Rect.unit (s := S4096x512) ![2048, 0] S256x512.size inb_S4096x512_S256x512_2048_0, p8⟩,
        ⟨Rect.unit (s := S4096x512) ![1792, 0] S256x512.size inb_S4096x512_S256x512_1792_0, p7⟩,
        ⟨Rect.unit (s := S4096x512) ![1536, 0] S256x512.size inb_S4096x512_S256x512_1536_0, p6⟩,
        ⟨Rect.unit (s := S4096x512) ![1280, 0] S256x512.size inb_S4096x512_S256x512_1280_0, p5⟩,
        ⟨Rect.unit (s := S4096x512) ![1024, 0] S256x512.size inb_S4096x512_S256x512_1024_0, p4⟩,
        ⟨Rect.unit (s := S4096x512) ![768, 0] S256x512.size inb_S4096x512_S256x512_768_0, p3⟩,
        ⟨Rect.unit (s := S4096x512) ![512, 0] S256x512.size inb_S4096x512_S256x512_512_0, p2⟩,
        ⟨Rect.unit (s := S4096x512) ![256, 0] S256x512.size inb_S4096x512_S256x512_256_0, p1⟩,
        ⟨Rect.unit (s := S4096x512) ![0, 0] S256x512.size inb_S4096x512_S256x512_0_0, p0⟩ ] : List (View.Piece (Elt F) S4096x512 .bf16)), y ∈ p.1.set :=
    View.cover_of_tiledL _ S256x512.size (by sl_kernel_rfl)
  rw [View.read_writes_eq_canon _ _ _ cov]
  funext y
  refine View.canon_apply_of_pieces (castBlk W) _ (View.PiecesOf.mem ?_) y (cov y)
  exact ⟨castBlk_emb W 15 3840 rfl inb_S4096x512_S256x512_3840_0 p15 h15,
    castBlk_emb W 14 3584 rfl inb_S4096x512_S256x512_3584_0 p14 h14,
    castBlk_emb W 13 3328 rfl inb_S4096x512_S256x512_3328_0 p13 h13,
    castBlk_emb W 12 3072 rfl inb_S4096x512_S256x512_3072_0 p12 h12,
    castBlk_emb W 11 2816 rfl inb_S4096x512_S256x512_2816_0 p11 h11,
    castBlk_emb W 10 2560 rfl inb_S4096x512_S256x512_2560_0 p10 h10,
    castBlk_emb W 9 2304 rfl inb_S4096x512_S256x512_2304_0 p9 h9,
    castBlk_emb W 8 2048 rfl inb_S4096x512_S256x512_2048_0 p8 h8,
    castBlk_emb W 7 1792 rfl inb_S4096x512_S256x512_1792_0 p7 h7,
    castBlk_emb W 6 1536 rfl inb_S4096x512_S256x512_1536_0 p6 h6,
    castBlk_emb W 5 1280 rfl inb_S4096x512_S256x512_1280_0 p5 h5,
    castBlk_emb W 4 1024 rfl inb_S4096x512_S256x512_1024_0 p4 h4,
    castBlk_emb W 3 768 rfl inb_S4096x512_S256x512_768_0 p3 h3,
    castBlk_emb W 2 512 rfl inb_S4096x512_S256x512_512_0 p2 h2,
    castBlk_emb W 1 256 rfl inb_S4096x512_S256x512_256_0 p1 h1,
    castBlk_emb W 0 0 rfl inb_S4096x512_S256x512_0_0 p0 h0, trivial⟩

/-- The scratch after the first point's fill. -/
def zeroBlk : Vec F S4096x512 .bf16 :=
  View.canon [(⟨Rect.unit (s := S4096x512) ![0, 0] S4096x512.size inb_S4096x512_S4096x512_0_0, k0_pay395⟩ : View.Piece (Elt F) S4096x512 .bf16)]

/-- The fill leaves it. -/
theorem read_zeroBlk (v : View sig .tc .vmem S4096x512 .bf16) (f : v.ty.Contents (Elt F)) :
    v.read (Elt F) (v.writes (Elt F) f [⟨Rect.unit (s := S4096x512) ![0, 0] S4096x512.size inb_S4096x512_S4096x512_0_0, k0_pay395⟩]) = zeroBlk :=
  View.read_writes_eq_canon _ _ _ (View.cover_of_tiledL _ S4096x512.size (by sl_kernel_rfl))

end Cert.KernelIdeal.Hand

end
-- ==== Proof.RunFirst.lean ====
/- The body at the first point. -/
module

public import proofs.«01_k».proof.Proof.Blocks

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Tiles

variable {F : FTy → Type} [FloatOps F] [Named F]

local notation "𝕄" => MT nD τ sig Unit (Elt F) ℕ (UR sig nD τ) ℕ

set_option maxHeartbeats 2000000 in
/-- The body at the first point: the output block comes of a scratch of zeros, and the first scratch ends with the weight
    block transposed. -/
theorem run_first (c : Dev nD) (i : grid0.Coords) (arg1 : Memref sig .tc .vmem S2048x4096 .bf16) (harg1 : arg1.IsWhole)
    (arg2 : Memref sig .tc .vmem S512x4096 .f32) (harg2 : arg2.IsWhole) (arg3 : Memref sig .tc .vmem S2048x512 .bf16) (harg3 : arg3.IsWhole)
    (arg4 : Memref sig .tc .vmem S4096x512 .bf16) (harg4 : arg4.IsWhole) (arg5 : Memref sig .tc .vmem S4096x512 .bf16) (harg5 : arg5.IsWhole)
    (hc0 : (Scalar.cmpi .ne (Scalar.extui (Scalar.cmpi .eq (BitVec.ofNat 32 (i 0).val) 0#32)) 0#32) = 1#1) (hs : Turn i .q false)
    (H : Vec F S2048x4096 .bf16) (W : Vec F S512x4096 .f32) (E : Set ℕ) (K : PUnit → sProp 𝕄) :
    iprop(owns (c : Thread nD τ) arg1 fullShare H ∗ owns (c : Thread nD τ) arg2 fullShare W ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare H ∗ owns (c : Thread nD τ) arg2 fullShare W
            ∗ owns (c : Thread nD τ) arg3 fullShare (outBlk (epi .q) H zeroBlk)
            ∗ owns (c : Thread nD τ) arg4 fullShare (castBlk W) ∗ (∃ d, owns (c : Thread nD τ) arg5 fullShare d)) -∗ K ⟨⟩))
      ⊢ wp frame (wpE (defs₀ (F := F)) Variants.none c none) E (cc0_proj_sb i arg1 harg1 arg2 harg2 arg3 harg3 arg4 harg4 arg5 harg5) K := by
  simp only [cc0_proj_sb_eq_skeleton]; unfold cc0_proj_sb_skel
  rw [k0_part121_eq_skeleton, wp_bind]
  unfold k0_part121_skel
  extract_lets
  rw [dif_pos hc0]
  unfold owns
  iintro ⟨⟨%f1, %hf1, H1⟩, ⟨%f2, %hf2, H2⟩, ⟨%d3, %f3, -, H3⟩, ⟨%d4, %f4, -, H4⟩, ⟨%d5, %f5, -, H5⟩, Hk⟩
  subst hf1 hf2
  sl_exec
  generalize hF : arg5.view.writes (Elt F) f5 _ = f5'
  simp +zetaDelta only [k0_part121_eq_skeleton, k0_part122_eq_skeleton, k0_part123_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  obtain ⟨hc2, hc3, hc4, hc5, hc6, hc7⟩ := hs
  simp at hc2 hc3 hc4 hc5 hc6 hc7
  sl_exec (disch := first | sl_exact hc2 | sl_exact hc3 | sl_exact hc4 | sl_exact hc5 | sl_exact hc6 | sl_exact hc7)
  sl_step
  iapply Hk
  isplitl [H1]
  · iexists _; isplitr; · ipureintro; rfl
    iexact H1
  isplitl [H2]
  · iexists _; isplitr; · ipureintro; rfl
    iexact H2
  isplitl [H3]
  · iexists _; isplitr
    swap; · iexact H3
    ipureintro
    have hz : View.read (Elt F) arg5.view f5' = zeroBlk (F := F) := by rw [← hF]; exact read_zeroBlk _ _
    rw [← hz]
    exact read_outBlk (F := F) _ _ _ _ _ _ _ _ _ _ _ _ _ rfl rfl rfl rfl rfl rfl rfl rfl
  isplitl [H4]
  · iexists _; isplitr
    swap; · iexact H4
    ipureintro
    exact read_castBlk (F := F) _ _ _ _ _ _ _ _ _ _ _ _ _ _ _ _ _ _ _ rfl rfl rfl rfl rfl rfl rfl rfl rfl rfl rfl rfl rfl rfl rfl rfl
  · iexists (View.read (Elt F) arg5.view f5'), f5'; isplitr; · ipureintro; rfl
    iexact H5

end Cert.KernelIdeal.Hand

end
-- ==== Proof.RunEven.lean ====
/- The body at an even point after the first. -/
module

public import proofs.«01_k».proof.Proof.Blocks

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Tiles

variable {F : FTy → Type} [FloatOps F] [Named F]

local notation "𝕄" => MT nD τ sig Unit (Elt F) ℕ (UR sig nD τ) ℕ

set_option maxHeartbeats 2000000 in
/-- The body at an even point after the first: the output block is its section's tiles over the second scratch, and the
    first scratch ends with the weight block transposed. -/
theorem run_even (c : Dev nD) (i : grid0.Coords) (s : Sec) (arg1 : Memref sig .tc .vmem S2048x4096 .bf16) (harg1 : arg1.IsWhole)
    (arg2 : Memref sig .tc .vmem S512x4096 .f32) (harg2 : arg2.IsWhole) (arg3 : Memref sig .tc .vmem S2048x512 .bf16) (harg3 : arg3.IsWhole)
    (arg4 : Memref sig .tc .vmem S4096x512 .bf16) (harg4 : arg4.IsWhole) (arg5 : Memref sig .tc .vmem S4096x512 .bf16) (harg5 : arg5.IsWhole)
    (hc0 : ¬(Scalar.cmpi .ne (Scalar.extui (Scalar.cmpi .eq (BitVec.ofNat 32 (i 0).val) 0#32)) 0#32) = 1#1) (hs : Turn i s false)
    (H : Vec F S2048x4096 .bf16) (W : Vec F S512x4096 .f32) (B : Vec F S4096x512 .bf16) (E : Set ℕ) (K : PUnit → sProp 𝕄) :
    iprop(owns (c : Thread nD τ) arg1 fullShare H ∗ owns (c : Thread nD τ) arg2 fullShare W ∗ (∃ d, owns (c : Thread nD τ) arg3 fullShare d)
        ∗ (∃ d, owns (c : Thread nD τ) arg4 fullShare d) ∗ owns (c : Thread nD τ) arg5 fullShare B
        ∗ (iprop(owns (c : Thread nD τ) arg1 fullShare H ∗ owns (c : Thread nD τ) arg2 fullShare W
            ∗ owns (c : Thread nD τ) arg3 fullShare (outBlk (epi s) H B)
            ∗ owns (c : Thread nD τ) arg4 fullShare (castBlk W) ∗ owns (c : Thread nD τ) arg5 fullShare B) -∗ K ⟨⟩))
      ⊢ wp frame (wpE (defs₀ (F := F)) Variants.none c none) E (cc0_proj_sb i arg1 harg1 arg2 harg2 arg3 harg3 arg4 harg4 arg5 harg5) K := by
  obtain ⟨hc2, hc3, hc4, hc5, hc6, hc7⟩ := hs
  simp only [cc0_proj_sb_eq_skeleton]; unfold cc0_proj_sb_skel
  cases s
  case' q => simp only [k0_part121_eq_skeleton, k0_part122_eq_skeleton, k0_part123_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  case' p => simp only [k0_part121_eq_skeleton, k0_part122_eq_skeleton, k0_part123_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  case' g => simp only [k0_part121_eq_skeleton, k0_part122_eq_skeleton, k0_part123_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton]
  all_goals
  simp at hc2 hc3 hc4 hc5 hc6 hc7
  unfold owns
  iintro ⟨⟨%f1, %hf1, H1⟩, ⟨%f2, %hf2, H2⟩, ⟨%d3, %f3, -, H3⟩, ⟨%d4, %f4, -, H4⟩, ⟨%f5, %hf5, H5⟩, Hk⟩
  subst hf1 hf2 hf5
  sl_exec (disch := first | sl_exact hc0 | sl_exact hc2 | sl_exact hc3 | sl_exact hc4 | sl_exact hc5 | sl_exact hc6 | sl_exact hc7)
  sl_step
  iapply Hk
  isplitl [H1]
  · iexists _; isplitr; · ipureintro; rfl
    iexact H1
  isplitl [H2]
  · iexists _; isplitr; · ipureintro; rfl
    iexact H2
  isplitl [H3]
  · iexists _; isplitr
    swap; · iexact H3
    ipureintro
    exact read_outBlk _ _ _ _ _ _ _ _ _ _ _ _ _ rfl rfl rfl rfl rfl rfl rfl rfl
  isplitl [H4]
  · iexists _; isplitr
    swap; · iexact H4
    ipureintro
    exact read_castBlk _ _ _ _ _ _ _ _ _ _ _ _ _ _ _ _ _ _ _ rfl rfl rfl rfl rfl rfl rfl rfl rfl rfl rfl rfl rfl rfl rfl rfl
  · iexists _; isplitr; · ipureintro; rfl
    iexact H5

end Cert.KernelIdeal.Hand

end
-- ==== Proof.RunOdd.lean ====
/- The body at an odd point. -/
module

public import proofs.«01_k».proof.Proof.Blocks

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Tiles

variable {F : FTy → Type} [FloatOps F] [Named F]

local notation "𝕄" => MT nD τ sig Unit (Elt F) ℕ (UR sig nD τ) ℕ

set_option maxHeartbeats 2000000 in
/-- The body at an odd point: the output block is its section's tiles over the first scratch, and the second scratch ends
    with the weight block transposed. -/
theorem run_odd (c : Dev nD) (i : grid0.Coords) (s : Sec) (arg1 : Memref sig .tc .vmem S2048x4096 .bf16) (harg1 : arg1.IsWhole)
    (arg2 : Memref sig .tc .vmem S512x4096 .f32) (harg2 : arg2.IsWhole) (arg3 : Memref sig .tc .vmem S2048x512 .bf16) (harg3 : arg3.IsWhole)
    (arg4 : Memref sig .tc .vmem S4096x512 .bf16) (harg4 : arg4.IsWhole) (arg5 : Memref sig .tc .vmem S4096x512 .bf16) (harg5 : arg5.IsWhole)
    (hc0 : ¬(Scalar.cmpi .ne (Scalar.extui (Scalar.cmpi .eq (BitVec.ofNat 32 (i 0).val) 0#32)) 0#32) = 1#1) (hs : Turn i s true)
    (H : Vec F S2048x4096 .bf16) (W : Vec F S512x4096 .f32) (B : Vec F S4096x512 .bf16) (E : Set ℕ) (K : PUnit → sProp 𝕄) :
    iprop(owns (c : Thread nD τ) arg1 fullShare H ∗ owns (c : Thread nD τ) arg2 fullShare W ∗ (∃ d, owns (c : Thread nD τ) arg3 fullShare d)
        ∗ owns (c : Thread nD τ) arg4 fullShare B ∗ (∃ d, owns (c : Thread nD τ) arg5 fullShare d)
        ∗ (iprop(owns (c : Thread nD τ) arg1 fullShare H ∗ owns (c : Thread nD τ) arg2 fullShare W
            ∗ owns (c : Thread nD τ) arg3 fullShare (outBlk (epi s) H B)
            ∗ owns (c : Thread nD τ) arg4 fullShare B ∗ owns (c : Thread nD τ) arg5 fullShare (castBlk W)) -∗ K ⟨⟩))
      ⊢ wp frame (wpE (defs₀ (F := F)) Variants.none c none) E (cc0_proj_sb i arg1 harg1 arg2 harg2 arg3 harg3 arg4 harg4 arg5 harg5) K := by
  obtain ⟨hc2, hc3, hc4, hc5, hc6, hc7⟩ := hs
  simp only [cc0_proj_sb_eq_skeleton]; unfold cc0_proj_sb_skel
  cases s
  case' q => simp only [k0_part121_eq_skeleton, k0_part122_eq_skeleton, k0_part123_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
  case' p => simp only [k0_part121_eq_skeleton, k0_part122_eq_skeleton, k0_part123_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton]
  case' g => simp only [k0_part121_eq_skeleton, k0_part122_eq_skeleton, k0_part123_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton]
  all_goals
  simp at hc2 hc3 hc4 hc5 hc6 hc7
  unfold owns
  iintro ⟨⟨%f1, %hf1, H1⟩, ⟨%f2, %hf2, H2⟩, ⟨%d3, %f3, -, H3⟩, ⟨%f4, %hf4, H4⟩, ⟨%d5, %f5, -, H5⟩, Hk⟩
  subst hf1 hf2 hf4
  sl_exec (disch := first | sl_exact hc0 | sl_exact hc2 | sl_exact hc3 | sl_exact hc4 | sl_exact hc5 | sl_exact hc6 | sl_exact hc7)
  sl_step
  iapply Hk
  isplitl [H1]
  · iexists _; isplitr; · ipureintro; rfl
    iexact H1
  isplitl [H2]
  · iexists _; isplitr; · ipureintro; rfl
    iexact H2
  isplitl [H3]
  · iexists _; isplitr
    swap; · iexact H3
    ipureintro
    exact read_outBlk _ _ _ _ _ _ _ _ _ _ _ _ _ rfl rfl rfl rfl rfl rfl rfl rfl
  isplitl [H4]
  · iexists _; isplitr; · ipureintro; rfl
    iexact H4
  · iexists _; isplitr
    swap; · iexact H5
    ipureintro
    exact read_castBlk _ _ _ _ _ _ _ _ _ _ _ _ _ _ _ _ _ _ _ rfl rfl rfl rfl rfl rfl rfl rfl rfl rfl rfl rfl rfl rfl rfl rfl

end Cert.KernelIdeal.Hand

end
-- ==== Proof.Body.lean ====
/- The invariant between the points, the body at every point, and the run of the program with its frame. -/
module

public import proofs.«01_k».proof.Proof.RunFirst
public import proofs.«01_k».proof.Proof.RunEven
public import proofs.«01_k».proof.Proof.RunOdd

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Tiles

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which branch a point takes -/

/-- The section of the columns that point `t` multiplies. -/
def secAt (t : ℕ) : Sec := if (t - 1) % 28 < 4 then .q else if (t - 1) % 28 < 12 then .p else .g

/-- The first point alone fills the second scratch. -/
theorem first_iff : ∀ t : Fin cfg0.N, (Scalar.cmpi .ne (Scalar.extui (Scalar.cmpi .eq (BitVec.ofNat 32 (grid0.coords t 0).val) 0#32)) 0#32) = 1#1 ↔ t.val = 0 :=
  (by decide +kernel : ∀ t : Fin grid0.N, (Scalar.cmpi .ne (Scalar.extui (Scalar.cmpi .eq (BitVec.ofNat 32 (grid0.coords t 0).val) 0#32)) 0#32) = 1#1 ↔ t.val = 0)

/-- Every point takes the branch of its section and its parity. -/
theorem turn (t : Fin cfg0.N) : Turn (grid0.coords t) (secAt t.val) (decide (t.val % 2 = 1)) :=
  ⟨(by decide +kernel : ∀ t : Fin grid0.N, k0_cond2 (grid0.coords t) = 1#1 ↔ secAt t.val = .q ∧ decide (t.val % 2 = 1) = false) t,
   (by decide +kernel : ∀ t : Fin grid0.N, k0_cond3 (grid0.coords t) = 1#1 ↔ secAt t.val = .q ∧ decide (t.val % 2 = 1) = true) t,
   (by decide +kernel : ∀ t : Fin grid0.N, k0_cond4 (grid0.coords t) = 1#1 ↔ secAt t.val = .p ∧ decide (t.val % 2 = 1) = false) t,
   (by decide +kernel : ∀ t : Fin grid0.N, k0_cond5 (grid0.coords t) = 1#1 ↔ secAt t.val = .p ∧ decide (t.val % 2 = 1) = true) t,
   (by decide +kernel : ∀ t : Fin grid0.N, k0_cond6 (grid0.coords t) = 1#1 ↔ secAt t.val = .g ∧ decide (t.val % 2 = 1) = false) t,
   (by decide +kernel : ∀ t : Fin grid0.N, k0_cond7 (grid0.coords t) = 1#1 ↔ secAt t.val = .g ∧ decide (t.val % 2 = 1) = true) t⟩

/-- At an even point. -/
theorem turn_even (t : Fin cfg0.N) (h : t.val % 2 = 0) : Turn (grid0.coords t) (secAt t.val) false := by
  have := turn t; rwa [show decide (t.val % 2 = 1) = false by simp [h]] at this
/-- At an odd point. -/
theorem turn_odd (t : Fin cfg0.N) (h : t.val % 2 = 1) : Turn (grid0.coords t) (secAt t.val) true := by
  have := turn t; rwa [show decide (t.val % 2 = 1) = true by simp [h]] at this

/-- No window is idle at any point. -/
theorem live (w : Fin cfg0.W) (t : Fin cfg0.N) : cfg0.idle w (grid0.coords t) = false := by
  revert t
  fin_cases w
  · exact fun _ => rfl
  · exact fun _ => rfl
  · exact (by decide +kernel : ∀ t : Fin grid0.N, cfg0.idle 2 (grid0.coords t) = false)

/-! ## What the points leave -/

/-- The activations' block at point `t`. -/
abbrev hAt (c : Dev nD) (t : Fin cfg0.N) : Vec F S2048x4096 .bf16 := iblk m c 0 t
/-- The weights' block at point `t`. -/
abbrev wAt (c : Dev nD) (t : Fin cfg0.N) : Vec F S512x4096 .f32 := iblk m c 1 t

/-- The weights that point `n` multiplies: the ones the point before transposed; zeros at the first. -/
def wbAt (c : Dev nD) : (n : ℕ) → n < cfg0.N → Vec F S4096x512 .bf16
  | 0, _ => zeroBlk
  | n + 1, h => castBlk (wAt m c ⟨n, Nat.lt_of_succ_lt h⟩)

/-- The output block of point `t`. -/
def outAt (c : Dev nD) (t : Fin cfg0.N) : Vec F S2048x512 .bf16 := outBlk (epi (secAt t.val)) (hAt m c t) (wbAt m c t.val t.isLt)

/-- The two scratches. -/
abbrev sc0 : Memref sig .tc .vmem S4096x512 .bf16 := Memref.whole cc0_scratch0
abbrev sc1 : Memref sig .tc .vmem S4096x512 .bf16 := Memref.whole cc0_scratch1

/-- The invariant: before the first point the scratches hold anything; after point `n` the one of `n`'s parity holds
    that point's weights transposed. -/
def PhiS (c : Dev nD) : (n : ℕ) → n ≤ cfg0.N → sProp 𝕄
  | 0, _ => iprop(iprop((∃ d, owns (c : Thread nD τ) sc0 fullShare d) ∗ (∃ d, owns (c : Thread nD τ) sc1 fullShare d)) ∗ (∃ r, prngReg c r))
  | n + 1, h => if n % 2 = 0
      then iprop(iprop(owns (c : Thread nD τ) sc0 fullShare (castBlk (wAt m c ⟨n, h⟩)) ∗ (∃ d, owns (c : Thread nD τ) sc1 fullShare d)) ∗ (∃ r, prngReg c r))
      else iprop(iprop((∃ d, owns (c : Thread nD τ) sc0 fullShare d) ∗ owns (c : Thread nD τ) sc1 fullShare (castBlk (wAt m c ⟨n, h⟩))) ∗ (∃ r, prngReg c r))

/-- The invariant after an even point. -/
theorem PhiS_even (c : Dev nD) (n : ℕ) (h : n + 1 ≤ cfg0.N) (hp : n % 2 = 0) : PhiS m c (n + 1) h
    = iprop(iprop(owns (c : Thread nD τ) sc0 fullShare (castBlk (wAt m c ⟨n, h⟩)) ∗ (∃ d, owns (c : Thread nD τ) sc1 fullShare d)) ∗ (∃ r, prngReg c r)) :=
  if_pos hp

/-- The invariant after an odd point. -/
theorem PhiS_odd (c : Dev nD) (n : ℕ) (h : n + 1 ≤ cfg0.N) (hp : ¬n % 2 = 0) : PhiS m c (n + 1) h
    = iprop(iprop((∃ d, owns (c : Thread nD τ) sc0 fullShare d) ∗ owns (c : Thread nD τ) sc1 fullShare (castBlk (wAt m c ⟨n, h⟩))) ∗ (∃ r, prngReg c r)) :=
  if_neg hp

/-- What the launch hands over, spelt with the two scratches. -/
theorem PhiA_eq (c : Dev nD) : (Pipeline.ΦA spec0 c : sProp 𝕄)
    = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The proof data: the arrays as the region finds them, the blocks each point leaves, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem Phi_at (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- What a window's buffer is left with is its block after the body. -/
theorem leaves (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w t]

/-! ## The body -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 1000000 in
/-- The body at any point: the first point, an even one after it, or an odd one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [leaves m c 0, leaves m c 1, leaves m c 2, after_0, after_1, after_2,
    show (dats m 0 c).owesAt () t.succ = (dats m 0 c).owesAt () t.castSucc from rfl,
    show (dats m 0 c).Φ t.succ = PhiS m c (t.val + 1) t.isLt from rfl, Phi_at]
  obtain ⟨n, hn⟩ := t
  unfold outAt
  match n, hn with
  | 0, hn =>
    have hf := (first_iff ⟨0, hn⟩).mpr rfl
    have ht := turn_even ⟨0, hn⟩ rfl
    rw [PhiS_even m c 0 hn rfl]
    unfold PhiS
    iintro ⟨⟨⟨HS0, HS1⟩, Hg⟩, Ho, ⟨%d0, H0⟩, ⟨%d1, H1⟩, ⟨%d2, H2⟩⟩
    iapply (run_first c (grid0.coords ⟨0, hn⟩) _ _ _ _ _ _ _ _ _ _ hf ht (hAt m c ⟨0, hn⟩) (wAt m c ⟨0, hn⟩) Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    iexact H2
  | n + 1, hn =>
    have hf : ¬_ := fun h => Nat.succ_ne_zero n ((first_iff ⟨n + 1, hn⟩).mp h)
    rcases Nat.mod_two_eq_zero_or_one n with hp | hp
    · have ht := turn_odd ⟨n + 1, hn⟩ (by show (n + 1) % 2 = 1; omega)
      rw [PhiS_odd m c (n + 1) hn (by omega), PhiS_even m c n _ hp]
      iintro ⟨⟨⟨HS0, HS1⟩, Hg⟩, Ho, ⟨%d0, H0⟩, ⟨%d1, H1⟩, ⟨%d2, H2⟩⟩
      iapply (run_odd c (grid0.coords ⟨n + 1, hn⟩) (secAt (n + 1)) _ _ _ _ _ _ _ _ _ _ hf ht (hAt m c ⟨n + 1, hn⟩) (wAt m c ⟨n + 1, hn⟩) _ Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 Hg]
      · isplitl [HS0 HS1]
        · isplitl [HS0]; · iexists _; iexact HS0
          iexact HS1
        iexact Hg
      isplitl [Ho]; · iexact Ho
      isplitl [H0]; · iexact H0
      isplitl [H1]; · iexact H1
      iexact H2
    · have ht := turn_even ⟨n + 1, hn⟩ (by show (n + 1) % 2 = 0; omega)
      rw [PhiS_even m c (n + 1) hn (by omega), PhiS_odd m c n _ (by omega)]
      iintro ⟨⟨⟨HS0, HS1⟩, Hg⟩, Ho, ⟨%d0, H0⟩, ⟨%d1, H1⟩, ⟨%d2, H2⟩⟩
      iapply (run_even c (grid0.coords ⟨n + 1, hn⟩) (secAt (n + 1)) _ _ _ _ _ _ _ _ _ _ hf ht (hAt m c ⟨n + 1, hn⟩) (wAt m c ⟨n + 1, hn⟩) _ Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 Hg]
      · isplitl [HS0 HS1]
        · isplitl [HS0]; · iexact HS0
          iexists _; iexact HS1
        iexact Hg
      isplitl [Ho]; · iexact Ho
      isplitl [H0]; · iexact H0
      isplitl [H1]; · iexact H1
      iexact H2

/-! ## The run -/

/-- The body table's row at a point's slots is the body there. -/
theorem row (t : Fin cfg0.N) : defs₀ (F := F) .tc cfg0.body (cfg0.bodyArgs t (cfg0.slots t)) = bodyAt0 t := by
  unfold defs₀; rw [Defs.onTc_tc]

/-- The obligation of the pipeline's rule. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-- The launch establishes the invariant. -/
theorem hin (c : Dev nD) : Pipeline.ΦA spec0 c ⊢ (dats m 0 c).Φ 0 := by
  rw [show (dats m 0 c).Φ 0 = PhiS m c 0 (Nat.zero_le _) from rfl, PhiA_eq]
  exact Idealize.SL.BI.Entails.refl _

/-- The invariant at the end gives the scratches back. -/
theorem hout (c : Dev nD) : (dats m 0 c).Φ (Fin.last cfg0.N) ⊢ Pipeline.ΦA spec0 c := by
  rw [show (dats m 0 c).Φ (Fin.last cfg0.N) = PhiS m c (112 + 1) (by decide) from rfl, PhiA_eq, PhiS_even m c 112 _ rfl]
  iintro ⟨⟨HS0, HS1⟩, Hg⟩
  isplitl [HS0 HS1]
  · isplitl [HS0]
    · iexists _; iexact HS0
    iexact HS1
  iexact Hg

set_option backward.isDefEq.respectTransparency.types false in
/-- The program runs to its end, every array as the proof data says, every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged, the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

end Cert.KernelIdeal.Hand

end
-- ==== Proof.Frames.lean ====
/- The frames of the kernel and of its idealization, off one run: at the bit patterns the named constant is the literal it
   names, and the idealization's text is then the kernel's. -/
module

public import proofs.«01_k».proof.Defs
public import proofs.«01_k».proof.Proof.Body
public import proofs.«01_k».proof.Proof.Gen.Kernel

@[expose] public section

set_option maxRecDepth 16384

noncomputable section

namespace Cert.Proof

open Idealize.ShloMosaic Idealize.SL.Sem

/-- A named constant at the bit patterns: the literal. -/
instance namedBits : Named Bits where
  named _ _ {φ} bits := Scalar.ofBits φ bits

/-- The idealized kernel's frame. -/
theorem frame_kernelIdeal : Cert.quiescent_KernelIdeal := fun m ρ _ => Cert.KernelIdeal.Hand.frame_main (F := Ideal) m ρ

/-- At the bit patterns the kernel's frame is its idealization's, word for word. -/
theorem same : Cert.quiescent_Kernel = ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) := by
  sl_kernel_rfl

/-- The kernel's frame. -/
theorem frame_kernel : Cert.quiescent_Kernel :=
  same.mpr fun m ρ _ => Cert.KernelIdeal.Hand.frame_main (F := Bits) m ρ

/-- The one constant named is the value its name stands for. -/
theorem preserves : Cert.preserves_Kernel_KernelIdeal :=
  IdealRules.named_const.statement Cert.KernelIdeal.κ "q_scale" .f32 0x3E0293EE#32 (((Real.sqrt 128)⁻¹ * (Real.log 2)⁻¹ : ℝ) : EReal) rfl

end Cert.Proof

end
-- ==== Proof.Chunks.lean ====
/- Sums taken chunk by chunk, and an array of tiles read at its coordinates. -/
module

public import Idealize.ShloMosaic.Lib.Pipeline.ValueKit
public import proofs.«01_k».proof.Proof.Tiles

@[expose] public section

noncomputable section

namespace Cert.Tiles

open Idealize.ShloMosaic Idealize.SL.Sem

/-- A place in a chunk lies in the whole. -/
theorem chunk_lt {p b n : ℕ} (h : n = p * b) (c : Fin p) (k : Fin b) : b * c.val + k.val < n := by
  have := Nat.mul_le_mul_left b (Nat.succ_le_of_lt c.isLt)
  rw [Nat.mul_succ] at this
  rw [h, Nat.mul_comm p]
  omega

/-- Summing every chunk and then the chunks is summing everything. -/
theorem sum_chunks {M : Type} [AddCommMonoid M] {p b n : ℕ} (h : n = p * b) (f : Fin n → M) :
    ∑ c : Fin p, ∑ k : Fin b, f ⟨b * c.val + k.val, chunk_lt h c k⟩ = ∑ k : Fin n, f k := by
  subst h
  rw [← Equiv.sum_comp finProdFinEquiv f, Fintype.sum_prod_type]
  refine Finset.sum_congr rfl fun c _ => Finset.sum_congr rfl fun k _ => congrArg f (Fin.ext ?_)
  simp [finProdFinEquiv, Nat.add_comm]

/-- Tile `(i, j)` of an array at a place: the array there. -/
theorem tile_apply {α : Type} {p0 p1 b0 b1 n0 n1 : ℕ} (h0 : n0 = p0 * b0) (h1 : n1 = p1 * b1) (X : (⟨2, ![n0, n1]⟩ : Shape).Idx → α)
    (i : Fin p0) (j : Fin p1) (r : Fin b0) (k : Fin b1) :
    tile h0 h1 X i j (ix2 r k) = X (ix2 ⟨b0 * i.val + r.val, chunk_lt h0 i r⟩ ⟨b1 * j.val + k.val, chunk_lt h1 j k⟩) := by
  refine congrArg X (funext fun a => ?_)
  match a with
  | ⟨0, _⟩ => exact Fin.ext (by simp [LoadRect.idx, ix2])
  | ⟨1, _⟩ => exact Fin.ext (by simp [LoadRect.idx, ix2])

/-- An array of tiles that are all cut from one array is that array. -/
theorem ofTiles_eq {α : Type} {p0 p1 b0 b1 n0 n1 : ℕ} (h0 : n0 = p0 * b0) (h1 : n1 = p1 * b1)
    (P : Fin p0 → Fin p1 → (⟨2, ![b0, b1]⟩ : Shape).Idx → α) (G : Fin n0 → Fin n1 → α)
    (h : ∀ i j r k, P i j (ix2 r k) = G ⟨b0 * i.val + r.val, chunk_lt h0 i r⟩ ⟨b1 * j.val + k.val, chunk_lt h1 j k⟩)
    (y : (⟨2, ![n0, n1]⟩ : Shape).Idx) : ofTiles h0 h1 P y = G (y 0) (y 1) := by
  unfold ofTiles
  rw [h]
  congr 1 <;> exact Fin.ext (Nat.div_add_mod _ _)

end Cert.Tiles

end
-- ==== Proof.Value.lean ====
/- The values at the ideal instance: one point's output block as a product of matrices. -/
module

public import proofs.«01_k».proof.Proof.Blocks
public import proofs.«01_k».proof.Proof.Chunks

@[expose] public section

set_option maxRecDepth 16384

noncomputable section

namespace Cert.KernelIdeal.Hand

open Idealize.ShloMosaic Idealize.SL.Sem
open Cert.KernelIdeal Cert.KernelIdeal.Gen Cert.Tiles

/-- One chunk's product at a place. -/
theorem part_apply (H : Vec Ideal S2048x4096 .bf16) (B : Vec Ideal S4096x512 .bf16) (i : Fin 4) (j : Fin 2) (c : Fin 16) (r : Fin 512) (n : Fin 256) :
    part H B i j c (ix2 r n) = ∑ k : Fin 256, (H (ix2 ⟨512 * i.val + r.val, chunk_lt rfl i r⟩ ⟨256 * c.val + k.val, chunk_lt rfl c k⟩) : EReal)
      * B (ix2 ⟨256 * c.val + k.val, chunk_lt rfl c k⟩ ⟨256 * j.val + n.val, chunk_lt rfl j n⟩) := by
  unfold part
  pointwise
  refine Finset.sum_congr rfl fun k _ => ?_
  rw [tile_apply, tile_apply]

/-- The chunks added up to the `n`-th, at a place. -/
theorem accN_apply (H : Vec Ideal S2048x4096 .bf16) (B : Vec Ideal S4096x512 .bf16) (i : Fin 4) (j : Fin 2) (x : S512x256.Idx) :
    ∀ n : ℕ, (accN H B i j n x : EReal) = ∑ c ∈ Finset.range (n + 1), (part H B i j (Fin.ofNat 16 c) x : EReal)
  | 0 => by rw [Finset.sum_range_one]; rfl
  | n + 1 => by
    rw [Finset.sum_range_succ, ← accN_apply H B i j x n]; rfl

/-- The product of the blocks at a place. -/
theorem acc_apply (H : Vec Ideal S2048x4096 .bf16) (B : Vec Ideal S4096x512 .bf16) (i : Fin 4) (j : Fin 2) (r : Fin 512) (n : Fin 256) :
    acc H B i j (ix2 r n) = ∑ k : Fin 4096, (H (ix2 ⟨512 * i.val + r.val, chunk_lt rfl i r⟩ k) : EReal)
      * B (ix2 k ⟨256 * j.val + n.val, chunk_lt rfl j n⟩) := by
  refine Eq.trans ?_ (sum_chunks (p := 16) (b := 256) (n := 4096) rfl fun k => (H (ix2 ⟨512 * i.val + r.val, chunk_lt rfl i r⟩ k) : EReal)
      * B (ix2 k ⟨256 * j.val + n.val, chunk_lt rfl j n⟩))
  refine Eq.trans ?_ (Finset.sum_congr rfl fun c _ => part_apply H B i j c r n)
  exact (accN_apply H B i j (ix2 r n) 15).trans (Fin.sum_univ_eq_sum_range (fun c => (part H B i j (Fin.ofNat 16 c) (ix2 r n) : EReal)) 16).symm |>.trans
    (Finset.sum_congr rfl fun c _ => by rw [Fin.ofNat_val_eq_self])

/-- The section's last step on one number. -/
def fin : Sec → EReal → EReal
  | .q, a => a * ((Real.sqrt 128)⁻¹ * (Real.log 2)⁻¹ : ℝ)
  | .p, a => a
  | .g, a => Ideal.logistic a

/-- A section's epilogue at a place. -/
theorem epi_apply (s : Sec) (a : FVec Ideal S512x256 .f32) (x : S512x256.Idx) : (epi s a x : EReal) = fin s (a x) := by
  cases s
  · have hκ : Named.named (F := Ideal) κ "q_scale" (φ := .f32) 0x3E0293EE#32 = (((Real.sqrt 128)⁻¹ * (Real.log 2)⁻¹ : ℝ) : EReal) :=
      IdealRules.named_const.ideal_named_scalar _ _ _ _ rfl
    simp only [epi, epiQ, fin]
    rw [hκ]; rfl
  · rfl
  · rfl

/-- A point's output block at a place. -/
theorem outBlk_apply (s : Sec) (H : Vec Ideal S2048x4096 .bf16) (B : Vec Ideal S4096x512 .bf16) (y : S2048x512.Idx) :
    (outBlk (epi s) H B y : EReal) = fin s (∑ k : Fin 4096, (H (ix2 (y 0) k) : EReal) * B (ix2 k (y 1))) :=
  ofTiles_eq (p0 := 4) (p1 := 2) (b0 := 512) (b1 := 256) (n0 := 2048) (n1 := 512) rfl rfl _
    (fun r n => fin s (∑ k : Fin 4096, (H (ix2 r k) : EReal) * B (ix2 k n)))
    (fun i j r n => (epi_apply s _ _).trans (congrArg (fin s) (acc_apply H B i j r n))) y

/-- The transposed block at a place. -/
theorem castBlk_apply (W : Vec Ideal S512x4096 .f32) (y : S4096x512.Idx) : (castBlk W y : EReal) = W (ix2 (y 1) (y 0)) :=
  ofTiles_eq (p0 := 16) (p1 := 1) (b0 := 256) (b1 := 512) (n0 := 4096) (n1 := 512) rfl rfl _
    (fun k n => W (ix2 n k)) (fun c z k n => by
      unfold castTile
      pointwise [k0_pay3]
      rw [tile_apply]
      blk_ext) y

end Cert.KernelIdeal.Hand

end
-- ==== Proof.Final.lean ====
/- The array the program leaves, at the ideal instance. -/
module

public import proofs.«01_k».proof.Proof.Body
public import proofs.«01_k».proof.Proof.Value

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Tiles

variable (m : (ℓ : Loc nD τ sig) → Buf (Elt Ideal) ℓ)

/-- The section of a column of the result. -/
def secOf (n : ℕ) : Sec := if n < 2048 then .q else if n < 6144 then .p else .g

/-- What the program computes: the columns of the projection from 6160 on, each section finished in its way. -/
def G (H : Vec Ideal S8192x4096 .bf16) (W : Vec Ideal S1x4096x20496 .f32) (y : S8192x14336.Idx) : EReal :=
  fin (secOf (y 1).val) (∑ k : Fin 4096, (H (ix2 (y 0) k) : EReal) * W (ix3 0 k ⟨6160 + (y 1).val, by have := (y 1).isLt; have : S8192x14336.size 1 = 14336 := rfl; omega⟩))

/-- Where the windows' blocks sit at a point after the first. -/
theorem idx : ∀ t : Fin cfg0.N, t.val ≠ 0 → win0_0.index t = ![(t.val - 1) / 28, 0] ∧ win0_2.index t = ![(t.val - 1) / 28, (t.val - 1) % 28] :=
  (by decide +kernel : ∀ t : Fin grid0.N, t.val ≠ 0 → win0_0.index t = ![(t.val - 1) / 28, 0] ∧ win0_2.index t = ![(t.val - 1) / 28, (t.val - 1) % 28])

/-- Where the weights' block sits at a point before the last. -/
theorem idxW : ∀ t : Fin cfg0.N, t.val ≠ 112 → win0_1.index t = ![6160 + 512 * (t.val % 28), 0] :=
  (by decide +kernel : ∀ t : Fin grid0.N, t.val ≠ 112 → win0_1.index t = ![6160 + 512 * (t.val % 28), 0])

/-- The first point's block is not written back. -/
theorem flush_pos : ∀ t : Fin cfg0.N, (cfg0.win 2).flush t = true → t.val ≠ 0 :=
  (by decide +kernel : ∀ t : Fin grid0.N, (cfg0.win 2).flush t = true → t.val ≠ 0)

/-- The weights' array as the region finds it: the transpose of the argument. -/
theorem entry_w (c : Dev nD) (x : S20496x4096.Idx) : V m c main_v1 x = m ((c : Thread nD τ).loc main_arg1) (ix3 0 (x 1) (x 0)) := by
  entry_read
  pointwise

/-- A column's section is its point's. -/
theorem sec_eq (t n : ℕ) (h : n < 512) : secOf (512 * ((t - 1) % 28) + n) = secAt t := by
  unfold secOf secAt
  have : (t - 1) % 28 < 28 := Nat.mod_lt _ (by decide)
  split_ifs <;> first | rfl | omega

/-- The activations' block at a point after the first, at a place. -/
theorem h_read (c : Dev nD) (t : Fin cfg0.N) (ht : t.val ≠ 0) (r : Fin 2048) (k : Fin 4096) (h : 2048 * ((t.val - 1) / 28) + r.val < 8192) :
    hAt m c t (ix2 r k) = m ((c : Thread nD τ).loc main_arg0) (ix2 ⟨2048 * ((t.val - 1) / 28) + r.val, h⟩ k) := by
  have e := (idx t ht).1
  blk_point [hAt, iblk, V_main_arg0, e]

/-- The weights that a point after the first multiplies, at a place. -/
theorem wb_read (c : Dev nD) (n : ℕ) (hn : n + 1 < cfg0.N) (k : Fin 4096) (j : Fin 512) (h : 6160 + (512 * (n % 28) + j.val) < 20496) :
    (wbAt m c (n + 1) hn (ix2 k j) : EReal) = m ((c : Thread nD τ).loc main_arg1) (ix3 0 k ⟨6160 + (512 * (n % 28) + j.val), h⟩) := by
  have e := idxW ⟨n, Nat.lt_of_succ_lt hn⟩ (by have : cfg0.N = 113 := rfl; show n ≠ 112; omega)
  refine (castBlk_apply _ _).trans ?_
  have e' : ∀ y, wAt m c ⟨n, Nat.lt_of_succ_lt hn⟩ y = V m c main_v1 (ix2 ⟨6160 + (512 * (n % 28) + (y 0).val), by have := (y 0).isLt; have : S512x4096.size 0 = 512 := rfl; omega⟩ (y 1)) := fun y => by
    refine congrArg (V m c main_v1) (funext fun a => Fin.ext ?_)
    refine (win0_1.rect_emb_val_off ⟨n, Nat.lt_of_succ_lt hn⟩ y a).trans ?_
    match a with
    | ⟨0, _⟩ =>
      show win0_1.index _ 0 + _ = _
      rw [e]
      exact Nat.add_assoc _ _ _
    | ⟨1, _⟩ =>
      show win0_1.index _ 1 + _ = _
      rw [e]
      exact Nat.zero_add _
  rw [e', entry_w]
  rfl

/-- A point's output block is its part of the result. -/
theorem out_apply (c : Dev nD) (n : ℕ) (hn : n + 1 < cfg0.N) (y : S2048x512.Idx) (h0 : 2048 * (n / 28) + (y 0).val < 8192)
    (h1 : 512 * (n % 28) + (y 1).val < 14336) :
    (outAt m c ⟨n + 1, hn⟩ y : EReal) = G (m ((c : Thread nD τ).loc main_arg0)) (m ((c : Thread nD τ).loc main_arg1))
      (ix2 ⟨2048 * (n / 28) + (y 0).val, h0⟩ ⟨512 * (n % 28) + (y 1).val, h1⟩) := by
  have eH : ∀ k, (hAt m c ⟨n + 1, hn⟩ (ix2 (y 0) k) : EReal) = m ((c : Thread nD τ).loc main_arg0) (ix2 ⟨2048 * (n / 28) + (y 0).val, h0⟩ k) :=
    fun k => h_read m c ⟨n + 1, hn⟩ (Nat.succ_ne_zero n) (y 0) k h0
  have eW : ∀ k, (wbAt m c (n + 1) hn (ix2 k (y 1)) : EReal) = m ((c : Thread nD τ).loc main_arg1) (ix3 0 k ⟨6160 + (512 * (n % 28) + (y 1).val), by omega⟩) :=
    fun k => wb_read m c n hn k (y 1) _
  unfold outAt
  rw [outBlk_apply]
  simp only [eH, eW]
  rw [← sec_eq (n + 1) (y 1).val (y 1).isLt]
  rfl

/-- The array the program leaves. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have h0 := flush_pos t hf
  obtain ⟨n, hn⟩ := t
  match n, hn with
  | 0, _ => exact absurd rfl h0
  | n + 1, hn =>
    have e : win0_2.index ⟨n + 1, hn⟩ = ![n / 28, n % 28] := (idx ⟨n + 1, hn⟩ h0).2
    have htl : n + 1 < 113 := hn
    have y0 : (y 0).val < 2048 := (y 0).isLt
    have y1 : (y 1).val < 512 := (y 1).isLt
    have hd : n / 28 < 4 := by omega
    have hm : n % 28 < 28 := Nat.mod_lt _ (by decide)
    have emb : ((cfg0.win 2).blk ⟨n + 1, hn⟩).view.emb y
        = ix2 ⟨2048 * (n / 28) + (y 0).val, by omega⟩ ⟨512 * (n % 28) + (y 1).val, by omega⟩ := by
      blk_ext [e]
    rw [emb, after_2]
    blk_simp
    exact out_apply m c n hn y _ _

end Cert.KernelIdeal.Hand

end
-- ==== Proof.Equal.lean ====
/- The program's result is the reference's. -/
module

public import proofs.«01_k».proof.Defs
public import proofs.«01_k».proof.Proof.Final
public import proofs.«01_k».proof.Proof.Gen.ReferenceIdeal
public import Idealize.ShloMosaic.Lib.Quiescent
public import Idealize.ShloMosaic.Lib.Claim
public import Idealize.ShloMosaic.Lib.StableHlo.RunRead

@[expose] public section

set_option maxRecDepth 16384

noncomputable section

namespace Cert.Proof

open Idealize.ShloMosaic Idealize.ShloMosaic.TcCoe Idealize.SL.Sem

/-- Five arrays laid side by side, read array by array. -/
theorem concat5 {α : Type} (t : Shape) (a : Fin t.rank) {s0 s1 s2 s3 s4 : Shape} {x0 y0 : s0.Idx → α} {x1 y1 : s1.Idx → α} {x2 y2 : s2.Idx → α}
    {x3 y3 : s3.Idx → α} {x4 y4 : s4.Idx → α} (e0 : x0 = y0) (e1 : x1 = y1) (e2 : x2 = y2) (e3 : x3 = y3) (e4 : x4 = y4) (h) (h') :
    concatenate t a [⟨s0, x0⟩, ⟨s1, x1⟩, ⟨s2, x2⟩, ⟨s3, x3⟩, ⟨s4, x4⟩] h = concatenate t a [⟨s0, y0⟩, ⟨s1, y1⟩, ⟨s2, y2⟩, ⟨s3, y3⟩, ⟨s4, y4⟩] h' := by
  subst e0 e1 e2 e3 e4; rfl

section Terms

open Cert.ReferenceIdeal Cert.ReferenceIdeal.Gen

/-- The reference's projection. -/
def proj (H : FVec Ideal S8192x4096 .bf16) (W : FVec Ideal S1x4096x20496 .f32) : FVec Ideal S8192x20496 .f32 :=
  Host.dotGeneral dot_S8192x4096_S4096x20496_S8192x20496_1_0_0_1_n_n none (extf .f32 H bitsLt_bf16_f32)
    (shapeCast S4096x20496 W shapeCasts_S1x4096x20496_S4096x20496)

/-- The reference's queries, from the projection. -/
def qOf (P : FVec Ideal S8192x20496 .f32) : FVec Ideal S8192x2048 .f32 :=
  Host.divf (Host.divf (extractStridedSlice S8192x2048 ![0, 6160] P slices_S8192x20496_S8192x2048_0_6160)
    (broadcastInDim S8192x2048 ![] bcast_S_S8192x2048 (Host.sqrt (constant S_ .f32 0x43000000#32))))
    (broadcastInDim S8192x2048 ![] bcast_S_S8192x2048 (Host.log (constant S_ .f32 0x40000000#32)))

/-- The reference's sigmoid. -/
def sigm (X : FVec Ideal S8192x4096 .f32) : FVec Ideal S8192x4096 .f32 :=
  Host.divf (broadcastInDim S8192x4096 ![] bcast_S_S8192x4096 (constant S_ .f32 0x3F800000#32))
    (addf (broadcastInDim S8192x4096 ![] bcast_S_S8192x4096 (constant S_ .f32 0x3F800000#32)) (Host.exp (Host.negf X)))

/-- The reference's result, from the projection. -/
def refOf (P : FVec Ideal S8192x20496 .f32) : FVec Ideal S8192x14336 .bf16 :=
  truncf .bf16 (concatenate S8192x14336 1
    [⟨S8192x2048, qOf P⟩,
     ⟨S8192x2048, extractStridedSlice S8192x2048 ![0, 8208] P slices_S8192x20496_S8192x2048_0_8208⟩,
     ⟨S8192x2048, extractStridedSlice S8192x2048 ![0, 10256] P slices_S8192x20496_S8192x2048_0_10256⟩,
     ⟨S8192x4096, sigm (extractStridedSlice S8192x4096 ![0, 12304] P slices_S8192x20496_S8192x4096_0_12304)⟩,
     ⟨S8192x4096, sigm (extractStridedSlice S8192x4096 ![0, 16400] P slices_S8192x20496_S8192x4096_0_16400)⟩]
    concatenates_S8192x2048_S8192x2048_S8192x2048_S8192x4096_S8192x4096_S8192x14336_d1) bitsLt_bf16_f32

end Terms

/-- What the reference's run leaves: the result, and its arguments as they were. -/
theorem run_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v27) = refOf (proj (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) := by
  refine θ_run_mono (StableHlo.run_hlo _ _ (by hlo_seq) (by decide) (by decide) (by simp)
      (by intro _ h; (repeat (cases h with | head => rfl | tail _ h => ?_)); exact nomatch h) _ _) fun r hr c => ⟨?_, ?_, ?_⟩
  · rw [hr c]
    after_reads_simp
    refine congrArg (fun z => truncf .bf16 z _) (concat5 _ _ ?_ ?_ ?_ ?_ ?_ _ _)
    · show StableHlo.upto _ _ _ (Proc.devRef .tc Cert.ReferenceIdeal.main_v13) = _
      after_reads_simp; rfl
    · show StableHlo.upto _ _ _ (Proc.devRef .tc Cert.ReferenceIdeal.main_v4) = _
      after_reads_simp; rfl
    · show StableHlo.upto _ _ _ (Proc.devRef .tc Cert.ReferenceIdeal.main_v5) = _
      after_reads_simp; rfl
    · show StableHlo.upto _ _ _ (Proc.devRef .tc Cert.ReferenceIdeal.main_v19) = _
      after_reads_simp; rfl
    · show StableHlo.upto _ _ _ (Proc.devRef .tc Cert.ReferenceIdeal.main_v25) = _
      after_reads_simp; rfl
  · rw [hr c]
    after_reads_simp
  · rw [hr c]
    after_reads_simp

/-- The reference runs to its end, its arguments unchanged, every counter at zero. -/
theorem frame_reference : Cert.quiescent_ReferenceIdeal := fun m g _ =>
  θ_run_mono (run_reference m g) fun r h => ⟨fun c => (h c).2, sem_eq_zero_of_no_sems (by decide) r.2⟩

section Values

open Cert.ReferenceIdeal Cert.KernelIdeal.Hand

/-- The constant of the reference's root. -/
theorem ofBits_128 : Ideal.ofBits .f32 0x43000000#32 = ((128 : ℝ) : EReal) := by
  simp [Ideal.ofBits, Ideal.ieee, -EReal.coe_mul]; norm_num

/-- The constant of the reference's logarithm. -/
theorem ofBits_two : Ideal.ofBits .f32 0x40000000#32 = ((2 : ℝ) : EReal) := by
  simp [Ideal.ofBits, Ideal.ieee, -EReal.coe_mul]; norm_num

/-- The projection at a place. -/
theorem proj_apply (H : FVec Ideal S8192x4096 .bf16) (W : FVec Ideal S1x4096x20496 .f32) (r : Fin 8192) (n : Fin 20496) :
    (proj H W (ix2 r n) : EReal) = ∑ k : Fin 4096, (H (ix2 r k) : EReal) * W (ix3 0 k n) := by
  pointwise [proj]

/-- Dividing by the root and by the logarithm is multiplying by their reciprocals' product. -/
theorem scale_eq (a : EReal) : Ideal.div (Ideal.div a (Ideal.sqrt (Ideal.ofBits .f32 0x43000000#32))) (Ideal.log (Ideal.ofBits .f32 0x40000000#32))
    = a * ((Real.sqrt 128)⁻¹ * (Real.log 2)⁻¹ : ℝ) := by
  have h1 : Real.sqrt 128 ≠ 0 := by positivity
  have h2 : Real.log 2 ≠ 0 := (Real.log_pos (by norm_num)).ne'
  rw [ofBits_128, ofBits_two, Ideal.sqrt_coe, Ideal.log_coe, if_neg (by norm_num), if_neg (by norm_num), Ideal.div_coe h1, Ideal.div_coe h2,
    one_div, one_div, mul_assoc, ← EReal.coe_mul]

/-- The queries at a place. -/
theorem qOf_apply (P : FVec Ideal S8192x20496 .f32) (r : Fin 8192) (n : Fin 2048) :
    (qOf P (ix2 r n) : EReal) = fin .q (P (ix2 r ⟨6160 + n.val, by omega⟩)) := by
  refine Eq.trans ?_ (scale_eq _)
  pointwise [qOf]

/-- The sigmoid at a place. -/
theorem sigm_apply (X : FVec Ideal S8192x4096 .f32) (y : S8192x4096.Idx) : (sigm X y : EReal) = fin .g (X y) := by
  pointwise [sigm]
  rfl

/-- Both compute the same result. -/
theorem values (H : FVec Ideal S8192x4096 .bf16) (W : FVec Ideal S1x4096x20496 .f32) :
    refOf (proj H W) = G H W := by
  funext y
  obtain ⟨r, n, rfl⟩ : ∃ (r : Fin 8192) (n : Fin 14336), y = ix2 r n := ⟨y 0, y 1, eq_ix2 y⟩
  have hn := n.isLt
  have e : G H W (ix2 r n) = fin (secOf n.val) (proj H W (ix2 r ⟨6160 + n.val, by omega⟩)) := congrArg (fin _) (proj_apply H W r _).symm
  rw [e]
  generalize proj H W = P
  have pe : ∀ (i : ℕ) (hi : i < 20496), i = 6160 + n.val → P (ix2 r ⟨i, hi⟩) = P (ix2 r ⟨6160 + n.val, by omega⟩) := by
    rintro _ _ rfl; rfl
  have sec : ∀ s, secOf n.val = s → ∀ z : EReal, z = fin s (P (ix2 r ⟨6160 + n.val, by omega⟩)) → z = fin (secOf n.val) (P (ix2 r ⟨6160 + n.val, by omega⟩)) := by
    rintro _ rfl _ h; exact h
  have gate : ∀ (o : ℕ) (hs : S8192x20496.Slices ![0, o] S8192x4096) (i : Fin 4096), o + i.val = 6160 + n.val →
      (sigm (extractStridedSlice S8192x4096 ![0, o] P hs) (ix2 r i) : EReal) = fin .g (P (ix2 r ⟨6160 + n.val, by omega⟩)) := fun o hs i hi => by
    refine (sigm_apply _ _).trans (congrArg (fin .g) ?_)
    pointwise
    exact pe _ _ hi
  unfold refOf
  pointwise
  by_cases h1 : n.val < 2048
  · exact (dif_pos h1).trans (sec .q (if_pos h1) _ (qOf_apply P r ⟨n.val, h1⟩))
  refine (dif_neg h1).trans ?_
  by_cases h2 : n.val - 2048 < 2048
  · exact (dif_pos h2).trans (sec .p ((if_neg h1).trans (if_pos (by omega))) _ (pe _ _ (by omega)))
  refine (dif_neg h2).trans ?_
  by_cases h3 : n.val - 2048 - 2048 < 2048
  · exact (dif_pos h3).trans (sec .p ((if_neg h1).trans (if_pos (by omega))) _ (pe _ _ (by omega)))
  refine (dif_neg h3).trans (sec .g ((if_neg h1).trans (if_neg (by omega))) _ ?_)
  by_cases h4 : n.val - 2048 - 2048 - 2048 < 4096
  · exact (dif_pos h4).trans (gate 12304 _ ⟨_, _⟩ (by show 12304 + (n.val - 2048 - 2048 - 2048) = _; omega))
  · exact (dif_neg h4).trans (gate 16400 _ ⟨_, _⟩ (by show 16400 + (n.val - 2048 - 2048 - 2048 - 4096) = _; omega))

end Values

/-- The program and the reference leave the same result. -/
theorem algebraic : Cert.algebraic_KernelIdeal_ReferenceIdeal := by
  pair_intro
  · run_from Cert.KernelIdeal.Hand.run_main m g
  · run_from run_reference m' g'
    exact (values _ _).trans (Cert.KernelIdeal.Hand.final m c).symm

end Cert.Proof

end
-- ==== Proof.DownValue.lean ====
/- The down projection: the array it leaves is the reference's. -/
module

public import proofs.«01_k».proof.Proof.Gen.Kernel2Ideal.Value
public import proofs.«01_k».proof.Proof.Gen.Reference2Ideal.Run
public import proofs.«01_k».proof.Proof.Chunks
public import Idealize.ShloMosaic.Lib.Pipeline.ValueKit
public import Idealize.ShloMosaic.Lib.Claim
public import Idealize.ShloMosaic.Lib.Pipeline.ReadBack

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The reference's array, of the gated hidden rows, the weights and the residual stream. -/
abbrev down (a : FVec Ideal S8192x11008 .bf16) (w : FVec Ideal S1x11008x4096 .f32) (x : FVec Ideal S8192x4096 .f32) :
    FVec Ideal S8192x4096 .f32 :=
  addf x (Host.dotGeneral Cert.Reference2Ideal.dot_S8192x11008_S11008x4096_S8192x4096_1_0_0_1_n_n none
    (extf .f32 a Cert.Reference2Ideal.Gen.bitsLt_bf16_f32) (shapeCast _ w Cert.Reference2Ideal.Gen.shapeCasts_S1x11008x4096_S11008x4096))

/-- Every window's block index at every point. -/
theorem idx_val : ∀ t : Fin cfg0.N, win0_0.index t = ![t.val / 16, t.val % 2]
    ∧ win0_1.index t = ![t.val % 2, t.val / 2 % 8]
    ∧ win0_2.index t = ![t.val / 16, t.val / 2 % 8]
    ∧ win0_3.index t = ![t.val / 16, t.val / 2 % 8] :=
  (by decide +kernel : ∀ t : Fin grid0.N, _)

/-- What a point adds to the running block. -/
theorem hpay (acc : FVec Ideal S1024x512 .f32) (x1 : FVec Ideal S1024x5504 .bf16) (x0 : FVec Ideal S5504x512 .bf16) (j : S1024x512.Idx) :
    k0_pay2 acc x1 x0 j = acc j + ∑ k : Fin 5504, x1 (ix2 (j 0) k) * x0 (ix2 k (j 1)) := by
  pointwise [k0_pay2]

/-- The running block starts as the residual stream's. -/
theorem hstart (x : FVec Ideal S1024x512 .f32) (j : S1024x512.Idx) : k0_pay1 x j = x j := by
  pointwise [k0_pay1]

/-- The reference at an index. -/
theorem href (a : FVec Ideal S8192x11008 .bf16) (w : FVec Ideal S1x11008x4096 .f32) (x : FVec Ideal S8192x4096 .f32) (j) :
    down a w x j = x j + ∑ k : Fin 11008, a (ix2 (j 0) k) * w (ix3 0 k (j 1)) := by
  pointwise [down]

set_option maxHeartbeats 1600000 in
/-- The array after the run. -/
theorem final (c : Dev nD) : (dats m 0 c).arrAt 3 (cfgs 0).N = down (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  have h1 : t.val % 2 = 1 := (flush0_3 t).mp hf
  have hN : t.val < 128 := lt_of_lt_of_eq t.isLt N_0
  rw [outsAt0_B m c t (by omega) h1]
  rw [outsAt0_A m c ⟨t.val - 1, lt_of_lt_of_eq (by omega : t.val - 1 < 128) N_0.symm⟩ (by show (t.val - 1) % 2 = 0; omega) (by show ¬ (t.val - 1) % 2 = 1; omega)]
  frame_out
  rw [read_unread_whole, hpay, hpay, hstart, href]
  rw [← Cert.Tiles.sum_chunks (p := 2) (b := 5504) (n := 11008) (by decide), Fin.sum_univ_two, add_assoc]
  blk_point [iblk, V, idx_val t, idx_val ⟨t.val - 1, lt_of_lt_of_eq (by omega : t.val - 1 < 128) N_0.symm⟩]

end Cert.Kernel2Ideal.Hand

end
-- ==== Proof.Down.lean ====
/- The claims of the down projection's call: both frames off the one run, the reference's frame, and the values. -/
module

public import proofs.«01_k».proof.Defs
public import proofs.«01_k».proof.Proof.DownValue
public import proofs.«01_k».proof.Proof.Gen.Kernel2
public import Idealize.ShloMosaic.Lib.Quiescent
public import Idealize.ShloMosaic.Lib.Claim

@[expose] public section

set_option maxRecDepth 16384

noncomputable section

namespace Cert.Proof.Down

open Idealize.ShloMosaic Idealize.SL.Sem

/-- The kernel's frame: its text is the idealization's, so the one run serves. -/
theorem frame_kernel : Cert.quiescent_Kernel2 := by
  have h := fun m ρ (_ : True) => Cert.Kernel2Ideal.Gen.frame (F := Bits) m ρ
  exact cast (by sl_kernel_rfl) h

/-- The idealized kernel's frame. -/
theorem frame_kernelIdeal : Cert.quiescent_Kernel2Ideal := fun m ρ _ => Cert.Kernel2Ideal.Gen.frame (F := Ideal) m ρ

/-- The reference's frame. -/
theorem frame_reference : Cert.quiescent_Reference2Ideal := fun m g _ =>
  θ_run_mono (Cert.Reference2Ideal.Value.run m g) fun r h => ⟨fun c => (h c).2, sem_eq_zero_of_no_sems (by decide) r.2⟩

/-- The program and the reference leave the same array. -/
theorem algebraic : Cert.algebraic_Kernel2Ideal_Reference2Ideal := by
  pair_intro
  · run_from Cert.Kernel2Ideal.Gen.run_main m g
  · run_from Cert.Reference2Ideal.Value.run m' g'
    exact (Cert.Kernel2Ideal.Hand.final m c).symm

end Cert.Proof.Down

end
-- ==== Proof.PleValue.lean ====
/- The per-layer embedding call: the array it leaves is the reference's. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Claim

@[expose] public section

set_option maxRecDepth 16384

noncomputable section

namespace Cert.Kernel3Ideal.Hand

open Cert.Kernel3Ideal Cert.Kernel3Ideal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The reference's array, of the normalised rows, the gate's weights, the embedding, its projection and the residual. -/
abbrev ple (h : FVec Ideal S8192x4096 .bf16) (wg : FVec Ideal S1x4096x4096 .f32) (p : FVec Ideal S1x1x8192x256 .f32)
    (wp : FVec Ideal S1x256x4096 .f32) (x : FVec Ideal S8192x4096 .f32) : FVec Ideal S8192x4096 .f32 :=
  addf x (mulf (Host.divf (broadcastInDim Cert.Reference3Ideal.S8192x4096 ![] Cert.Reference3Ideal.Gen.bcast_S_S8192x4096 (constant Cert.Reference3Ideal.S_ .f32 0x3F800000#32))
    (addf (broadcastInDim Cert.Reference3Ideal.S8192x4096 ![] Cert.Reference3Ideal.Gen.bcast_S_S8192x4096 (constant Cert.Reference3Ideal.S_ .f32 0x3F800000#32))
      (Host.exp (Host.negf (Host.dotGeneral Cert.Reference3Ideal.dot_S8192x4096_S4096x4096_S8192x4096_1_0_0_1_n_n none
        (extf .f32 h Cert.Reference3Ideal.Gen.bitsLt_bf16_f32) (shapeCast _ wg Cert.Reference3Ideal.Gen.shapeCasts_S1x4096x4096_S4096x4096))))))
    (Host.dotGeneral Cert.Reference3Ideal.dot_S8192x256_S256x4096_S8192x4096_1_0_0_1_n_n none
      (shapeCast _ p Cert.Reference3Ideal.Gen.shapeCasts_S1x1x8192x256_S8192x256) (shapeCast _ wp Cert.Reference3Ideal.Gen.shapeCasts_S1x256x4096_S256x4096)))

/-- Every window's block index at every point. -/
theorem idx_val : ∀ t : Fin cfg0.N, win0_0.index t = ![t.val / 8, 0]
    ∧ win0_1.index t = ![0, t.val % 8]
    ∧ win0_2.index t = ![t.val / 8, 0]
    ∧ win0_3.index t = ![0, t.val % 8]
    ∧ win0_4.index t = ![t.val / 8, t.val % 8]
    ∧ win0_5.index t = ![t.val / 8, t.val % 8] :=
  (by decide +kernel : ∀ t : Fin grid0.N, _)

set_option maxHeartbeats 1600000 in
/-- At a point's two column halves, what the body stores is the reference's value there. -/
theorem point (c : Dev nD) (t : Fin cfg0.N) (y) :
    out0_5 (iblk m c 0 t) (iblk m c 1 t) (iblk m c 2 t) (iblk m c 3 t) (iblk m c 4 t) y
      = ple (m ((c : Thread nD τ).loc main_arg0)) (m ((c : Thread nD τ).loc main_arg1)) (m ((c : Thread nD τ).loc
        main_arg2)) (m ((c : Thread nD τ).loc main_arg3)) (m ((c : Thread nD τ).loc main_arg4)) (((cfg0.win 5).blk
        t).view.emb y) := by
  canon_tiles x h; all_goals (open_payloads; pointwise [ple]; simp only [Ideal.logistic]; blk_point [iblk, V, idx_val t])

/-- The array after the run. -/
theorem final (c : Dev nD) : (dats m 0 c).arrAt 5 (cfgs 0).N = ple (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  exact point m c t y

end Cert.Kernel3Ideal.Hand

end
-- ==== Proof.Ple.lean ====
/- The claims of the per-layer embedding's call: both frames off the one run, the reference's frame, and the values. -/
module

public import proofs.«01_k».proof.Defs
public import proofs.«01_k».proof.Proof.PleValue
public import proofs.«01_k».proof.Proof.Gen.Kernel3
public import Idealize.ShloMosaic.Lib.Quiescent
public import Idealize.ShloMosaic.Lib.Claim

@[expose] public section

set_option maxRecDepth 16384

noncomputable section

namespace Cert.Proof.Ple

open Idealize.ShloMosaic Idealize.SL.Sem

/-- The kernel's frame: its text is the idealization's, so the one run serves. -/
theorem frame_kernel : Cert.quiescent_Kernel3 := by
  have h := fun m ρ (_ : True) => Cert.Kernel3Ideal.Gen.frame (F := Bits) m ρ
  exact cast (by sl_kernel_rfl) h

/-- The idealized kernel's frame. -/
theorem frame_kernelIdeal : Cert.quiescent_Kernel3Ideal := fun m ρ _ => Cert.Kernel3Ideal.Gen.frame (F := Ideal) m ρ

/-- The reference's frame. -/
theorem frame_reference : Cert.quiescent_Reference3Ideal := fun m g _ =>
  θ_run_mono (Cert.Reference3Ideal.Value.run m g) fun r h => ⟨fun c => (h c).2, sem_eq_zero_of_no_sems (by decide) r.2⟩

/-- The program and the reference leave the same array. -/
theorem algebraic : Cert.algebraic_Kernel3Ideal_Reference3Ideal := by
  pair_intro
  · run_from Cert.Kernel3Ideal.Gen.run_main m g
  · run_from Cert.Reference3Ideal.Value.run m' g'
    exact (Cert.Kernel3Ideal.Hand.final m c).symm

end Cert.Proof.Ple

end
-- ==== Proof.Stack.lean ====
/- Arrays of rank two filled by stores of equal blocks of whole rows, one under the other: the list of the stores, and what
   they leave. -/
module

public import Idealize.ShloMosaic.Lib.Pipeline.ValueKit
public import Idealize.ShloMosaic.Lib.Pipeline.ReadBack
public import Idealize.ShloMosaic.Lib.WritesUnit

@[expose] public section

noncomputable section

namespace Cert.Tiles

open Idealize.ShloMosaic Idealize.SL.Sem

/-- The array of `p` blocks of `b` rows whose block `i` is `P i`. -/
def ofRows {α : Type} {p b n w : ℕ} (h : n = p * b) (P : Fin p → (⟨2, ![b, w]⟩ : Shape).Idx → α) (y : (⟨2, ![n, w]⟩ : Shape).Idx) : α :=
  have e : (y 0).val < p * b := h ▸ (y 0).isLt
  P ⟨(y 0).val / b, Nat.div_lt_of_lt_mul (Nat.mul_comm p b ▸ e)⟩
    (ix2 ⟨(y 0).val % b, Nat.mod_lt _ (Nat.pos_of_ne_zero fun h => by simp [h] at e)⟩ ⟨(y 1).val, (y 1).isLt⟩)

/-- Row `b * i + r` of it is row `r` of block `i`. -/
theorem ofRows_apply {α : Type} {p b n w : ℕ} (h : n = p * b) (P : Fin p → (⟨2, ![b, w]⟩ : Shape).Idx → α) (i : Fin p) (r : Fin b)
    (y : (⟨2, ![n, w]⟩ : Shape).Idx) (hy : (y 0).val = b * i.val + r.val) : ofRows h P y = P i (ix2 r ⟨(y 1).val, (y 1).isLt⟩) := by
  have aux : ∀ {i' : Fin p} {r' : Fin b}, i' = i → r' = r →
      P i' (ix2 r' ⟨(y 1).val, (y 1).isLt⟩) = P i (ix2 r ⟨(y 1).val, (y 1).isLt⟩) := by rintro _ _ rfl rfl; rfl
  have hb : 0 < b := Nat.lt_of_le_of_lt (Nat.zero_le _) r.isLt
  refine aux (Fin.ext ?_) (Fin.ext ?_)
  · show (y 0).val / b = _
    rw [hy, Nat.mul_add_div hb, Nat.div_eq_of_lt r.isLt, Nat.add_zero]
  · show (y 0).val % b = _
    rw [hy, Nat.mul_add_mod, Nat.mod_eq_of_lt r.isLt]

/-- Block `k` lies in the array of the blocks from row `o` on. -/
theorem stack_inb {p b n w o : ℕ} (h : n = o + p * b) (k : ℕ) (hk : k < p) :
    ∀ a, (![o + b * k, 0] : Fin 2 → ℕ) a + (![b, w] : Fin 2 → ℕ) a ≤ (⟨2, ![n, w]⟩ : Shape).size a := by
  have k0 : o + b * k + b ≤ n := by
    rw [h, Nat.add_assoc, Nat.mul_comm p, ← Nat.mul_succ]; exact Nat.add_le_add_left (Nat.mul_le_mul_left _ hk) _
  intro a
  match a with
  | ⟨0, _⟩ => exact k0
  | ⟨1, _⟩ => exact Nat.le_of_eq (Nat.zero_add w)

/-- The stores of the first `k` blocks from row `o` on, the newest first, over earlier stores `T`. -/
def stack {Val : EltTy → Type} {e : EltTy} {p b n w : ℕ} (o : ℕ) (h : n = o + p * b) (P : Fin p → (⟨2, ![b, w]⟩ : Shape).Idx → Val e)
    (T : List (View.Piece Val ⟨2, ![n, w]⟩ e)) : (k : ℕ) → k ≤ p → List (View.Piece Val ⟨2, ![n, w]⟩ e)
  | 0, _ => T
  | k + 1, hk => ⟨Rect.unit (s := ⟨2, ![n, w]⟩) ![o + b * k, 0] ![b, w] (stack_inb h k hk), P ⟨k, hk⟩⟩ :: stack o h P T k (Nat.le_of_succ_le hk)

variable {Val : EltTy → Type} {e : EltTy} {sig : RefSig} {κ : Kind} {sp : Space} {p b n w : ℕ}

/-- A row of a block reads that block. -/
theorem read_stack_ge (v : View sig κ sp (⟨2, ![n, w]⟩ : Shape) e) (f : v.ty.Contents Val) (o : ℕ) (h : n = o + p * b)
    (P : Fin p → (⟨2, ![b, w]⟩ : Shape).Idx → Val e) (T : List (View.Piece Val ⟨2, ![n, w]⟩ e)) (y : (⟨2, ![n, w]⟩ : Shape).Idx)
    (i : Fin p) (r : Fin b) (hy : (y 0).val = o + b * i.val + r.val) :
    ∀ (k : ℕ) (hk : k ≤ p), i.val < k → v.read Val (v.writes Val f (stack o h P T k hk)) y = P i (ix2 r ⟨(y 1).val, (y 1).isLt⟩)
  | 0, _, hi => absurd hi (Nat.not_lt_zero _)
  | k + 1, hk, hi => by
    rcases Nat.lt_succ_iff_lt_or_eq.mp hi with hlt | heq
    · refine (View.read_writes_cons_rows_of_not_mem v f (stack_inb h k hk) _ _ y rfl rfl (Or.inl ?_)).trans
        (read_stack_ge v f o h P T y i r hy k _ hlt)
      have h1 : b * (i.val + 1) ≤ b * k := Nat.mul_le_mul_left _ hlt
      have h2 := r.isLt
      rw [Nat.mul_succ] at h1
      show (y 0).val < _
      omega
    · subst heq
      exact View.read_writes_cons_rows_of_mem v f (stack_inb h i.val hk) (P i) _ y (ix2 r ⟨(y 1).val, (y 1).isLt⟩) rfl hy rfl

/-- A row above the blocks reads what was there before. -/
theorem read_stack_lt (v : View sig κ sp (⟨2, ![n, w]⟩ : Shape) e) (f : v.ty.Contents Val) (o : ℕ) (h : n = o + p * b)
    (P : Fin p → (⟨2, ![b, w]⟩ : Shape).Idx → Val e) (T : List (View.Piece Val ⟨2, ![n, w]⟩ e)) (y : (⟨2, ![n, w]⟩ : Shape).Idx)
    (hy : (y 0).val < o) :
    ∀ (k : ℕ) (hk : k ≤ p), v.read Val (v.writes Val f (stack o h P T k hk)) y = v.read Val (v.writes Val f T) y
  | 0, _ => rfl
  | k + 1, hk => (View.read_writes_cons_rows_of_not_mem v f (stack_inb h k hk) _ _ y rfl rfl
      (Or.inl (Nat.lt_of_lt_of_le hy (Nat.le_add_right _ _)))).trans (read_stack_lt v f o h P T y hy k _)

/-- The stores of all the blocks leave the array of them. -/
theorem read_stack (v : View sig κ sp (⟨2, ![n, w]⟩ : Shape) e) (f : v.ty.Contents Val) (h : n = p * b)
    (P : Fin p → (⟨2, ![b, w]⟩ : Shape).Idx → Val e) (L : List (View.Piece Val ⟨2, ![n, w]⟩ e))
    (hL : L = stack 0 (h.trans (Nat.zero_add _).symm) P [] p (Nat.le_refl p)) : v.read Val (v.writes Val f L) = ofRows h P := by
  subst hL
  funext y
  have e : (y 0).val < p * b := h ▸ (y 0).isLt
  have hb : 0 < b := Nat.pos_of_ne_zero fun h => by simp [h] at e
  exact read_stack_ge v f 0 _ P [] y ⟨(y 0).val / b, Nat.div_lt_of_lt_mul (Nat.mul_comm p b ▸ e)⟩ ⟨(y 0).val % b, Nat.mod_lt _ hb⟩
    (by show (y 0).val = 0 + b * ((y 0).val / b) + (y 0).val % b; rw [Nat.zero_add, Nat.div_add_mod]) p _ (Nat.div_lt_of_lt_mul (Nat.mul_comm p b ▸ e))

/-- The array of `p` blocks under `o` rows of another. -/
def under {α : Type} {o : ℕ} (h : n = o + p * b) (top : (⟨2, ![o, w]⟩ : Shape).Idx → α) (P : Fin p → (⟨2, ![b, w]⟩ : Shape).Idx → α)
    (y : (⟨2, ![n, w]⟩ : Shape).Idx) : α :=
  if hy : (y 0).val < o then top (ix2 ⟨(y 0).val, hy⟩ ⟨(y 1).val, (y 1).isLt⟩)
  else ofRows (n := p * b) (w := w) rfl P (ix2 ⟨(y 0).val - o, by have : (y 0).val < n := (y 0).isLt; omega⟩ ⟨(y 1).val, (y 1).isLt⟩)

/-- A store of the first `o` rows and the stores of the blocks under them leave the array of both. -/
theorem read_under (v : View sig κ sp (⟨2, ![n, w]⟩ : Shape) e) (f : v.ty.Contents Val) (o : ℕ) (h : n = o + p * b)
    (top : (⟨2, ![o, w]⟩ : Shape).Idx → Val e) (P : Fin p → (⟨2, ![b, w]⟩ : Shape).Idx → Val e)
    (inb : ∀ a, (![0, 0] : Fin 2 → ℕ) a + (![o, w] : Fin 2 → ℕ) a ≤ (⟨2, ![n, w]⟩ : Shape).size a)
    (L : List (View.Piece Val ⟨2, ![n, w]⟩ e))
    (hL : L = stack o h P [⟨Rect.unit (s := ⟨2, ![n, w]⟩) ![0, 0] ![o, w] inb, top⟩] p (Nat.le_refl p)) :
    v.read Val (v.writes Val f L) = under h top P := by
  subst hL
  funext y
  unfold under
  split
  case isTrue hy =>
    rw [read_stack_lt v f o h P _ y hy]
    exact View.read_writes_cons_rows_of_mem v f inb top [] y (ix2 ⟨(y 0).val, hy⟩ ⟨(y 1).val, (y 1).isLt⟩) rfl (Nat.zero_add _).symm rfl
  case isFalse hy =>
    have hlt : (y 0).val < n := (y 0).isLt
    have e : (y 0).val - o < p * b := by omega
    have hb : 0 < b := Nat.pos_of_ne_zero fun h => by simp [h] at e
    exact read_stack_ge v f o h P _ y ⟨((y 0).val - o) / b, Nat.div_lt_of_lt_mul (Nat.mul_comm p b ▸ e)⟩ ⟨((y 0).val - o) % b, Nat.mod_lt _ hb⟩
      (by
        show (y 0).val = o + b * (((y 0).val - o) / b) + ((y 0).val - o) % b
        rw [Nat.add_assoc, Nat.div_add_mod]; omega) p _ (Nat.div_lt_of_lt_mul (Nat.mul_comm p b ▸ e))

end Cert.Tiles

end
-- ==== Proof.UpBlocks.lean ====
/- What one point of the up projection computes, block by block: the rows of the two products, each a sum of sixteen
   products; the rows carried from the tile above; the tile convolved and gated; and the next weight blocks rounded. -/
module

public import proofs.«01_k».proof.Proof.Gen.Kernel4Ideal.Skeleton
public import proofs.«01_k».proof.Proof.Gen.Kernel4Ideal.Frame
public import proofs.«01_k».proof.Proof.Tiles
public import proofs.«01_k».proof.Proof.Stack

@[expose] public section

set_option maxRecDepth 16384

noncomputable section

namespace Cert.Kernel4Ideal.Hand

open Idealize.ShloMosaic Idealize.SL.Sem
open Cert.Kernel4Ideal Cert.Kernel4Ideal.Gen Cert.Tiles

variable {F : FTy → Type} [FloatOps F]

/-- The product of chunk `c` of row block `i` of the activations and chunk `c` of the weights. -/
def part (H : Vec F S2048x4096 .bf16) (B : Vec F S4096x256 .bf16) (i : Fin 4) (c : Fin 16) : FVec F S512x256 .f32 :=
  matmul dot_S512x256_S256x256_S512x256_1_0_0_1_n_n none (tile (p0 := 4) (p1 := 16) (b0 := 512) (b1 := 256) rfl rfl H i c)
    (tile (p0 := 16) (p1 := 1) (b0 := 256) (b1 := 256) rfl rfl B c 0) (constant S512x256 .f32 0x00000000#32)

/-- The first `n + 1` of those products, added up from the left. -/
def accN (H : Vec F S2048x4096 .bf16) (B : Vec F S4096x256 .bf16) (i : Fin 4) : ℕ → FVec F S512x256 .f32
  | 0 => part H B i 0
  | n + 1 => addf (accN H B i n) (part H B i (Fin.ofNat 16 (n + 1)))

/-- All sixteen: a row block of the product. -/
def acc (H : Vec F S2048x4096 .bf16) (B : Vec F S4096x256 .bf16) (i : Fin 4) : FVec F S512x256 .f32 := accN H B i 15

/-- A point's carried rows: row block `j` of the carry, or zeros where the tile is at the top. -/
def halo (b : BitVec 1) (x : Vec F S1x8x256 .f32) : FVec F S8x256 .f32 := k0_pay147 b x

/-- The last eight rows of a row block, as the carry holds them. -/
def lastRows (a : FVec F S512x256 .f32) : FVec F S1x8x256 .f32 := k0_pay1 a

/-- The product with the carried rows above it. -/
def uBlk (top : FVec F S8x256 .f32) (H : Vec F S2048x4096 .bf16) (B : Vec F S4096x256 .bf16) : Vec F S2056x256 .f32 :=
  under (o := 8) (p := 4) (b := 512) (n := 2056) (w := 256) rfl top fun i => k0_pay148 (acc H B i)

/-- A tile of 256 rows of the weight block, rounded. -/
def castTile (W : Vec F S4096x256 .f32) (c : Fin 16) : FVec F S256x256 .bf16 :=
  k0_pay9 (tile (p0 := 16) (p1 := 1) (b0 := 256) (b1 := 256) rfl rfl W c 0)

/-- The weight block rounded. -/
def castBlk (W : Vec F S4096x256 .f32) : Vec F S4096x256 .bf16 :=
  ofRows (p := 16) (b := 256) (n := 4096) (w := 256) rfl (castTile W)

/-- The rows of tile `k`, `s` rows below the second last carried row. -/
theorem rows_inb (k : Fin 64) (s : Fin 3) :
    ∀ a, (![6 + s.val + 32 * k.val, 0] : Fin 2 → ℕ) a + S32x256.size a ≤ S2056x256.size a := by
  have := k.isLt; have := s.isLt
  intro a
  match a with
  | ⟨0, _⟩ => show 6 + s.val + 32 * k.val + 32 ≤ 2056; omega
  | ⟨1, _⟩ => show 0 + 256 ≤ 256; omega

/-- Thirty-two rows of the buffer from row `6 + s + 32 k` on. -/
abbrev rows (U : Vec F S2056x256 .f32) (k : Fin 64) (s : Fin 3) : Vec F S32x256 .f32 :=
  fun x => U ((Rect.unit (s := S2056x256) ![6 + s.val + 32 * k.val, 0] S32x256.size (rows_inb k s)).idx x)

/-- The convolution's weights and bias as a point reads them. -/
abbrev cwOf (CW : Vec F S3x256 .f32) : Vec F S3x256 .f32 := fun x => CW ((Rect.unit (s := S3x256) ![0, 0] S3x256.size inb_S3x256_S3x256_0_0).idx x)
abbrev cbOf (CB : Vec F S1x256 .f32) : Vec F S1x256 .f32 := fun x => CB ((Rect.unit (s := S1x256) ![0, 0] S1x256.size inb_S1x256_S1x256_0_0).idx x)

/-- Thirty-two rows convolved. -/
def conv (CW : Vec F S3x256 .f32) (CB : Vec F S1x256 .f32) (U : Vec F S2056x256 .f32) (k : Fin 64) : FVec F S32x256 .f32 :=
  k0_pay19 (cwOf CW) (cbOf CB) (rows U k 0) (rows U k 1) (rows U k 2)

/-- Thirty-two rows of the output: the one convolution gated by the other. -/
def outTile (CWg CWv : Vec F S3x256 .f32) (CBg CBv : Vec F S1x256 .f32) (Ug Uv : Vec F S2056x256 .f32) (k : Fin 64) : FVec F S32x256 .bf16 :=
  truncf .bf16 (mulf (mulf (conv CWg CBg Ug k) (logistic (conv CWg CBg Ug k))) (conv CWv CBv Uv k)) bitsLt_bf16_f32

/-- The output block. -/
def outBlk (CWg CWv : Vec F S3x256 .f32) (CBg CBv : Vec F S1x256 .f32) (Ug Uv : Vec F S2056x256 .f32) : Vec F S2048x256 .bf16 :=
  ofRows (p := 64) (b := 32) (n := 2048) (w := 256) rfl (outTile CWg CWv CBg CBv Ug Uv)

/-- Row block `j` of the carry replaced. -/
def carryUpd (j : ℕ) (X : Vec F S43x8x256 .f32) (r : FVec F S1x8x256 .f32) : Vec F S43x8x256 .f32 := fun y =>
  if (y 0).val = j then r (ix3 0 (y 1) (y 2)) else X y

/-- Whether a point is the first. -/
abbrev atStart (i : grid0.Coords) : Prop := (Scalar.cmpi .ne (Scalar.extui (Scalar.cmpi .eq (BitVec.ofNat 32 (i 0).val) 0#32)) 0#32) = 1#1

/-- The contents of a scratch that the first point fills with `z`. -/
def fill {α : Type} (i : grid0.Coords) (z x : α) : α := if atStart i then z else x

/-- The tile a point multiplies. -/
def tileAt (i : grid0.Coords) : BitVec 32 := Scalar.minsi 171#32 (Scalar.maxsi 0#32 (Scalar.subi (BitVec.ofNat 32 (i 0).val) 1#32))

/-- Whether that tile is at the top of its column. -/
def topAt (i : grid0.Coords) : BitVec 1 :=
  Scalar.cmpi .eq (Scalar.select (Scalar.andi
    (Scalar.cmpi .ne (Scalar.subi (Scalar.extui (Scalar.cmpi .sgt (tileAt i) 0#32)) (Scalar.extui (Scalar.cmpi .slt (tileAt i) 0#32)))
      (Scalar.subi (Scalar.extui (Scalar.cmpi .sgt 43#32 0#32)) (Scalar.extui (Scalar.cmpi .slt 43#32 0#32))))
    (Scalar.cmpi .ne (Scalar.remsi (tileAt i) 43#32) 0#32)) (Scalar.subi (Scalar.divsi (tileAt i) 43#32) 1#32) (Scalar.divsi (tileAt i) 43#32)) 0#32

/-- What the first point fills the weights' scratches with. -/
def zeroW : Vec F S4096x256 .bf16 := k0_pay879
/-- What it fills the products' scratches with. -/
def zeroU : Vec F S2056x256 .f32 := k0_pay881

end Cert.Kernel4Ideal.Hand

end
-- ==== Proof.UpFill.lean ====
/- The fill at the first point, and what a store of one row block of the carry leaves. -/
module

public import proofs.«01_k».proof.Proof.UpBlocks
public import Idealize.ShloMosaic.Lib.VecWindow

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal Cert.Kernel4Ideal.Gen Cert.Tiles

variable {F : FTy → Type} [FloatOps F]

local notation "𝕄" => MT nD τ sig Unit (Elt F) ℕ (UR sig nD τ) ℕ

/-- The fill leaves the weights' scratch at zero. -/
theorem read_zeroW (v : View sig .tc .vmem S4096x256 .bf16) (f : v.ty.Contents (Elt F)) :
    v.read (Elt F) (v.writes (Elt F) f [⟨Rect.unit (s := S4096x256) ![0, 0] S4096x256.size inb_S4096x256_S4096x256_0_0, k0_pay879⟩]) = zeroW :=
  View.read_writes_full v f _ _ []
/-- The fill leaves the products' scratch at zero. -/
theorem read_zeroU (v : View sig .tc .vmem S2056x256 .f32) (f : v.ty.Contents (Elt F)) :
    v.read (Elt F) (v.writes (Elt F) f [⟨Rect.unit (s := S2056x256) ![0, 0] S2056x256.size inb_S2056x256_S2056x256_0_0, k0_pay881⟩]) = zeroU :=
  View.read_writes_full v f _ _ []

/-- The stores of the output's tiles leave the output block. -/
theorem read_outBlk (v : View sig .tc .vmem S2048x256 .bf16) (f : v.ty.Contents (Elt F)) (CWg CWv : Vec F S3x256 .f32) (CBg CBv : Vec F S1x256 .f32)
    (Ug Uv : Vec F S2056x256 .f32) (L : List (View.Piece (Elt F) S2048x256 .bf16))
    (hL : L = stack (p := 64) (b := 32) (n := 2048) (w := 256) 0 rfl (outTile CWg CWv CBg CBv Ug Uv) [] 64 (Nat.le_refl 64)) :
    v.read (Elt F) (v.writes (Elt F) f L) = outBlk CWg CWv CBg CBv Ug Uv :=
  read_stack v f rfl (outTile CWg CWv CBg CBv Ug Uv) L hL

/-- The stores of the rounded tiles leave the rounded block. -/
theorem read_castBlk (v : View sig .tc .vmem S4096x256 .bf16) (f : v.ty.Contents (Elt F)) (W : Vec F S4096x256 .f32)
    (L : List (View.Piece (Elt F) S4096x256 .bf16))
    (hL : L = stack (p := 16) (b := 256) (n := 4096) (w := 256) 0 rfl (castTile W) [] 16 (Nat.le_refl 16)) :
    v.read (Elt F) (v.writes (Elt F) f L) = castBlk W :=
  read_stack v f rfl (castTile W) L hL

/-- The stores of the carried rows and of the four row blocks leave the product under its carried rows. -/
theorem read_uBlk (v : View sig .tc .vmem S2056x256 .f32) (f : v.ty.Contents (Elt F)) (top : FVec F S8x256 .f32) (H : Vec F S2048x4096 .bf16)
    (B : Vec F S4096x256 .bf16) (L : List (View.Piece (Elt F) S2056x256 .f32))
    (hL : L = stack (p := 4) (b := 512) (n := 2056) (w := 256) 8 rfl (fun i => k0_pay148 (acc H B i))
      [⟨Rect.unit (s := S2056x256) ![0, 0] S8x256.size inb_S2056x256_S8x256_0_0, top⟩] 4 (Nat.le_refl 4)) :
    v.read (Elt F) (v.writes (Elt F) f L) = uBlk top H B :=
  read_under v f 8 rfl top (fun i => k0_pay148 (acc H B i)) inb_S2056x256_S8x256_0_0 L hL

/-- A store of row block `j` of the carry replaces it. -/
theorem read_carry (v : View sig .tc .vmem S43x8x256 .f32) (f : v.ty.Contents (Elt F)) (off : Fin 3 → ℕ) (j : ℕ) (hj : off = ![j, 0, 0])
    (inb : ∀ a, off a + S1x8x256.size a ≤ S43x8x256.size a) (r : FVec F S1x8x256 .f32) :
    v.read (Elt F) (v.writes (Elt F) f [⟨Rect.unit (s := S43x8x256) off S1x8x256.size inb, r⟩]) = carryUpd j (v.read (Elt F) f) r := by
  funext y
  unfold carryUpd
  by_cases h : (y 0).val = j
  · rw [if_pos h]
    refine View.read_writes_cons_unit_of_mem v f inb r [] y (ix3 0 (y 1) (y 2)) hj fun a => ?_
    match a with
    | ⟨0, _⟩ => exact h
    | ⟨1, _⟩ => exact (Nat.zero_add _).symm
    | ⟨2, _⟩ => exact (Nat.zero_add _).symm
  · rw [if_neg h]
    refine (View.read_writes_cons_unit_of_not_mem v f inb r [] y hj ⟨0, Nat.zero_lt_succ _⟩ ?_).trans rfl
    show (y 0).val < j ∨ j + 1 ≤ (y 0).val
    omega

/-- Row block `j` of the carry. -/
def carryRow (j : Fin 43) (X : Vec F S43x8x256 .f32) : Vec F S1x8x256 .f32 := fun x => X (ix3 j (x 1) (x 2))

/-- A point reads that row block. -/
theorem carryRow_eq (off : Fin 3 → ℕ) (j : Fin 43) (hj : off = ![j.val, 0, 0]) (inb : ∀ a, off a + S1x8x256.size a ≤ S43x8x256.size a)
    (X : Vec F S43x8x256 .f32) : (fun x => X ((Rect.unit (s := S43x8x256) off S1x8x256.size inb).idx x) : Vec F S1x8x256 .f32) = carryRow j X := by
  subst hj
  funext x
  refine congrArg X (funext fun a => Fin.ext ?_)
  match a with
  | ⟨0, _⟩ => show j.val + 1 * (x 0).val = j.val; have : (x 0).val < 1 := (x 0).isLt; omega
  | ⟨1, _⟩ => show 0 + 1 * (x 1).val = (x 1).val; omega
  | ⟨2, _⟩ => show 0 + 1 * (x 2).val = (x 2).val; omega

set_option maxHeartbeats 1000000 in
/-- The start of the body: at the first point the scratches that it reads are filled with zeros, at the others nothing happens. -/
theorem run_fill (c : Dev nD) (i : grid0.Coords) (arg1 : Memref sig .tc .vmem S2048x4096 .bf16) (harg1 : arg1.IsWhole)
    (arg2 : Memref sig .tc .vmem S4096x256 .f32) (harg2 : arg2.IsWhole)
    (arg3 : Memref sig .tc .vmem S4096x256 .f32) (harg3 : arg3.IsWhole)
    (arg4 : Memref sig .tc .vmem S3x256 .f32) (harg4 : arg4.IsWhole)
    (arg5 : Memref sig .tc .vmem S3x256 .f32) (harg5 : arg5.IsWhole)
    (arg6 : Memref sig .tc .vmem S1x256 .f32) (harg6 : arg6.IsWhole)
    (arg7 : Memref sig .tc .vmem S1x256 .f32) (harg7 : arg7.IsWhole)
    (arg8 : Memref sig .tc .vmem S2048x256 .bf16) (harg8 : arg8.IsWhole)
    (arg9 : Memref sig .tc .vmem S4096x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S4096x256 .bf16) (harg12 : arg12.IsWhole)
    (arg13 : Memref sig .tc .vmem S2056x256 .f32) (harg13 : arg13.IsWhole)
    (arg14 : Memref sig .tc .vmem S2056x256 .f32) (harg14 : arg14.IsWhole)
    (arg15 : Memref sig .tc .vmem S2056x256 .f32) (harg15 : arg15.IsWhole)
    (arg16 : Memref sig .tc .vmem S2056x256 .f32) (harg16 : arg16.IsWhole)
    (arg17 : Memref sig .tc .vmem S43x8x256 .f32) (harg17 : arg17.IsWhole)
    (arg18 : Memref sig .tc .vmem S43x8x256 .f32) (harg18 : arg18.IsWhole)
    (Bg Bv : Vec F S4096x256 .bf16) (Ug Uv : Vec F S2056x256 .f32) (E : Set ℕ)
    (K : (Σ' (arg0 : BitVec 32) (v12 : BitVec 32) (v30 : BitVec 1), BitVec 32) → sProp 𝕄) :
    iprop(owns (c : Thread nD τ) arg10 fullShare Bg ∗ owns (c : Thread nD τ) arg12 fullShare Bv ∗ owns (c : Thread nD τ) arg13 fullShare Ug ∗ owns (c : Thread nD τ) arg15 fullShare Uv
        ∗ (∀ r, iprop(⌜r.2.2.1 = topAt i⌝ ∗ owns (c : Thread nD τ) arg10 fullShare (fill i zeroW Bg) ∗ owns (c : Thread nD τ) arg12 fullShare (fill i zeroW Bv)
            ∗ owns (c : Thread nD τ) arg13 fullShare (fill i zeroU Ug) ∗ owns (c : Thread nD τ) arg15 fullShare (fill i zeroU Uv)) -∗ K r))
      ⊢ wp frame (wpE (defs₀ (F := F)) Variants.none c none) E (k0_part195 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [k0_part195_eq_skeleton]
  unfold k0_part195_skel
  by_cases hc0 : atStart i
  · simp only [fill, if_pos hc0]
    unfold owns
    iintro ⟨⟨%f1, -, H1⟩, ⟨%f2, -, H2⟩, ⟨%f3, -, H3⟩, ⟨%f4, -, H4⟩, Hk⟩
    sl_exec (disch := sl_exact hc0)
    sl_step
    iapply Hk
    isplitr; · ipureintro; rfl
    isplitl [H1]
    · iexists _; isplitr; swap; · iexact H1
      ipureintro; exact read_zeroW _ _
    isplitl [H2]
    · iexists _; isplitr; swap; · iexact H2
      ipureintro; exact read_zeroW _ _
    isplitl [H3]
    · iexists _; isplitr; swap; · iexact H3
      ipureintro; exact read_zeroU _ _
    · iexists _; isplitr; swap; · iexact H4
      ipureintro; exact read_zeroU _ _
  · simp only [fill, if_neg hc0]
    iintro ⟨H1, H2, H3, H4, Hk⟩
    sl_exec (disch := sl_exact hc0)
    sl_step
    iapply Hk
    isplitr; · ipureintro; rfl
    isplitl [H1]; · iexact H1
    isplitl [H2]; · iexact H2
    isplitl [H3]; · iexact H3
    iexact H4

end Cert.Kernel4Ideal.Hand

end
-- ==== Proof.UpEven.lean ====
/- The body at an even point, the first among them. -/
module

public import proofs.«01_k».proof.Proof.UpFill

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal Cert.Kernel4Ideal.Gen Cert.Tiles

variable {F : FTy → Type} [FloatOps F]

local notation "𝕄" => MT nD τ sig Unit (Elt F) ℕ (UR sig nD τ) ℕ

set_option maxHeartbeats 4000000 in
/-- The body at an even point: the output block comes of the products of the point before, the other products' scratches end with
    this point's, the carry with its last rows, and the first weights' scratches with the weight blocks rounded. -/
theorem run_even (c : Dev nD) (i : grid0.Coords) (j : Fin 43) (arg1 : Memref sig .tc .vmem S2048x4096 .bf16) (harg1 : arg1.IsWhole)
    (arg2 : Memref sig .tc .vmem S4096x256 .f32) (harg2 : arg2.IsWhole)
    (arg3 : Memref sig .tc .vmem S4096x256 .f32) (harg3 : arg3.IsWhole)
    (arg4 : Memref sig .tc .vmem S3x256 .f32) (harg4 : arg4.IsWhole)
    (arg5 : Memref sig .tc .vmem S3x256 .f32) (harg5 : arg5.IsWhole)
    (arg6 : Memref sig .tc .vmem S1x256 .f32) (harg6 : arg6.IsWhole)
    (arg7 : Memref sig .tc .vmem S1x256 .f32) (harg7 : arg7.IsWhole)
    (arg8 : Memref sig .tc .vmem S2048x256 .bf16) (harg8 : arg8.IsWhole)
    (arg9 : Memref sig .tc .vmem S4096x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S4096x256 .bf16) (harg12 : arg12.IsWhole)
    (arg13 : Memref sig .tc .vmem S2056x256 .f32) (harg13 : arg13.IsWhole)
    (arg14 : Memref sig .tc .vmem S2056x256 .f32) (harg14 : arg14.IsWhole)
    (arg15 : Memref sig .tc .vmem S2056x256 .f32) (harg15 : arg15.IsWhole)
    (arg16 : Memref sig .tc .vmem S2056x256 .f32) (harg16 : arg16.IsWhole)
    (arg17 : Memref sig .tc .vmem S43x8x256 .f32) (harg17 : arg17.IsWhole)
    (arg18 : Memref sig .tc .vmem S43x8x256 .f32) (harg18 : arg18.IsWhole)
    (hc2 : k0_cond2 i = 1#1) (hc3 : ¬k0_cond3 i = 1#1) (hj : k0_off1 i = ![j.val, 0, 0])
    (H : Vec F S2048x4096 .bf16) (Wg Wv : Vec F S4096x256 .f32) (CWg CWv : Vec F S3x256 .f32) (CBg CBv : Vec F S1x256 .f32)
    (Bg Bv : Vec F S4096x256 .bf16) (Ug Uv : Vec F S2056x256 .f32) (Xg Xv : Vec F S43x8x256 .f32) (E : Set ℕ) (K : PUnit → sProp 𝕄) :
    iprop(owns (c : Thread nD τ) arg1 fullShare H
        ∗ owns (c : Thread nD τ) arg2 fullShare Wg
        ∗ owns (c : Thread nD τ) arg3 fullShare Wv
        ∗ owns (c : Thread nD τ) arg4 fullShare CWg
        ∗ owns (c : Thread nD τ) arg5 fullShare CWv
        ∗ owns (c : Thread nD τ) arg6 fullShare CBg
        ∗ owns (c : Thread nD τ) arg7 fullShare CBv
        ∗ (∃ d, owns (c : Thread nD τ) arg8 fullShare d)
        ∗ (∃ d, owns (c : Thread nD τ) arg9 fullShare d)
        ∗ owns (c : Thread nD τ) arg10 fullShare Bg
        ∗ (∃ d, owns (c : Thread nD τ) arg11 fullShare d)
        ∗ owns (c : Thread nD τ) arg12 fullShare Bv
        ∗ owns (c : Thread nD τ) arg13 fullShare Ug
        ∗ (∃ d, owns (c : Thread nD τ) arg14 fullShare d)
        ∗ owns (c : Thread nD τ) arg15 fullShare Uv
        ∗ (∃ d, owns (c : Thread nD τ) arg16 fullShare d)
        ∗ owns (c : Thread nD τ) arg17 fullShare Xg
        ∗ owns (c : Thread nD τ) arg18 fullShare Xv
        ∗ (iprop(owns (c : Thread nD τ) arg1 fullShare H
            ∗ owns (c : Thread nD τ) arg2 fullShare Wg
            ∗ owns (c : Thread nD τ) arg3 fullShare Wv
            ∗ owns (c : Thread nD τ) arg4 fullShare CWg
            ∗ owns (c : Thread nD τ) arg5 fullShare CWv
            ∗ owns (c : Thread nD τ) arg6 fullShare CBg
            ∗ owns (c : Thread nD τ) arg7 fullShare CBv
            ∗ owns (c : Thread nD τ) arg8 fullShare (outBlk CWg CWv CBg CBv (fill i zeroU Ug) (fill i zeroU Uv))
            ∗ owns (c : Thread nD τ) arg9 fullShare (castBlk Wg)
            ∗ (∃ d, owns (c : Thread nD τ) arg10 fullShare d)
            ∗ owns (c : Thread nD τ) arg11 fullShare (castBlk Wv)
            ∗ (∃ d, owns (c : Thread nD τ) arg12 fullShare d)
            ∗ (∃ d, owns (c : Thread nD τ) arg13 fullShare d)
            ∗ owns (c : Thread nD τ) arg14 fullShare (uBlk (halo (topAt i) (carryRow j Xg)) H (fill i zeroW Bg))
            ∗ (∃ d, owns (c : Thread nD τ) arg15 fullShare d)
            ∗ owns (c : Thread nD τ) arg16 fullShare (uBlk (halo (topAt i) (carryRow j Xv)) H (fill i zeroW Bv))
            ∗ owns (c : Thread nD τ) arg17 fullShare (carryUpd j.val Xg (lastRows (acc H (fill i zeroW Bg) 3)))
            ∗ owns (c : Thread nD τ) arg18 fullShare (carryUpd j.val Xv (lastRows (acc H (fill i zeroW Bv) 3)))) -∗ K ⟨⟩))
      ⊢ wp frame (wpE (defs₀ (F := F)) Variants.none c none) E (cc0_up_glu i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_up_glu_eq_skeleton]; unfold cc0_up_glu_skel
  rw [wp_bind]
  iintro ⟨H1, H2, H3, H4, H5, H6, H7, ⟨%d8, H8⟩, ⟨%d9, H9⟩, H10, ⟨%d11, H11⟩, H12, H13, ⟨%d14, H14⟩, H15, ⟨%d16, H16⟩, H17, H18, Hk⟩
  iapply (run_fill c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ E _)
  isplitl [H10]; · iexact H10
  isplitl [H12]; · iexact H12
  isplitl [H13]; · iexact H13
  isplitl [H15]; · iexact H15
  iintro %r ⟨%hr, H10, H12, H13, H15⟩
  obtain ⟨a0, v12, v30, v35⟩ := r
  simp only at hr
  subst hr
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton]
  unfold owns
  irevert H1 H2 H3 H4 H5 H6 H7 H8 H9 H10 H11 H12 H13 H14 H15 H16 H17 H18 Hk
  iintro ⟨%f1, %hf1, H1⟩
  iintro ⟨%f2, %hf2, H2⟩
  iintro ⟨%f3, %hf3, H3⟩
  iintro ⟨%f4, %hf4, H4⟩
  iintro ⟨%f5, %hf5, H5⟩
  iintro ⟨%f6, %hf6, H6⟩
  iintro ⟨%f7, %hf7, H7⟩
  iintro ⟨%f8, -, H8⟩
  iintro ⟨%f9, -, H9⟩
  iintro ⟨%f10, %hf10, H10⟩
  iintro ⟨%f11, -, H11⟩
  iintro ⟨%f12, %hf12, H12⟩
  iintro ⟨%f13, %hf13, H13⟩
  iintro ⟨%f14, -, H14⟩
  iintro ⟨%f15, %hf15, H15⟩
  iintro ⟨%f16, -, H16⟩
  iintro ⟨%f17, %hf17, H17⟩
  iintro ⟨%f18, %hf18, H18⟩
  iintro Hk
  subst hf1 hf2 hf3 hf4 hf5 hf6 hf7 hf17 hf18
  sl_exec (disch := first | sl_exact hc2 | sl_exact hc3)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro
    rw [← hf13, ← hf15]
    exact read_outBlk _ _ _ _ _ _ _ _ _ (by sl_kernel_rfl)
  isplitl [H9]
  · iexists _; isplitr; swap; · iexact H9
    ipureintro
    exact read_castBlk _ _ _ _ (by sl_kernel_rfl)
  isplitl [H10]
  · iexists _, _; isplitr; swap; · iexact H10
    ipureintro; rfl
  isplitl [H11]
  · iexists _; isplitr; swap; · iexact H11
    ipureintro
    exact read_castBlk _ _ _ _ (by sl_kernel_rfl)
  isplitl [H12]
  · iexists _, _; isplitr; swap; · iexact H12
    ipureintro; rfl
  isplitl [H13]
  · iexists _, _; isplitr; swap; · iexact H13
    ipureintro; rfl
  isplitl [H14]
  · iexists _; isplitr; swap; · iexact H14
    ipureintro
    rw [← hf10, ← carryRow_eq _ j hj (k0_off1_inb i hc2)]
    exact read_uBlk _ _ _ _ _ _ (by sl_kernel_rfl)
  isplitl [H15]
  · iexists _, _; isplitr; swap; · iexact H15
    ipureintro; rfl
  isplitl [H16]
  · iexists _; isplitr; swap; · iexact H16
    ipureintro
    rw [← hf12, ← carryRow_eq _ j hj (k0_off1_inb i hc2)]
    exact read_uBlk _ _ _ _ _ _ (by sl_kernel_rfl)
  isplitl [H17]
  · iexists _; isplitr; swap; · iexact H17
    ipureintro
    rw [← hf10]
    exact read_carry _ _ _ _ hj _ _
  · iexists _; isplitr; swap; · iexact H18
    ipureintro
    rw [← hf12]
    exact read_carry _ _ _ _ hj _ _

end Cert.Kernel4Ideal.Hand

end
-- ==== Proof.UpOdd.lean ====
/- The body at an odd point. -/
module

public import proofs.«01_k».proof.Proof.UpFill

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal Cert.Kernel4Ideal.Gen Cert.Tiles

variable {F : FTy → Type} [FloatOps F]

local notation "𝕄" => MT nD τ sig Unit (Elt F) ℕ (UR sig nD τ) ℕ

set_option maxHeartbeats 4000000 in
/-- The body at an odd point: as at an even one, the two of every pair of scratches having changed parts. -/
theorem run_odd (c : Dev nD) (i : grid0.Coords) (j : Fin 43) (arg1 : Memref sig .tc .vmem S2048x4096 .bf16) (harg1 : arg1.IsWhole)
    (arg2 : Memref sig .tc .vmem S4096x256 .f32) (harg2 : arg2.IsWhole)
    (arg3 : Memref sig .tc .vmem S4096x256 .f32) (harg3 : arg3.IsWhole)
    (arg4 : Memref sig .tc .vmem S3x256 .f32) (harg4 : arg4.IsWhole)
    (arg5 : Memref sig .tc .vmem S3x256 .f32) (harg5 : arg5.IsWhole)
    (arg6 : Memref sig .tc .vmem S1x256 .f32) (harg6 : arg6.IsWhole)
    (arg7 : Memref sig .tc .vmem S1x256 .f32) (harg7 : arg7.IsWhole)
    (arg8 : Memref sig .tc .vmem S2048x256 .bf16) (harg8 : arg8.IsWhole)
    (arg9 : Memref sig .tc .vmem S4096x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S4096x256 .bf16) (harg12 : arg12.IsWhole)
    (arg13 : Memref sig .tc .vmem S2056x256 .f32) (harg13 : arg13.IsWhole)
    (arg14 : Memref sig .tc .vmem S2056x256 .f32) (harg14 : arg14.IsWhole)
    (arg15 : Memref sig .tc .vmem S2056x256 .f32) (harg15 : arg15.IsWhole)
    (arg16 : Memref sig .tc .vmem S2056x256 .f32) (harg16 : arg16.IsWhole)
    (arg17 : Memref sig .tc .vmem S43x8x256 .f32) (harg17 : arg17.IsWhole)
    (arg18 : Memref sig .tc .vmem S43x8x256 .f32) (harg18 : arg18.IsWhole)
    (hc2 : ¬k0_cond2 i = 1#1) (hc3 : k0_cond3 i = 1#1) (hj : k0_off2 i = ![j.val, 0, 0])
    (H : Vec F S2048x4096 .bf16) (Wg Wv : Vec F S4096x256 .f32) (CWg CWv : Vec F S3x256 .f32) (CBg CBv : Vec F S1x256 .f32)
    (Bg Bv : Vec F S4096x256 .bf16) (Ug Uv : Vec F S2056x256 .f32) (Xg Xv : Vec F S43x8x256 .f32) (E : Set ℕ) (K : PUnit → sProp 𝕄) :
    iprop(owns (c : Thread nD τ) arg1 fullShare H
        ∗ owns (c : Thread nD τ) arg2 fullShare Wg
        ∗ owns (c : Thread nD τ) arg3 fullShare Wv
        ∗ owns (c : Thread nD τ) arg4 fullShare CWg
        ∗ owns (c : Thread nD τ) arg5 fullShare CWv
        ∗ owns (c : Thread nD τ) arg6 fullShare CBg
        ∗ owns (c : Thread nD τ) arg7 fullShare CBv
        ∗ (∃ d, owns (c : Thread nD τ) arg8 fullShare d)
        ∗ owns (c : Thread nD τ) arg9 fullShare Bg
        ∗ (∃ d, owns (c : Thread nD τ) arg10 fullShare d)
        ∗ owns (c : Thread nD τ) arg11 fullShare Bv
        ∗ (∃ d, owns (c : Thread nD τ) arg12 fullShare d)
        ∗ (∃ d, owns (c : Thread nD τ) arg13 fullShare d)
        ∗ owns (c : Thread nD τ) arg14 fullShare Ug
        ∗ (∃ d, owns (c : Thread nD τ) arg15 fullShare d)
        ∗ owns (c : Thread nD τ) arg16 fullShare Uv
        ∗ owns (c : Thread nD τ) arg17 fullShare Xg
        ∗ owns (c : Thread nD τ) arg18 fullShare Xv
        ∗ (iprop(owns (c : Thread nD τ) arg1 fullShare H
            ∗ owns (c : Thread nD τ) arg2 fullShare Wg
            ∗ owns (c : Thread nD τ) arg3 fullShare Wv
            ∗ owns (c : Thread nD τ) arg4 fullShare CWg
            ∗ owns (c : Thread nD τ) arg5 fullShare CWv
            ∗ owns (c : Thread nD τ) arg6 fullShare CBg
            ∗ owns (c : Thread nD τ) arg7 fullShare CBv
            ∗ owns (c : Thread nD τ) arg8 fullShare (outBlk CWg CWv CBg CBv Ug Uv)
            ∗ (∃ d, owns (c : Thread nD τ) arg9 fullShare d)
            ∗ owns (c : Thread nD τ) arg10 fullShare (castBlk Wg)
            ∗ (∃ d, owns (c : Thread nD τ) arg11 fullShare d)
            ∗ owns (c : Thread nD τ) arg12 fullShare (castBlk Wv)
            ∗ owns (c : Thread nD τ) arg13 fullShare (uBlk (halo (topAt i) (carryRow j Xg)) H Bg)
            ∗ (∃ d, owns (c : Thread nD τ) arg14 fullShare d)
            ∗ owns (c : Thread nD τ) arg15 fullShare (uBlk (halo (topAt i) (carryRow j Xv)) H Bv)
            ∗ (∃ d, owns (c : Thread nD τ) arg16 fullShare d)
            ∗ owns (c : Thread nD τ) arg17 fullShare (carryUpd j.val Xg (lastRows (acc H Bg 3)))
            ∗ owns (c : Thread nD τ) arg18 fullShare (carryUpd j.val Xv (lastRows (acc H Bv 3)))) -∗ K ⟨⟩))
      ⊢ wp frame (wpE (defs₀ (F := F)) Variants.none c none) E (cc0_up_glu i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_up_glu_eq_skeleton]; unfold cc0_up_glu_skel
  rw [wp_bind]
  iintro ⟨H1, H2, H3, H4, H5, H6, H7, ⟨%d8, H8⟩, H9, ⟨%d10, H10⟩, H11, ⟨%d12, H12⟩, ⟨%d13, H13⟩, H14, ⟨%d15, H15⟩, H16, H17, H18, Hk⟩
  iapply (run_fill c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ E _)
  isplitl [H10]; · iexact H10
  isplitl [H12]; · iexact H12
  isplitl [H13]; · iexact H13
  isplitl [H15]; · iexact H15
  iintro %r ⟨%hr, H10, H12, H13, H15⟩
  obtain ⟨a0, v12, v30, v35⟩ := r
  simp only at hr
  subst hr
  simp only [k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton]
  unfold owns
  irevert H1 H2 H3 H4 H5 H6 H7 H8 H9 H10 H11 H12 H13 H14 H15 H16 H17 H18 Hk
  iintro ⟨%f1, %hf1, H1⟩
  iintro ⟨%f2, %hf2, H2⟩
  iintro ⟨%f3, %hf3, H3⟩
  iintro ⟨%f4, %hf4, H4⟩
  iintro ⟨%f5, %hf5, H5⟩
  iintro ⟨%f6, %hf6, H6⟩
  iintro ⟨%f7, %hf7, H7⟩
  iintro ⟨%f8, -, H8⟩
  iintro ⟨%f9, %hf9, H9⟩
  iintro ⟨%f10, %hf10, H10⟩
  iintro ⟨%f11, %hf11, H11⟩
  iintro ⟨%f12, %hf12, H12⟩
  iintro ⟨%f13, %hf13, H13⟩
  iintro ⟨%f14, %hf14, H14⟩
  iintro ⟨%f15, %hf15, H15⟩
  iintro ⟨%f16, %hf16, H16⟩
  iintro ⟨%f17, %hf17, H17⟩
  iintro ⟨%f18, %hf18, H18⟩
  iintro Hk
  subst hf1 hf2 hf3 hf4 hf5 hf6 hf7 hf9 hf11 hf14 hf16 hf17 hf18
  sl_exec (disch := first | sl_exact hc2 | sl_exact hc3)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro
    exact read_outBlk _ _ _ _ _ _ _ _ _ (by sl_kernel_rfl)
  isplitl [H9]
  · iexists _, _; isplitr; swap; · iexact H9
    ipureintro; rfl
  isplitl [H10]
  · iexists _; isplitr; swap; · iexact H10
    ipureintro
    exact read_castBlk _ _ _ _ (by sl_kernel_rfl)
  isplitl [H11]
  · iexists _, _; isplitr; swap; · iexact H11
    ipureintro; rfl
  isplitl [H12]
  · iexists _; isplitr; swap; · iexact H12
    ipureintro
    exact read_castBlk _ _ _ _ (by sl_kernel_rfl)
  isplitl [H13]
  · iexists _; isplitr; swap; · iexact H13
    ipureintro
    rw [← carryRow_eq _ j hj (k0_off2_inb i hc3)]
    exact read_uBlk _ _ _ _ _ _ (by sl_kernel_rfl)
  isplitl [H14]
  · iexists _, _; isplitr; swap; · iexact H14
    ipureintro; rfl
  isplitl [H15]
  · iexists _; isplitr; swap; · iexact H15
    ipureintro
    rw [← carryRow_eq _ j hj (k0_off2_inb i hc3)]
    exact read_uBlk _ _ _ _ _ _ (by sl_kernel_rfl)
  isplitl [H16]
  · iexists _, _; isplitr; swap; · iexact H16
    ipureintro; rfl
  isplitl [H17]
  · iexists _; isplitr; swap; · iexact H17
    ipureintro
    exact read_carry _ _ _ _ hj _ _
  · iexists _; isplitr; swap; · iexact H18
    ipureintro
    exact read_carry _ _ _ _ hj _ _

end Cert.Kernel4Ideal.Hand

end
-- ==== Proof.UpBody.lean ====
/- The up projection's invariant between the points, its body at every point, and the run of the program with its frame. -/
module

public import proofs.«01_k».proof.Proof.UpEven
public import proofs.«01_k».proof.Proof.UpOdd
public import proofs.«01_k».proof.Proof.Gen.Kernel4Ideal.Frame

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen Cert.Tiles

variable {F : FTy → Type} [FloatOps F]

local notation "𝕄" => MT nD τ sig Unit (Elt F) ℕ (UR sig nD τ) ℕ

/-! ## Which branch a point takes, and which row block of the carry -/

/-- The row block of the carry that point `n` reads and replaces: its tile's column. -/
def jAt (n : ℕ) : Fin 43 := ⟨min (n - 1) 171 % 43, Nat.mod_lt _ (by decide)⟩

/-- The first point alone fills the scratches it reads. -/
theorem start_iff : ∀ t : Fin cfg0.N, atStart (grid0.coords t) ↔ t.val = 0 :=
  (by decide +kernel : ∀ t : Fin grid0.N, atStart (grid0.coords t) ↔ t.val = 0)
/-- The even points take the one branch. -/
theorem even_iff : ∀ t : Fin cfg0.N, k0_cond2 (grid0.coords t) = 1#1 ↔ t.val % 2 = 0 :=
  (by decide +kernel : ∀ t : Fin grid0.N, k0_cond2 (grid0.coords t) = 1#1 ↔ t.val % 2 = 0)
/-- The odd points take the other. -/
theorem odd_iff : ∀ t : Fin cfg0.N, k0_cond3 (grid0.coords t) = 1#1 ↔ t.val % 2 = 1 :=
  (by decide +kernel : ∀ t : Fin grid0.N, k0_cond3 (grid0.coords t) = 1#1 ↔ t.val % 2 = 1)
/-- An even point's place in the carry. -/
theorem off_even : ∀ t : Fin cfg0.N, k0_off1 (grid0.coords t) = ![(jAt t.val).val, 0, 0] :=
  (by decide +kernel : ∀ t : Fin grid0.N, k0_off1 (grid0.coords t) = ![(jAt t.val).val, 0, 0])
/-- An odd point's place in the carry. -/
theorem off_odd : ∀ t : Fin cfg0.N, k0_off2 (grid0.coords t) = ![(jAt t.val).val, 0, 0] :=
  (by decide +kernel : ∀ t : Fin grid0.N, k0_off2 (grid0.coords t) = ![(jAt t.val).val, 0, 0])
/-- The tiles at the top are those of the first points. -/
theorem top_eq : ∀ t : Fin cfg0.N, topAt (grid0.coords t) = if t.val ≤ 43 then 1#1 else 0#1 :=
  (by decide +kernel : ∀ t : Fin grid0.N, topAt (grid0.coords t) = if t.val ≤ 43 then 1#1 else 0#1)

/-- A later point fills nothing. -/
theorem fill_later {α : Type} (t : Fin cfg0.N) (h : t.val ≠ 0) (z x : α) : fill (grid0.coords t) z x = x :=
  if_neg fun hc => h ((start_iff t).mp hc)
/-- The first point fills with what it is given. -/
theorem fill_first {α : Type} (t : Fin cfg0.N) (h : t.val = 0) (z x : α) : fill (grid0.coords t) z x = z :=
  if_pos ((start_iff t).mpr h)

/-- No window is idle at any point. -/
theorem live (w : Fin cfg0.W) (t : Fin cfg0.N) : cfg0.idle w (grid0.coords t) = false := by
  revert t
  fin_cases w
  iterate 7 exact fun _ => rfl
  exact (by decide +kernel : ∀ t : Fin grid0.N, cfg0.idle 7 (grid0.coords t) = false)

/-! ## What the points leave, of any row tiles `H` and weight blocks `W` -/

section Blocks
variable (H : Fin cfg0.N → Vec F S2048x4096 .bf16) (W : Fin cfg0.N → Vec F S4096x256 .f32)

/-- The weights that point `n` multiplies: those the point before rounded; zeros at the first. -/
def wbOf : (n : ℕ) → n < cfg0.N → Vec F S4096x256 .bf16
  | 0, _ => zeroW
  | n + 1, h => castBlk (W ⟨n, Nat.lt_of_succ_lt h⟩)

/-- The last rows of point `n`'s product. -/
def tailOf (n : ℕ) (h : n < cfg0.N) : FVec F S1x8x256 .f32 := lastRows (acc (H ⟨n, h⟩) (wbOf W n h) 3)

/-- The latest point before `n` on the same row block of the carry. -/
def prev (n : ℕ) : ℕ := if n = 173 then 172 else n - 43

theorem prev_lt (n : ℕ) (h : n < cfg0.N) : prev n < cfg0.N := by
  have h' : n < 174 := h
  show prev n < 174; unfold prev; split <;> omega

/-- The rows above point `n`'s product: zeros at the top, else the last rows of the tile above. -/
def haloOf (n : ℕ) (h : n < cfg0.N) : FVec F S8x256 .f32 :=
  if n ≤ 43 then halo 1#1 (tailOf H W n h) else halo 0#1 (tailOf H W (prev n) (prev_lt n h))

/-- Point `n`'s product with the rows above it. -/
def uOf (n : ℕ) (h : n < cfg0.N) : Vec F S2056x256 .f32 := uBlk (haloOf H W n h) (H ⟨n, h⟩) (wbOf W n h)

/-- The products that point `n` reads: those of the point before; zeros at the first. -/
def uBefore : (n : ℕ) → n < cfg0.N → Vec F S2056x256 .f32
  | 0, _ => zeroU
  | n + 1, h => uOf H W n (Nat.lt_of_succ_lt h)

/-- A carry that holds, of every column met up to point `n`, the last rows of the latest product. -/
def Good (n : ℕ) (h : n < cfg0.N) (X : Vec F S43x8x256 .f32) : Prop :=
  ∀ q (hq : q ≤ n), 1 ≤ q → (∀ q', q < q' → q' ≤ n → jAt q' ≠ jAt q) → carryRow (jAt q) X = tailOf H W q (Nat.lt_of_le_of_lt hq h)

/-- The row block that a store replaced. -/
theorem carryRow_same (j : Fin 43) (X : Vec F S43x8x256 .f32) (r : FVec F S1x8x256 .f32) : carryRow j (carryUpd j.val X r) = r := by
  funext x
  refine (if_pos rfl).trans (congrArg r (funext fun a => Fin.ext ?_))
  match a with
  | ⟨0, _⟩ => have : (x 0).val < 1 := (x 0).isLt; show 0 = (x 0).val; omega
  | ⟨1, _⟩ => rfl
  | ⟨2, _⟩ => rfl

/-- The others. -/
theorem carryRow_other (j k : Fin 43) (h : k ≠ j) (X : Vec F S43x8x256 .f32) (r : FVec F S1x8x256 .f32) :
    carryRow k (carryUpd j.val X r) = carryRow k X :=
  funext fun x => if_neg fun e => h (Fin.ext e)

/-- At the first point nothing is held yet. -/
theorem good_zero (h : 0 < cfg0.N) (X : Vec F S43x8x256 .f32) : Good H W 0 h X := fun q hq h1 => absurd h1 (by omega)

/-- A point's store keeps the carry so. -/
theorem good_succ (n : ℕ) (h : n + 1 < cfg0.N) (X : Vec F S43x8x256 .f32) (hX : Good H W n (Nat.lt_of_succ_lt h) X) :
    Good H W (n + 1) h (carryUpd (jAt (n + 1)).val X (tailOf H W (n + 1) h)) := by
  intro q hq h1 hl
  rcases Nat.lt_or_ge n q with hlt | hle
  · obtain rfl : q = n + 1 := by omega
    exact carryRow_same _ _ _
  · exact (carryRow_other _ _ (hl (n + 1) (by omega) (Nat.le_refl _)).symm _ _).trans
      (hX q hle h1 fun q' a b => hl q' a (by omega))

/-- The zeros at the top do not look at the carry. -/
theorem halo_top (x y : Vec F S1x8x256 .f32) : halo 1#1 x = halo 1#1 y := rfl

/-- The rows above a later point's product, as it reads them from the carry. -/
theorem halo_eq (n : ℕ) (h : n + 1 < cfg0.N) (X : Vec F S43x8x256 .f32) (hX : Good H W n (Nat.lt_of_succ_lt h) X) :
    halo (topAt (grid0.coords ⟨n + 1, h⟩)) (carryRow (jAt (n + 1)) X) = haloOf H W (n + 1) h := by
  have h' : n + 1 < 174 := h
  rw [top_eq]
  unfold haloOf
  by_cases ht : n + 1 ≤ 43
  · rw [if_pos ht, if_pos ht]; exact halo_top _ _
  · rw [if_neg ht, if_neg ht]
    have hj : jAt (n + 1) = jAt (prev (n + 1)) := by
      refine Fin.ext ?_
      show min (n + 1 - 1) 171 % 43 = min (prev (n + 1) - 1) 171 % 43
      unfold prev; split <;> omega
    rw [hj]
    refine congrArg _ (hX (prev (n + 1)) (by unfold prev; split <;> omega) (by unfold prev; split <;> omega) fun q' a b e => ?_)
    have e' : min (q' - 1) 171 % 43 = min (prev (n + 1) - 1) 171 % 43 := congrArg Fin.val e
    unfold prev at a e'
    split at a <;> simp_all <;> omega

/-- The first point's products, as the body leaves them. -/
theorem uOf_first (hn : 0 < cfg0.N) (B : Vec F S4096x256 .bf16) (X : Vec F S43x8x256 .f32) : uOf H W 0 hn
    = uBlk (halo (topAt (grid0.coords ⟨0, hn⟩)) (carryRow (jAt 0) X)) (H ⟨0, hn⟩) (fill (grid0.coords ⟨0, hn⟩) zeroW B) := by
  rw [fill_first _ rfl, top_eq]; rfl

/-- A later even point's products, as the body leaves them. -/
theorem uOf_even (n : ℕ) (hn : n + 1 < cfg0.N) (X : Vec F S43x8x256 .f32) (hX : Good H W n (Nat.lt_of_succ_lt hn) X) : uOf H W (n + 1) hn
    = uBlk (halo (topAt (grid0.coords ⟨n + 1, hn⟩)) (carryRow (jAt (n + 1)) X)) (H ⟨n + 1, hn⟩)
        (fill (grid0.coords ⟨n + 1, hn⟩) zeroW (castBlk (W ⟨n, Nat.lt_of_succ_lt hn⟩))) := by
  rw [fill_later _ (Nat.succ_ne_zero n), halo_eq H W n hn X hX]; rfl

/-- An odd point's products, as the body leaves them. -/
theorem uOf_odd (n : ℕ) (hn : n + 1 < cfg0.N) (X : Vec F S43x8x256 .f32) (hX : Good H W n (Nat.lt_of_succ_lt hn) X) : uOf H W (n + 1) hn
    = uBlk (halo (topAt (grid0.coords ⟨n + 1, hn⟩)) (carryRow (jAt (n + 1)) X)) (H ⟨n + 1, hn⟩) (castBlk (W ⟨n, Nat.lt_of_succ_lt hn⟩)) := by
  rw [halo_eq H W n hn X hX]; rfl

end Blocks

variable (m : (ℓ : Loc nD τ sig) → Buf (Elt F) ℓ) (ρ : Dev nD → PrngReg)

/-- The windows' blocks at point `t`: the activations, the two weights, the convolutions' weights and biases. -/
abbrev hAt (c : Dev nD) (t : Fin cfg0.N) : Vec F S2048x4096 .bf16 := iblk m c 0 t
abbrev gAt (c : Dev nD) (t : Fin cfg0.N) : Vec F S4096x256 .f32 := iblk m c 1 t
abbrev vAt (c : Dev nD) (t : Fin cfg0.N) : Vec F S4096x256 .f32 := iblk m c 2 t
abbrev cgAt (c : Dev nD) (t : Fin cfg0.N) : Vec F S3x256 .f32 := iblk m c 3 t
abbrev cvAt (c : Dev nD) (t : Fin cfg0.N) : Vec F S3x256 .f32 := iblk m c 4 t
abbrev bgAt (c : Dev nD) (t : Fin cfg0.N) : Vec F S1x256 .f32 := iblk m c 5 t
abbrev bvAt (c : Dev nD) (t : Fin cfg0.N) : Vec F S1x256 .f32 := iblk m c 6 t

/-- The output block of point `t`. -/
def outAt (c : Dev nD) (t : Fin cfg0.N) : Vec F S2048x256 .bf16 :=
  outBlk (cgAt m c t) (cvAt m c t) (bgAt m c t) (bvAt m c t) (uBefore (hAt m c) (gAt m c) t.val t.isLt) (uBefore (hAt m c) (vAt m c) t.val t.isLt)

/-- The scratches: the rounded weights, the products and the carries, each in pairs. -/
abbrev sc9 : Memref sig .tc .vmem S4096x256 .bf16 := Memref.whole cc0_scratch0
abbrev sc10 : Memref sig .tc .vmem S4096x256 .bf16 := Memref.whole cc0_scratch1
abbrev sc11 : Memref sig .tc .vmem S4096x256 .bf16 := Memref.whole cc0_scratch2
abbrev sc12 : Memref sig .tc .vmem S4096x256 .bf16 := Memref.whole cc0_scratch3
abbrev sc13 : Memref sig .tc .vmem S2056x256 .f32 := Memref.whole cc0_scratch4
abbrev sc14 : Memref sig .tc .vmem S2056x256 .f32 := Memref.whole cc0_scratch5
abbrev sc15 : Memref sig .tc .vmem S2056x256 .f32 := Memref.whole cc0_scratch6
abbrev sc16 : Memref sig .tc .vmem S2056x256 .f32 := Memref.whole cc0_scratch7
abbrev sc17 : Memref sig .tc .vmem S43x8x256 .f32 := Memref.whole cc0_scratch8
abbrev sc18 : Memref sig .tc .vmem S43x8x256 .f32 := Memref.whole cc0_scratch9

/-- What the scratches hold after an even point. -/
def heldEven (c : Dev nD) (n : ℕ) (h : n < cfg0.N) : sProp 𝕄 :=
  iprop(owns (c : Thread nD τ) sc9 fullShare (castBlk (gAt m c ⟨n, h⟩)) ∗ (∃ d, owns (c : Thread nD τ) sc10 fullShare d) ∗ owns (c : Thread nD τ) sc11 fullShare (castBlk (vAt m c ⟨n, h⟩)) ∗ (∃ d, owns (c : Thread nD τ) sc12 fullShare d) ∗ (∃ d, owns (c : Thread nD τ) sc13 fullShare d) ∗ owns (c : Thread nD τ) sc14 fullShare (uOf (hAt m c) (gAt m c) n h) ∗ (∃ d, owns (c : Thread nD τ) sc15 fullShare d) ∗ owns (c : Thread nD τ) sc16 fullShare (uOf (hAt m c) (vAt m c) n h) ∗ (∃ X, ⌜Good (hAt m c) (gAt m c) n h X⌝ ∗ owns (c : Thread nD τ) sc17 fullShare X) ∗ (∃ X, ⌜Good (hAt m c) (vAt m c) n h X⌝ ∗ owns (c : Thread nD τ) sc18 fullShare X))

/-- What they hold after an odd point. -/
def heldOdd (c : Dev nD) (n : ℕ) (h : n < cfg0.N) : sProp 𝕄 :=
  iprop((∃ d, owns (c : Thread nD τ) sc9 fullShare d) ∗ owns (c : Thread nD τ) sc10 fullShare (castBlk (gAt m c ⟨n, h⟩)) ∗ (∃ d, owns (c : Thread nD τ) sc11 fullShare d) ∗ owns (c : Thread nD τ) sc12 fullShare (castBlk (vAt m c ⟨n, h⟩)) ∗ owns (c : Thread nD τ) sc13 fullShare (uOf (hAt m c) (gAt m c) n h) ∗ (∃ d, owns (c : Thread nD τ) sc14 fullShare d) ∗ owns (c : Thread nD τ) sc15 fullShare (uOf (hAt m c) (vAt m c) n h) ∗ (∃ d, owns (c : Thread nD τ) sc16 fullShare d) ∗ (∃ X, ⌜Good (hAt m c) (gAt m c) n h X⌝ ∗ owns (c : Thread nD τ) sc17 fullShare X) ∗ (∃ X, ⌜Good (hAt m c) (vAt m c) n h X⌝ ∗ owns (c : Thread nD τ) sc18 fullShare X))

/-- The invariant: before the first point the scratches hold anything; after point `n` those of `n`'s parity hold that point's
    weights and products, and the carries the last rows. -/
def PhiS (c : Dev nD) : (n : ℕ) → n ≤ cfg0.N → sProp 𝕄
  | 0, _ => iprop(iprop((∃ d, owns (c : Thread nD τ) sc9 fullShare d) ∗ (∃ d, owns (c : Thread nD τ) sc10 fullShare d) ∗ (∃ d, owns (c : Thread nD τ) sc11 fullShare d) ∗ (∃ d, owns (c : Thread nD τ) sc12 fullShare d) ∗ (∃ d, owns (c : Thread nD τ) sc13 fullShare d) ∗ (∃ d, owns (c : Thread nD τ) sc14 fullShare d) ∗ (∃ d, owns (c : Thread nD τ) sc15 fullShare d) ∗ (∃ d, owns (c : Thread nD τ) sc16 fullShare d) ∗ (∃ d, owns (c : Thread nD τ) sc17 fullShare d) ∗ (∃ d, owns (c : Thread nD τ) sc18 fullShare d)) ∗ (∃ r, prngReg c r))
  | n + 1, h => if n % 2 = 0 then iprop(heldEven m c n h ∗ (∃ r, prngReg c r)) else iprop(heldOdd m c n h ∗ (∃ r, prngReg c r))

/-- The invariant after an even point. -/
theorem PhiS_even (c : Dev nD) (n : ℕ) (h : n + 1 ≤ cfg0.N) (hp : n % 2 = 0) : PhiS m c (n + 1) h = iprop(heldEven m c n h ∗ (∃ r, prngReg c r)) :=
  if_pos hp

/-- The invariant after an odd point. -/
theorem PhiS_odd (c : Dev nD) (n : ℕ) (h : n + 1 ≤ cfg0.N) (hp : ¬n % 2 = 0) : PhiS m c (n + 1) h = iprop(heldOdd m c n h ∗ (∃ r, prngReg c r)) :=
  if_neg hp

/-- What the launch hands over, spelt with the scratches. -/
theorem PhiA_eq (c : Dev nD) : (Pipeline.ΦA spec0 c : sProp 𝕄) = iprop(iprop((∃ d, owns (c : Thread nD τ) sc9 fullShare d) ∗ (∃ d, owns (c : Thread nD τ) sc10 fullShare d) ∗ (∃ d, owns (c : Thread nD τ) sc11 fullShare d) ∗ (∃ d, owns (c : Thread nD τ) sc12 fullShare d) ∗ (∃ d, owns (c : Thread nD τ) sc13 fullShare d) ∗ (∃ d, owns (c : Thread nD τ) sc14 fullShare d) ∗ (∃ d, owns (c : Thread nD τ) sc15 fullShare d) ∗ (∃ d, owns (c : Thread nD τ) sc16 fullShare d) ∗ (∃ d, owns (c : Thread nD τ) sc17 fullShare d) ∗ (∃ d, owns (c : Thread nD τ) sc18 fullShare d)) ∗ (∃ r, prngReg c r)) := by
  unfold Pipeline.ΦA; rw [scopedRest0_eq]; simp only [sc9, sc10, sc11, sc12, sc13, sc14, sc15, sc16, sc17, sc18, owns_whole]; try rfl

/-- The proof data: the arrays as the region finds them, the blocks each point leaves, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem Phi_at (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What a window's buffer is left with is its block after the body. -/
theorem leaves (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w t]

/-! ## The body -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t)

set_option maxHeartbeats 2000000 in
/-- The body at any point: the first point, an odd one, or an even one after the first. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [leaves m c 0, leaves m c 1, leaves m c 2, leaves m c 3, leaves m c 4, leaves m c 5, leaves m c 6, leaves m c 7, after_0, after_1, after_2, after_3, after_4, after_5, after_6, after_7,
    show (dats m 0 c).owesAt () t.succ = (dats m 0 c).owesAt () t.castSucc from rfl,
    show (dats m 0 c).Φ t.succ = PhiS m c (t.val + 1) t.isLt from rfl, Phi_at]
  obtain ⟨n, hn⟩ := t
  unfold outAt
  match n, hn with
  | 0, hn =>
    rw [PhiS_even m c 0 hn rfl]
    unfold PhiS heldEven
    have h2 : k0_cond2 (grid0.coords ⟨0, hn⟩) = 1#1 := (even_iff _).mpr rfl
    have h3 : ¬k0_cond3 (grid0.coords ⟨0, hn⟩) = 1#1 := fun h => absurd ((odd_iff _).mp h) Nat.zero_ne_one
    iintro ⟨⟨⟨HS9, ⟨%d10, HS10⟩, HS11, ⟨%d12, HS12⟩, ⟨%d13, HS13⟩, HS14, ⟨%d15, HS15⟩, HS16, ⟨%d17, HS17⟩, ⟨%d18, HS18⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_even c (grid0.coords ⟨0, hn⟩) (jAt (0)) _ _ _ _ _ _ _ _ _ _ _ _ _ _ _ _ _ _ _ _ _ _ _ _ _ _ _ _ _ _ _ _ _ _ _ _ h2 h3 (off_even ⟨0, hn⟩) (hAt m c ⟨0, hn⟩) (gAt m c ⟨0, hn⟩) (vAt m c ⟨0, hn⟩) (cgAt m c ⟨0, hn⟩) (cvAt m c ⟨0, hn⟩) (bgAt m c ⟨0, hn⟩) (bvAt m c ⟨0, hn⟩) _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS9]; · iexact HS9
    isplitl [HS10]; · iexact HS10
    isplitl [HS11]; · iexact HS11
    isplitl [HS12]; · iexact HS12
    isplitl [HS13]; · iexact HS13
    isplitl [HS14]; · iexact HS14
    isplitl [HS15]; · iexact HS15
    isplitl [HS16]; · iexact HS16
    isplitl [HS17]; · iexact HS17
    isplitl [HS18]; · iexact HS18
    iintro ⟨H0, H1, H2, H3, H4, H5, H6, H7, HS9, HS10, HS11, HS12, HS13, HS14, HS15, HS16, HS17, HS18⟩
    isplitl [HS9 HS10 HS11 HS12 HS13 HS14 HS15 HS16 HS17 HS18 Hg]
    · isplitl [HS9 HS10 HS11 HS12 HS13 HS14 HS15 HS16 HS17 HS18]
      · isplitl [HS9]; · iexact HS9
        isplitl [HS10]; · iexact HS10
        isplitl [HS11]; · iexact HS11
        isplitl [HS12]; · iexact HS12
        isplitl [HS13]; · iexact HS13
        isplitl [HS14]; · rw [uOf_first (hAt m c) (gAt m c) hn d10 d17]; iexact HS14
        isplitl [HS15]; · iexact HS15
        isplitl [HS16]; · rw [uOf_first (hAt m c) (vAt m c) hn d12 d18]; iexact HS16
        isplitl [HS17]
        · iexists _; isplitr; swap; · iexact HS17
          ipureintro; exact good_zero _ _ _ _
        iexists _; isplitr; swap; · iexact HS18
        ipureintro; exact good_zero _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    rw [show uBefore (hAt m c) (gAt m c) 0 hn = fill (grid0.coords ⟨0, hn⟩) zeroU d13 from (fill_first ⟨0, hn⟩ rfl _ _).symm,
            show uBefore (hAt m c) (vAt m c) 0 hn = fill (grid0.coords ⟨0, hn⟩) zeroU d15 from (fill_first ⟨0, hn⟩ rfl _ _).symm]
    iexact H7
  | n + 1, hn =>
    rcases Nat.mod_two_eq_zero_or_one n with hp | hp
    · have h2 : ¬k0_cond2 (grid0.coords ⟨n + 1, hn⟩) = 1#1 := fun h => by have := (even_iff _).mp h; change (n + 1) % 2 = 0 at this; omega
      have h3 : k0_cond3 (grid0.coords ⟨n + 1, hn⟩) = 1#1 := (odd_iff _).mpr (by show (n + 1) % 2 = 1; omega)
      rw [PhiS_odd m c (n + 1) hn (by omega), PhiS_even m c n _ hp]
      unfold heldEven heldOdd
      iintro ⟨⟨⟨HS9, HS10, HS11, HS12, HS13, HS14, HS15, HS16, ⟨%X17, %hX17, HS17⟩, ⟨%X18, %hX18, HS18⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_odd c (grid0.coords ⟨n + 1, hn⟩) (jAt (n + 1)) _ _ _ _ _ _ _ _ _ _ _ _ _ _ _ _ _ _ _ _ _ _ _ _ _ _ _ _ _ _ _ _ _ _ _ _ h2 h3 (off_odd ⟨n + 1, hn⟩) (hAt m c ⟨n + 1, hn⟩) (gAt m c ⟨n + 1, hn⟩) (vAt m c ⟨n + 1, hn⟩) (cgAt m c ⟨n + 1, hn⟩) (cvAt m c ⟨n + 1, hn⟩) (bgAt m c ⟨n + 1, hn⟩) (bvAt m c ⟨n + 1, hn⟩) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      iintro ⟨H0, H1, H2, H3, H4, H5, H6, H7, HS9, HS10, HS11, HS12, HS13, HS14, HS15, HS16, HS17, HS18⟩
      isplitl [HS9 HS10 HS11 HS12 HS13 HS14 HS15 HS16 HS17 HS18 Hg]
      · isplitl [HS9 HS10 HS11 HS12 HS13 HS14 HS15 HS16 HS17 HS18]
        · isplitl [HS9]; · iexact HS9
          isplitl [HS10]; · iexact HS10
          isplitl [HS11]; · iexact HS11
          isplitl [HS12]; · iexact HS12
          isplitl [HS13]; · rw [uOf_odd (hAt m c) (gAt m c) n hn X17 hX17]; iexact HS13
          isplitl [HS14]; · iexact HS14
          isplitl [HS15]; · rw [uOf_odd (hAt m c) (vAt m c) n hn X18 hX18]; iexact HS15
          isplitl [HS16]; · iexact HS16
          isplitl [HS17]
          · iexists _; isplitr; swap; · iexact HS17
            ipureintro; exact good_succ (hAt m c) (gAt m c) n hn X17 hX17
          iexists _; isplitr; swap; · iexact HS18
          ipureintro; exact good_succ (hAt m c) (vAt m c) n hn X18 hX18
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have h2 : k0_cond2 (grid0.coords ⟨n + 1, hn⟩) = 1#1 := (even_iff _).mpr (by show (n + 1) % 2 = 0; omega)
      have h3 : ¬k0_cond3 (grid0.coords ⟨n + 1, hn⟩) = 1#1 := fun h => by have := (odd_iff _).mp h; change (n + 1) % 2 = 1 at this; omega
      rw [PhiS_even m c (n + 1) hn (by omega), PhiS_odd m c n _ (by omega)]
      unfold heldEven heldOdd
      iintro ⟨⟨⟨HS9, HS10, HS11, HS12, HS13, HS14, HS15, HS16, ⟨%X17, %hX17, HS17⟩, ⟨%X18, %hX18, HS18⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_even c (grid0.coords ⟨n + 1, hn⟩) (jAt (n + 1)) _ _ _ _ _ _ _ _ _ _ _ _ _ _ _ _ _ _ _ _ _ _ _ _ _ _ _ _ _ _ _ _ _ _ _ _ h2 h3 (off_even ⟨n + 1, hn⟩) (hAt m c ⟨n + 1, hn⟩) (gAt m c ⟨n + 1, hn⟩) (vAt m c ⟨n + 1, hn⟩) (cgAt m c ⟨n + 1, hn⟩) (cvAt m c ⟨n + 1, hn⟩) (bgAt m c ⟨n + 1, hn⟩) (bvAt m c ⟨n + 1, hn⟩) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      iintro ⟨H0, H1, H2, H3, H4, H5, H6, H7, HS9, HS10, HS11, HS12, HS13, HS14, HS15, HS16, HS17, HS18⟩
      isplitl [HS9 HS10 HS11 HS12 HS13 HS14 HS15 HS16 HS17 HS18 Hg]
      · isplitl [HS9 HS10 HS11 HS12 HS13 HS14 HS15 HS16 HS17 HS18]
        · isplitl [HS9]; · iexact HS9
          isplitl [HS10]; · iexact HS10
          isplitl [HS11]; · iexact HS11
          isplitl [HS12]; · iexact HS12
          isplitl [HS13]; · iexact HS13
          isplitl [HS14]; · rw [uOf_even (hAt m c) (gAt m c) n hn X17 hX17]; iexact HS14
          isplitl [HS15]; · iexact HS15
          isplitl [HS16]; · rw [uOf_even (hAt m c) (vAt m c) n hn X18 hX18]; iexact HS16
          isplitl [HS17]
          · iexists _; isplitr; swap; · iexact HS17
            ipureintro; rw [fill_later ⟨n + 1, hn⟩ (Nat.succ_ne_zero n)]; exact good_succ (hAt m c) (gAt m c) n hn X17 hX17
          iexists _; isplitr; swap; · iexact HS18
          ipureintro; rw [fill_later ⟨n + 1, hn⟩ (Nat.succ_ne_zero n)]; exact good_succ (hAt m c) (vAt m c) n hn X18 hX18
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      rw [show uBefore (hAt m c) (gAt m c) (n + 1) hn = fill (grid0.coords ⟨n + 1, hn⟩) zeroU (uOf (hAt m c) (gAt m c) n (Nat.lt_of_succ_lt hn)) from (fill_later ⟨n + 1, hn⟩ (Nat.succ_ne_zero n) _ _).symm,
              show uBefore (hAt m c) (vAt m c) (n + 1) hn = fill (grid0.coords ⟨n + 1, hn⟩) zeroU (uOf (hAt m c) (vAt m c) n (Nat.lt_of_succ_lt hn)) from (fill_later ⟨n + 1, hn⟩ (Nat.succ_ne_zero n) _ _).symm]
      iexact H7

/-! ## The run -/

/-- The body table's row at a point's slots is the body there. -/
theorem row (t : Fin cfg0.N) : defs₀ (F := F) .tc cfg0.body (cfg0.bodyArgs t (cfg0.slots t)) = bodyAt0 t := by
  unfold defs₀; rw [Defs.onTc_tc]

/-- The obligation of the pipeline's rule. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-- The launch establishes the invariant. -/
theorem hin (c : Dev nD) : Pipeline.ΦA spec0 c ⊢ (dats m 0 c).Φ 0 := by
  rw [show (dats m 0 c).Φ 0 = PhiS m c 0 (Nat.zero_le _) from rfl, PhiA_eq]
  exact Idealize.SL.BI.Entails.refl _

/-- The invariant at the end gives the scratches back. -/
theorem hout (c : Dev nD) : (dats m 0 c).Φ (Fin.last cfg0.N) ⊢ Pipeline.ΦA spec0 c := by
  rw [show (dats m 0 c).Φ (Fin.last cfg0.N) = PhiS m c (173 + 1) (by decide) from rfl, PhiA_eq, PhiS_odd m c 173 _ (by decide)]
  unfold heldOdd
  iintro ⟨⟨HS9, HS10, HS11, HS12, HS13, HS14, HS15, HS16, ⟨%X17, -, HS17⟩, ⟨%X18, -, HS18⟩⟩, Hg⟩
  isplitl [HS9 HS10 HS11 HS12 HS13 HS14 HS15 HS16 HS17 HS18]
  · isplitl [HS9]; · iexact HS9
    isplitl [HS10]; · iexists _; iexact HS10
    isplitl [HS11]; · iexact HS11
    isplitl [HS12]; · iexists _; iexact HS12
    isplitl [HS13]; · iexists _; iexact HS13
    isplitl [HS14]; · iexact HS14
    isplitl [HS15]; · iexists _; iexact HS15
    isplitl [HS16]; · iexact HS16
    isplitl [HS17]; · iexists _; iexact HS17
    iexists _; iexact HS18
  iexact Hg

set_option backward.isDefEq.respectTransparency.types false in
/-- The program runs to its end, every array as the proof data says, every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged, the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Kernel4Ideal.Hand

end
-- ==== Proof.UpValue.lean ====
/- The up projection's blocks at the ideal instance, at a place. -/
module

public import proofs.«01_k».proof.Proof.UpBlocks
public import proofs.«01_k».proof.Proof.Chunks

@[expose] public section

set_option maxRecDepth 16384

noncomputable section

namespace Cert.Kernel4Ideal.Hand

open Idealize.ShloMosaic Idealize.SL.Sem
open Cert.Kernel4Ideal Cert.Kernel4Ideal.Gen Cert.Tiles

/-- One chunk's product at a place. -/
theorem part_apply (H : Vec Ideal S2048x4096 .bf16) (B : Vec Ideal S4096x256 .bf16) (i : Fin 4) (c : Fin 16) (r : Fin 512) (n : Fin 256) :
    part H B i c (ix2 r n) = ∑ k : Fin 256, (H (ix2 ⟨512 * i.val + r.val, chunk_lt rfl i r⟩ ⟨256 * c.val + k.val, chunk_lt rfl c k⟩) : EReal)
      * B (ix2 ⟨256 * c.val + k.val, chunk_lt rfl c k⟩ n) := by
  unfold part
  pointwise
  refine Finset.sum_congr rfl fun k _ => ?_
  rw [tile_apply, tile_apply]
  refine congrArg (fun z => _ * B (ix2 _ z)) (Fin.ext ?_)
  show 256 * 0 + n.val = n.val
  omega

/-- The chunks added up to the `n`-th, at a place. -/
theorem accN_apply (H : Vec Ideal S2048x4096 .bf16) (B : Vec Ideal S4096x256 .bf16) (i : Fin 4) (x : S512x256.Idx) :
    ∀ n : ℕ, (accN H B i n x : EReal) = ∑ c ∈ Finset.range (n + 1), (part H B i (Fin.ofNat 16 c) x : EReal)
  | 0 => by rw [Finset.sum_range_one]; rfl
  | n + 1 => by
    rw [Finset.sum_range_succ, ← accN_apply H B i x n]; rfl

/-- A row block of the product at a place. -/
theorem acc_apply (H : Vec Ideal S2048x4096 .bf16) (B : Vec Ideal S4096x256 .bf16) (i : Fin 4) (r : Fin 512) (n : Fin 256) :
    acc H B i (ix2 r n) = ∑ k : Fin 4096, (H (ix2 ⟨512 * i.val + r.val, chunk_lt rfl i r⟩ k) : EReal) * B (ix2 k n) := by
  refine Eq.trans ?_ (sum_chunks (p := 16) (b := 256) (n := 4096) rfl fun k => (H (ix2 ⟨512 * i.val + r.val, chunk_lt rfl i r⟩ k) : EReal) * B (ix2 k n))
  refine Eq.trans ?_ (Finset.sum_congr rfl fun c _ => part_apply H B i c r n)
  exact (accN_apply H B i (ix2 r n) 15).trans (Fin.sum_univ_eq_sum_range (fun c => (part H B i (Fin.ofNat 16 c) (ix2 r n) : EReal)) 16).symm |>.trans
    (Finset.sum_congr rfl fun c _ => by rw [Fin.ofNat_val_eq_self])

/-- The rounded block at a place. -/
theorem castBlk_apply (W : Vec Ideal S4096x256 .f32) (k : Fin 4096) (n : Fin 256) : (castBlk W (ix2 k n) : EReal) = W (ix2 k n) := by
  refine (ofRows_apply (p := 16) (b := 256) (n := 4096) (w := 256) rfl (castTile W) ⟨k.val / 256, by omega⟩ ⟨k.val % 256, Nat.mod_lt _ (by decide)⟩
    (ix2 k n) (Nat.div_add_mod _ _).symm).trans ?_
  unfold castTile
  pointwise [k0_pay9]
  rw [tile_apply]
  refine congrArg W (congrArg₂ ix2 (Fin.ext (Nat.div_add_mod _ _)) (Fin.ext ?_))
  show 256 * 0 + n.val = n.val
  omega

/-- The last rows of a row block at a place. -/
theorem lastRows_apply (a : FVec Ideal S512x256 .f32) (s : Fin 8) (n : Fin 256) :
    (lastRows a (ix3 0 s n) : EReal) = a (ix2 ⟨504 + s.val, by omega⟩ n) := by
  pointwise [lastRows, k0_pay1]

/-- The rows above the tiles at the top are zeros. -/
theorem halo_one (x : Vec Ideal S1x8x256 .f32) (y : S8x256.Idx) : (halo 1#1 x y : EReal) = 0 := by
  pointwise [halo, k0_pay147]

/-- The rows above the others are the carried ones. -/
theorem halo_zero (x : Vec Ideal S1x8x256 .f32) (s : Fin 8) (n : Fin 256) : (halo 0#1 x (ix2 s n) : EReal) = x (ix3 0 s n) := by
  pointwise [halo, k0_pay147]

/-- The rows above a product. -/
theorem uBlk_top (top : FVec Ideal S8x256 .f32) (H : Vec Ideal S2048x4096 .bf16) (B : Vec Ideal S4096x256 .bf16) (s : Fin 8) (n : Fin 256)
    (h : s.val < 2056) : (uBlk top H B (ix2 ⟨s.val, h⟩ n) : EReal) = top (ix2 s n) :=
  dif_pos s.isLt

/-- The product's own rows. -/
theorem uBlk_row (top : FVec Ideal S8x256 .f32) (H : Vec Ideal S2048x4096 .bf16) (B : Vec Ideal S4096x256 .bf16) (r : Fin 2048) (n : Fin 256)
    (h : 8 + r.val < 2056) : (uBlk top H B (ix2 ⟨8 + r.val, h⟩ n) : EReal) = ∑ k : Fin 4096, (H (ix2 r k) : EReal) * B (ix2 k n) := by
  refine (dif_neg (Nat.not_lt.mpr (Nat.le_add_right _ _))).trans ?_
  refine (ofRows_apply (p := 4) (b := 512) (w := 256) rfl _ ⟨r.val / 512, by omega⟩ ⟨r.val % 512, Nat.mod_lt _ (by decide)⟩ _
    (by show 8 + r.val - 8 = 512 * (r.val / 512) + r.val % 512; omega)).trans ?_
  refine Eq.trans (b := (acc H B ⟨r.val / 512, by omega⟩ (ix2 ⟨r.val % 512, Nat.mod_lt _ (by decide)⟩ n) : EReal)) ?_ ?_
  · pointwise [k0_pay148]
  · rw [acc_apply]
    refine Finset.sum_congr rfl fun k _ => congrArg (fun z => (H (ix2 z k) : EReal) * B (ix2 k n)) (Fin.ext (Nat.div_add_mod _ _))

/-- A column's convolution at three rows. -/
def mix (b w0 w1 w2 u0 u1 u2 : EReal) : EReal := b + w0 * u0 + w1 * u1 + w2 * u2

/-- Gating. -/
def gate (g v : EReal) : EReal := g * Ideal.logistic g * v

/-- The rows that a row of the output is convolved from. -/
theorem row_lt (r : Fin 2048) (s : ℕ) (hs : s < 3) : 6 + s + r.val < 2056 := by have := r.isLt; omega

/-- The convolution of a block at a row and a column. -/
def convAt (CW : Vec Ideal S3x256 .f32) (CB : Vec Ideal S1x256 .f32) (U : Vec Ideal S2056x256 .f32) (r : Fin 2048) (n : Fin 256) : EReal :=
  mix (CB (ix2 0 n)) (CW (ix2 0 n)) (CW (ix2 1 n)) (CW (ix2 2 n)) (U (ix2 ⟨6 + 0 + r.val, row_lt r 0 (by decide)⟩ n))
    (U (ix2 ⟨6 + 1 + r.val, row_lt r 1 (by decide)⟩ n)) (U (ix2 ⟨6 + 2 + r.val, row_lt r 2 (by decide)⟩ n))

/-- Thirty-two rows' part of the buffer at a place. -/
theorem rows_apply (U : Vec Ideal S2056x256 .f32) (k : Fin 64) (s : Fin 3) (a : Fin 32) (n : Fin 256) :
    rows U k s (ix2 a n) = U (ix2 ⟨6 + s.val + (32 * k.val + a.val), by omega⟩ n) := by
  refine congrArg U (funext fun d => Fin.ext ?_)
  match d with
  | ⟨0, _⟩ => show 6 + s.val + 32 * k.val + 1 * a.val = 6 + s.val + (32 * k.val + a.val); omega
  | ⟨1, _⟩ => show 0 + 1 * n.val = n.val; omega

/-- The convolution's weights as a point reads them. -/
theorem cwOf_eq (CW : Vec Ideal S3x256 .f32) : cwOf CW = CW := by
  funext x
  refine congrArg CW (funext fun d => Fin.ext ?_)
  match d with
  | ⟨0, _⟩ => show 0 + 1 * (x 0).val = (x 0).val; omega
  | ⟨1, _⟩ => show 0 + 1 * (x 1).val = (x 1).val; omega

/-- Its bias. -/
theorem cbOf_eq (CB : Vec Ideal S1x256 .f32) : cbOf CB = CB := by
  funext x
  refine congrArg CB (funext fun d => Fin.ext ?_)
  match d with
  | ⟨0, _⟩ => show 0 + 1 * (x 0).val = (x 0).val; omega
  | ⟨1, _⟩ => show 0 + 1 * (x 1).val = (x 1).val; omega

/-- Thirty-two rows convolved, at a place. -/
theorem conv_apply (CW : Vec Ideal S3x256 .f32) (CB : Vec Ideal S1x256 .f32) (U : Vec Ideal S2056x256 .f32) (k : Fin 64) (a : Fin 32) (n : Fin 256) :
    (conv CW CB U k (ix2 a n) : EReal) = convAt CW CB U ⟨32 * k.val + a.val, chunk_lt rfl k a⟩ n := by
  unfold conv
  rw [cwOf_eq, cbOf_eq]
  refine Eq.trans (b := mix (CB (ix2 0 n)) (CW (ix2 0 n)) (CW (ix2 1 n)) (CW (ix2 2 n)) (rows U k 0 (ix2 a n)) (rows U k 1 (ix2 a n)) (rows U k 2 (ix2 a n))) ?_ ?_
  · pointwise [k0_pay19, mix]
  · rw [rows_apply, rows_apply, rows_apply]; rfl

/-- The output block at a place. -/
theorem outBlk_apply (CWg CWv : Vec Ideal S3x256 .f32) (CBg CBv : Vec Ideal S1x256 .f32) (Ug Uv : Vec Ideal S2056x256 .f32) (r : Fin 2048) (n : Fin 256) :
    (outBlk CWg CWv CBg CBv Ug Uv (ix2 r n) : EReal) = gate (convAt CWg CBg Ug r n) (convAt CWv CBv Uv r n) := by
  refine (ofRows_apply (p := 64) (b := 32) (n := 2048) (w := 256) rfl (outTile CWg CWv CBg CBv Ug Uv) ⟨r.val / 32, by omega⟩ ⟨r.val % 32, Nat.mod_lt _ (by decide)⟩
    (ix2 r n) (Nat.div_add_mod _ _).symm).trans ?_
  have e := fun CW CB U => conv_apply CW CB U ⟨r.val / 32, by omega⟩ ⟨r.val % 32, Nat.mod_lt _ (by decide)⟩ n
  have er : (⟨32 * (r.val / 32) + r.val % 32, chunk_lt rfl (⟨r.val / 32, by omega⟩ : Fin 64) (⟨r.val % 32, Nat.mod_lt _ (by decide)⟩ : Fin 32)⟩ : Fin 2048) = r :=
    Fin.ext (Nat.div_add_mod _ _)
  refine Eq.trans (b := gate (conv CWg CBg Ug ⟨r.val / 32, by omega⟩ (ix2 ⟨r.val % 32, Nat.mod_lt _ (by decide)⟩ n))
    (conv CWv CBv Uv ⟨r.val / 32, by omega⟩ (ix2 ⟨r.val % 32, Nat.mod_lt _ (by decide)⟩ n))) rfl ?_
  rw [e, e]
  simp only [er]

end Cert.Kernel4Ideal.Hand

end
-- ==== Proof.UpFinal.lean ====
/- The array the up projection leaves, at the ideal instance. -/
module

public import proofs.«01_k».proof.Proof.UpBody
public import proofs.«01_k».proof.Proof.UpValue

@[expose] public section

set_option maxRecDepth 16384

noncomputable section

namespace Cert.Kernel4Ideal.Hand

open Idealize.ShloMosaic Idealize.ShloMosaic.TcCoe Idealize.SL.Sem
open Idealize.ShloMosaic.Pipeline (Dat)
open Cert.Kernel4Ideal Cert.Kernel4Ideal.Gen Cert.Tiles

/-! ## What the program computes -/

/-- The projection at a row and a column. -/
def up (H : Vec Ideal S8192x4096 .bf16) (W : Vec Ideal S1x4096x22016 .f32) (r : Fin 8192) (n : Fin 22016) : EReal :=
  ∑ k : Fin 4096, (H (ix2 r k) : EReal) * W (ix3 0 k n)

/-- The same with two rows of zeros above it. -/
def upPad (H : Vec Ideal S8192x4096 .bf16) (W : Vec Ideal S1x4096x22016 .f32) (i : ℕ) (hi : i < 8194) (n : Fin 22016) : EReal :=
  if h : i < 2 then 0 else up H W ⟨i - 2, by omega⟩ n

/-- The convolution down the columns. -/
def convUp (H : Vec Ideal S8192x4096 .bf16) (W : Vec Ideal S1x4096x22016 .f32) (C : Vec Ideal S1x3x22016 .f32) (b : Vec Ideal S1x22016 .f32)
    (r : Fin 8192) (n : Fin 22016) : EReal :=
  mix (b (ix2 0 n)) (C (ix3 0 0 n)) (C (ix3 0 1 n)) (C (ix3 0 2 n)) (upPad H W r.val (by omega) n) (upPad H W (r.val + 1) (by omega) n)
    (upPad H W (r.val + 2) (by omega) n)

/-- The result: the first half of the columns, gated, times the second. -/
def G (H : Vec Ideal S8192x4096 .bf16) (W : Vec Ideal S1x4096x22016 .f32) (C : Vec Ideal S1x3x22016 .f32) (b : Vec Ideal S1x22016 .f32)
    (r : Fin 8192) (n : Fin 11008) : EReal :=
  gate (convUp H W C b r ⟨n.val, by omega⟩) (convUp H W C b r ⟨11008 + n.val, by omega⟩)

/-! ## One point's products as parts of the projection -/

section Point
variable (H : Fin cfg0.N → Vec Ideal S2048x4096 .bf16) (W : Fin cfg0.N → Vec Ideal S4096x256 .f32)
variable (A : Vec Ideal S8192x4096 .bf16) (M : Vec Ideal S1x4096x22016 .f32) (o : ℕ) (ho : o ≤ 11008)

/-- A tile's row lies in the array. -/
theorem tile_row (n r : ℕ) (hn : n < 172) (hr : r < 2048) : 2048 * (n / 43) + r < 8192 := by omega
/-- A tile's column lies in its half. -/
theorem tile_col (n q : ℕ) (hq : q < 256) : 256 * (n % 43) + q < 11008 := by have := Nat.mod_lt n (show 0 < 43 by decide); omega
include ho in
/-- And in the array. -/
theorem tile_col' (n q : ℕ) (hq : q < 256) : o + (256 * (n % 43) + q) < 22016 := by have := tile_col n q hq; omega
/-- A row of a tile with the two rows above it lies in the padded array. -/
theorem tile_pad (n q : ℕ) (hn : n < 172) (hq : q < 2050) : 2048 * (n / 43) + q < 8194 := by omega

variable (hH : ∀ n (hn : n < 172) (r : Fin 2048) (k : Fin 4096), (H ⟨n + 1, lt_of_lt_of_eq (by omega : n + 1 < 174) N_0.symm⟩ (ix2 r k) : EReal)
    = A (ix2 ⟨2048 * (n / 43) + r.val, tile_row n _ hn r.isLt⟩ k))
variable (hW : ∀ n (hn : n < 172) (k : Fin 4096) (q : Fin 256), (W ⟨n, lt_of_lt_of_eq (by omega : n < 174) N_0.symm⟩ (ix2 k q) : EReal)
    = M (ix3 0 k ⟨o + (256 * (n % 43) + q.val), tile_col' o ho n _ q.isLt⟩))

include hH hW in
/-- A point's product at a row of its tile is the projection there. -/
theorem prod_eq (n : ℕ) (hn : n < 172) (hn' : n + 1 < cfg0.N) (r : Fin 2048) (q : Fin 256) :
    ∑ k : Fin 4096, (H ⟨n + 1, hn'⟩ (ix2 r k) : EReal) * wbOf W (n + 1) hn' (ix2 k q)
      = up A M ⟨2048 * (n / 43) + r.val, tile_row n _ hn r.isLt⟩ ⟨o + (256 * (n % 43) + q.val), tile_col' o ho n _ q.isLt⟩ := by
  refine Finset.sum_congr rfl fun k _ => ?_
  rw [hH n hn r k]
  refine congrArg _ ?_
  exact (castBlk_apply _ k q).trans (hW n hn k q)

include hH hW in
/-- The last rows of its product. -/
theorem tail_eq (n : ℕ) (hn : n < 172) (hn' : n + 1 < cfg0.N) (s : Fin 8) (q : Fin 256) :
    (tailOf H W (n + 1) hn' (ix3 0 s q) : EReal)
      = up A M ⟨2048 * (n / 43) + (2040 + s.val), tile_row n _ hn (by omega)⟩ ⟨o + (256 * (n % 43) + q.val), tile_col' o ho n _ q.isLt⟩ := by
  unfold tailOf
  rw [lastRows_apply, acc_apply]
  refine Eq.trans ?_ (prod_eq H W A M o ho hH hW n hn hn' ⟨2040 + s.val, by omega⟩ q)
  refine Finset.sum_congr rfl fun k _ => congrArg (fun z => (H ⟨n + 1, hn'⟩ (ix2 z k) : EReal) * wbOf W (n + 1) hn' (ix2 k q)) (Fin.ext ?_)
  show 512 * 3 + (504 + s.val) = 2040 + s.val
  omega

include hH hW in
/-- A point's product with the rows above it is the padded projection. -/
theorem u_eq (n : ℕ) (hn : n < 172) (hn' : n + 1 < cfg0.N) (p : ℕ) (hp : p < 2050) (hp' : 6 + p < 2056) (q : Fin 256) :
    (uOf H W (n + 1) hn' (ix2 ⟨6 + p, hp'⟩ q) : EReal)
      = upPad A M (2048 * (n / 43) + p) (tile_pad n p hn hp) ⟨o + (256 * (n % 43) + q.val), tile_col' o ho n _ q.isLt⟩ := by
  unfold uOf
  rcases Nat.lt_or_ge p 2 with h | h
  · refine (uBlk_top _ _ _ ⟨6 + p, by omega⟩ q hp').trans ?_
    unfold haloOf upPad
    by_cases ht : n + 1 ≤ 43
    · rw [if_pos ht, halo_one, dif_pos (by omega)]
    · rw [if_neg ht, halo_zero, dif_neg (by omega)]
      have hpv : prev (n + 1) = (n - 43) + 1 := by unfold prev; rw [if_neg (by omega)]; omega
      have ep : ∀ (a : ℕ) (ha : a < cfg0.N) (b : ℕ) (hb : b < cfg0.N), a = b → tailOf H W a ha = tailOf H W b hb := by
        rintro a _ _ _ rfl; rfl
      rw [ep _ _ (n - 43 + 1) (by show n - 43 + 1 < 174; omega) hpv, tail_eq H W A M o ho hH hW (n - 43) (by omega)]
      refine congrArg₂ (up A M) (Fin.ext ?_) (Fin.ext ?_)
      · show 2048 * ((n - 43) / 43) + (2040 + (6 + p)) = 2048 * (n / 43) + p - 2
        omega
      · show o + (256 * ((n - 43) % 43) + q.val) = o + (256 * (n % 43) + q.val)
        omega
  · have e : (⟨6 + p, hp'⟩ : Fin 2056) = ⟨8 + (p - 2), by omega⟩ := Fin.ext (by show 6 + p = 8 + (p - 2); omega)
    rw [e]
    refine (uBlk_row _ _ _ ⟨p - 2, by omega⟩ q (by show 8 + (p - 2) < 2056; omega)).trans ?_
    rw [prod_eq H W A M o ho hH hW n hn hn']
    unfold upPad
    rw [dif_neg (by omega)]
    refine congrArg (fun z => up A M z _) (Fin.ext ?_)
    show 2048 * (n / 43) + (p - 2) = 2048 * (n / 43) + p - 2
    omega

variable (C : Vec Ideal S1x3x22016 .f32) (b : Vec Ideal S1x22016 .f32) (CW : Vec Ideal S3x256 .f32) (CB : Vec Ideal S1x256 .f32)

include hH hW in
/-- A block's convolution is the array's. -/
theorem conv_eq (n : ℕ) (hn : n < 172) (hn' : n + 1 < cfg0.N)
    (hC : ∀ (s : Fin 3) (q : Fin 256), (CW (ix2 s q) : EReal) = C (ix3 0 s ⟨o + (256 * (n % 43) + q.val), tile_col' o ho n _ q.isLt⟩))
    (hb : ∀ q : Fin 256, (CB (ix2 0 q) : EReal) = b (ix2 0 ⟨o + (256 * (n % 43) + q.val), tile_col' o ho n _ q.isLt⟩)) (r : Fin 2048) (q : Fin 256) :
    convAt CW CB (uOf H W (n + 1) hn') r q
      = convUp A M C b ⟨2048 * (n / 43) + r.val, tile_row n _ hn r.isLt⟩ ⟨o + (256 * (n % 43) + q.val), tile_col' o ho n _ q.isLt⟩ := by
  have hr := r.isLt
  have e : ∀ (s : ℕ) (hs : s < 3), (uOf H W (n + 1) hn' (ix2 ⟨6 + s + r.val, row_lt r s hs⟩ q) : EReal)
      = upPad A M (2048 * (n / 43) + r.val + s) (by omega) ⟨o + (256 * (n % 43) + q.val), tile_col' o ho n _ q.isLt⟩ := fun s hs => by
    have e1 : (⟨6 + s + r.val, row_lt r s hs⟩ : Fin 2056) = ⟨6 + (s + r.val), by omega⟩ := Fin.ext (Nat.add_assoc _ _ _)
    rw [e1, u_eq H W A M o ho hH hW n hn hn' (s + r.val) (by omega)]
    have e2 : ∀ (a c : ℕ) (ha : a < 8194) (hc : c < 8194) (z : Fin 22016), a = c → upPad A M a ha z = upPad A M c hc z := by
      rintro _ _ _ _ _ rfl; rfl
    exact e2 _ _ _ _ _ (by omega)
  unfold convAt convUp
  rw [e 0 (by decide), e 1 (by decide), e 2 (by decide), hC, hC, hC, hb]
  rfl

end Point

/-! ## The blocks at the points -/

variable (m : (ℓ : Loc nD τ sig) → Buf (Elt Ideal) ℓ)

/-- Where the activations' block sits. -/
theorem idxH : ∀ t : Fin cfg0.N, t.val ≠ 0 → t.val ≤ 172 → win0_0.index t = ![(t.val - 1) / 43, 0] :=
  (by decide +kernel : ∀ t : Fin grid0.N, t.val ≠ 0 → t.val ≤ 172 → win0_0.index t = ![(t.val - 1) / 43, 0])
/-- Where the weights' blocks sit. -/
theorem idxW : ∀ t : Fin cfg0.N, t.val < 172 → win0_1.index t = ![0, t.val % 43] ∧ win0_2.index t = ![0, 43 + t.val % 43] :=
  (by decide +kernel : ∀ t : Fin grid0.N, t.val < 172 → win0_1.index t = ![0, t.val % 43] ∧ win0_2.index t = ![0, 43 + t.val % 43])
/-- Where the others sit. -/
theorem idxC : ∀ t : Fin cfg0.N, 2 ≤ t.val → win0_3.index t = ![0, (t.val - 2) % 43] ∧ win0_4.index t = ![0, 43 + (t.val - 2) % 43]
    ∧ win0_5.index t = ![0, (t.val - 2) % 43] ∧ win0_6.index t = ![0, 43 + (t.val - 2) % 43] ∧ win0_7.index t = ![(t.val - 2) / 43, (t.val - 2) % 43] :=
  (by decide +kernel : ∀ t : Fin grid0.N, 2 ≤ t.val → win0_3.index t = ![0, (t.val - 2) % 43] ∧ win0_4.index t = ![0, 43 + (t.val - 2) % 43]
    ∧ win0_5.index t = ![0, (t.val - 2) % 43] ∧ win0_6.index t = ![0, 43 + (t.val - 2) % 43] ∧ win0_7.index t = ![(t.val - 2) / 43, (t.val - 2) % 43])

/-- The first two points' blocks are not written back. -/
theorem flush_two : ∀ t : Fin cfg0.N, (cfg0.win 7).flush t = true → 2 ≤ t.val :=
  (by decide +kernel : ∀ t : Fin grid0.N, (cfg0.win 7).flush t = true → 2 ≤ t.val)

/-- The arrays as the region finds them: the arguments without their leading axes. -/
theorem entry_w (c : Dev nD) (x : S4096x22016.Idx) : V m c main_v0 x = m ((c : Thread nD τ).loc main_arg1) (ix3 0 (x 0) (x 1)) := by
  entry_read
  pointwise
theorem entry_c (c : Dev nD) (x : S3x22016.Idx) : V m c main_v1 x = m ((c : Thread nD τ).loc main_arg2) (ix3 0 (x 0) (x 1)) := by
  entry_read
  pointwise
theorem entry_b (c : Dev nD) (x : S1x22016.Idx) : V m c main_v3 x = m ((c : Thread nD τ).loc main_arg3) (ix2 0 (x 1)) := by
  entry_read
  pointwise

/-- The activations' block at point `n + 1`. -/
theorem hAt_apply (c : Dev nD) (n : ℕ) (hn : n < 172) (r : Fin 2048) (k : Fin 4096) :
    (hAt m c ⟨n + 1, lt_of_lt_of_eq (by omega : n + 1 < 174) N_0.symm⟩ (ix2 r k) : EReal)
      = m ((c : Thread nD τ).loc main_arg0) (ix2 ⟨2048 * (n / 43) + r.val, tile_row n _ hn r.isLt⟩ k) := by
  have e : win0_0.index ⟨n + 1, lt_of_lt_of_eq (by omega : n + 1 < 174) N_0.symm⟩ = ![n / 43, 0] := idxH _ (Nat.succ_ne_zero n) (by show n + 1 ≤ 172; omega)
  blk_point [hAt, iblk, V_main_arg0, e]

/-- The gate's weights at point `n`. -/
theorem gAt_apply (c : Dev nD) (n : ℕ) (hn : n < 172) (hn' : n < cfg0.N) (k : Fin 4096) (q : Fin 256) :
    (gAt m c ⟨n, hn'⟩ (ix2 k q) : EReal)
      = m ((c : Thread nD τ).loc main_arg1) (ix3 0 k ⟨0 + (256 * (n % 43) + q.val), tile_col' 0 (by decide) n _ q.isLt⟩) := by
  have e := (idxW ⟨n, hn'⟩ hn).1
  refine (entry_w m c (((cfg0.win 1).blk ⟨n, hn'⟩).view.emb (ix2 k q))).trans ?_
  blk_point [e]

/-- The value's weights at point `n`. -/
theorem vAt_apply (c : Dev nD) (n : ℕ) (hn : n < 172) (hn' : n < cfg0.N) (k : Fin 4096) (q : Fin 256) :
    (vAt m c ⟨n, hn'⟩ (ix2 k q) : EReal)
      = m ((c : Thread nD τ).loc main_arg1) (ix3 0 k ⟨11008 + (256 * (n % 43) + q.val), tile_col' 11008 (by decide) n _ q.isLt⟩) := by
  have e := (idxW ⟨n, hn'⟩ hn).2
  refine (entry_w m c (((cfg0.win 2).blk ⟨n, hn'⟩).view.emb (ix2 k q))).trans ?_
  blk_point [e]

/-- The convolution's weights at point `n + 2`, of the gate. -/
theorem cgAt_apply (c : Dev nD) (n : ℕ) (hn : n + 2 < cfg0.N) (s : Fin 3) (q : Fin 256) :
    (cgAt m c ⟨n + 2, hn⟩ (ix2 s q) : EReal) = m ((c : Thread nD τ).loc main_arg2) (ix3 0 s ⟨0 + (256 * (n % 43) + q.val), tile_col' 0 (by decide) n _ q.isLt⟩) := by
  have e : win0_3.index ⟨n + 2, hn⟩ = ![0, n % 43] := (idxC ⟨n + 2, hn⟩ (Nat.le_add_left 2 n)).1
  refine (entry_c m c (((cfg0.win 3).blk ⟨n + 2, hn⟩).view.emb (ix2 s q))).trans ?_
  blk_point [e]

/-- Of the value. -/
theorem cvAt_apply (c : Dev nD) (n : ℕ) (hn : n + 2 < cfg0.N) (s : Fin 3) (q : Fin 256) :
    (cvAt m c ⟨n + 2, hn⟩ (ix2 s q) : EReal) = m ((c : Thread nD τ).loc main_arg2) (ix3 0 s ⟨11008 + (256 * (n % 43) + q.val), tile_col' 11008 (by decide) n _ q.isLt⟩) := by
  have e : win0_4.index ⟨n + 2, hn⟩ = ![0, 43 + n % 43] := (idxC ⟨n + 2, hn⟩ (Nat.le_add_left 2 n)).2.1
  refine (entry_c m c (((cfg0.win 4).blk ⟨n + 2, hn⟩).view.emb (ix2 s q))).trans ?_
  blk_point [e]

/-- The bias at point `n + 2`, of the gate. -/
theorem bgAt_apply (c : Dev nD) (n : ℕ) (hn : n + 2 < cfg0.N) (q : Fin 256) :
    (bgAt m c ⟨n + 2, hn⟩ (ix2 0 q) : EReal) = m ((c : Thread nD τ).loc main_arg3) (ix2 0 ⟨0 + (256 * (n % 43) + q.val), tile_col' 0 (by decide) n _ q.isLt⟩) := by
  have e : win0_5.index ⟨n + 2, hn⟩ = ![0, n % 43] := (idxC ⟨n + 2, hn⟩ (Nat.le_add_left 2 n)).2.2.1
  refine (entry_b m c (((cfg0.win 5).blk ⟨n + 2, hn⟩).view.emb (ix2 0 q))).trans ?_
  blk_point [e]

/-- Of the value. -/
theorem bvAt_apply (c : Dev nD) (n : ℕ) (hn : n + 2 < cfg0.N) (q : Fin 256) :
    (bvAt m c ⟨n + 2, hn⟩ (ix2 0 q) : EReal) = m ((c : Thread nD τ).loc main_arg3) (ix2 0 ⟨11008 + (256 * (n % 43) + q.val), tile_col' 11008 (by decide) n _ q.isLt⟩) := by
  have e : win0_6.index ⟨n + 2, hn⟩ = ![0, 43 + n % 43] := (idxC ⟨n + 2, hn⟩ (Nat.le_add_left 2 n)).2.2.2.1
  refine (entry_b m c (((cfg0.win 6).blk ⟨n + 2, hn⟩).view.emb (ix2 0 q))).trans ?_
  blk_point [e]

/-- The block of point `n + 2` at a place. -/
theorem outAt_apply (c : Dev nD) (n : ℕ) (hn : n + 2 < cfg0.N) (hn2 : n < 172) (r : Fin 2048) (q : Fin 256) :
    (outAt m c ⟨n + 2, hn⟩ (ix2 r q) : EReal)
      = G (m ((c : Thread nD τ).loc main_arg0)) (m ((c : Thread nD τ).loc main_arg1)) (m ((c : Thread nD τ).loc main_arg2)) (m ((c : Thread nD τ).loc main_arg3))
        ⟨2048 * (n / 43) + r.val, tile_row n _ hn2 r.isLt⟩ ⟨256 * (n % 43) + q.val, tile_col n _ q.isLt⟩ := by
  unfold outAt
  refine (outBlk_apply _ _ _ _ _ _ r q).trans ?_
  have eg := conv_eq (hAt m c) (gAt m c) (m ((c : Thread nD τ).loc main_arg0)) (m ((c : Thread nD τ).loc main_arg1)) 0 (by decide) (hAt_apply m c) (fun n hn => gAt_apply m c n hn _)
    (m ((c : Thread nD τ).loc main_arg2)) (m ((c : Thread nD τ).loc main_arg3)) (cgAt m c ⟨n + 2, hn⟩) (bgAt m c ⟨n + 2, hn⟩) n hn2 (Nat.lt_of_succ_lt hn)
    (cgAt_apply m c n hn) (bgAt_apply m c n hn) r q
  have ev := conv_eq (hAt m c) (vAt m c) (m ((c : Thread nD τ).loc main_arg0)) (m ((c : Thread nD τ).loc main_arg1)) 11008 (le_refl _) (hAt_apply m c) (fun n hn => vAt_apply m c n hn _)
    (m ((c : Thread nD τ).loc main_arg2)) (m ((c : Thread nD τ).loc main_arg3)) (cvAt m c ⟨n + 2, hn⟩) (bvAt m c ⟨n + 2, hn⟩) n hn2 (Nat.lt_of_succ_lt hn)
    (cvAt_apply m c n hn) (bvAt_apply m c n hn) r q
  refine (congrArg₂ gate eg ev).trans ?_
  unfold G
  refine congrArg₂ gate (congrArg (convUp _ _ _ _ _) (Fin.ext (Nat.zero_add _))) rfl

/-- The array after the run. -/
theorem final (c : Dev nD) : (dats m 0 c).arrAt 7 cfg0.N
    = fun x => G (m ((c : Thread nD τ).loc main_arg0)) (m ((c : Thread nD τ).loc main_arg1)) (m ((c : Thread nD τ).loc main_arg2)) (m ((c : Thread nD τ).loc main_arg3)) (x 0) (x 1) := by
  refine (dats m 0 c).arrAt_eq_of_covers 7 _ (by decide +kernel) fun t hf y => ?_
  have h0 := flush_two t hf
  obtain ⟨n, hn⟩ := t
  match n, hn with
  | 0, _ => exact absurd h0 (Nat.not_le_of_lt Nat.zero_lt_two)
  | 1, _ => exact absurd h0 (Nat.not_le_of_lt Nat.one_lt_two)
  | n + 2, hn =>
    have e : win0_7.index ⟨n + 2, hn⟩ = ![n / 43, n % 43] := (idxC ⟨n + 2, hn⟩ h0).2.2.2.2
    have htl : n + 2 < 174 := hn
    have y0 : (y 0).val < 2048 := (y 0).isLt
    have y1 : (y 1).val < 256 := (y 1).isLt
    have hm : n % 43 < 43 := Nat.mod_lt _ (by decide)
    have emb : ((cfg0.win 7).blk ⟨n + 2, hn⟩).view.emb y
        = ix2 ⟨2048 * (n / 43) + (y 0).val, by omega⟩ ⟨256 * (n % 43) + (y 1).val, by omega⟩ := by
      blk_ext [e]
    rw [emb, after_7]
    blk_simp
    exact (congrArg (outAt m c ⟨n + 2, hn⟩) (eq_ix2 y)).trans (outAt_apply m c n hn (by omega) (y 0) (y 1))

end Cert.Kernel4Ideal.Hand

end
-- ==== Proof.UpRef.lean ====
/- The reference of the up projection, read at a row and a column. -/
module

public import proofs.«01_k».proof.Proof.UpFinal
public import proofs.«01_k».proof.Proof.Gen.Reference4Ideal.Run
public import Idealize.ShloMosaic.Lib.Pipeline.ValueKit
public import Idealize.ShloMosaic.Lib.KernelVsHost

@[expose] public section

set_option maxRecDepth 16384

noncomputable section

namespace Cert.Proof.UpGlu

open Idealize.ShloMosaic Idealize.ShloMosaic.TcCoe Idealize.SL.Sem
open Cert.Reference4Ideal Cert.Reference4Ideal.Gen Cert.Kernel4Ideal.Hand

/-- The reference's projection. -/
def proj (H : FVec Ideal S8192x4096 .bf16) (W : FVec Ideal S1x4096x22016 .f32) : FVec Ideal S8192x22016 .f32 :=
  Host.dotGeneral dot_S8192x4096_S4096x22016_S8192x22016_1_0_0_1_n_n none (extf .f32 H bitsLt_bf16_f32)
    (shapeCast S4096x22016 W shapeCasts_S1x4096x22016_S4096x22016)

/-- With two rows of zeros above. -/
def padded (P : FVec Ideal S8192x22016 .f32) : FVec Ideal S8194x22016 .f32 :=
  pad S8194x22016 ![2, 0] ![0, 0] ![0, 0] P (sitofp (F := Ideal) .f32 (constantI S_ 32 0#32)) pads_S8192x22016_S8194x22016_200_000 h_S_

/-- A row of the array repeated down the rows. -/
def spread (x : FVec Ideal S22016 .f32) : FVec Ideal S8192x22016 .f32 :=
  broadcastInDim S8192x22016 ![0, 1] bcast_S1x22016_S8192x22016_0_1 (broadcastInDim S1x22016 ![1] bcast_S22016_S1x22016_1 x)

/-- The reference's convolution. -/
def convRef (Q : FVec Ideal S8194x22016 .f32) (C : FVec Ideal S1x3x22016 .f32) (b : FVec Ideal S1x22016 .f32) : FVec Ideal S8192x22016 .f32 :=
  addf (addf (addf (spread (shapeCast S22016 b shapeCasts_S1x22016_S22016))
    (mulf (spread (shapeCast S22016 (extractStridedSlice S1x22016 ![0, 0] (shapeCast S3x22016 C shapeCasts_S1x3x22016_S3x22016) slices_S3x22016_S1x22016_0_0) shapeCasts_S1x22016_S22016))
      (extractStridedSlice S8192x22016 ![0, 0] Q slices_S8194x22016_S8192x22016_0_0)))
    (mulf (spread (shapeCast S22016 (extractStridedSlice S1x22016 ![1, 0] (shapeCast S3x22016 C shapeCasts_S1x3x22016_S3x22016) slices_S3x22016_S1x22016_1_0) shapeCasts_S1x22016_S22016))
      (extractStridedSlice S8192x22016 ![1, 0] Q slices_S8194x22016_S8192x22016_1_0)))
    (mulf (spread (shapeCast S22016 (extractStridedSlice S1x22016 ![2, 0] (shapeCast S3x22016 C shapeCasts_S1x3x22016_S3x22016) slices_S3x22016_S1x22016_2_0) shapeCasts_S1x22016_S22016))
      (extractStridedSlice S8192x22016 ![2, 0] Q slices_S8194x22016_S8192x22016_2_0))

/-- The reference's gating. -/
def gateRef (U : FVec Ideal S8192x22016 .f32) : FVec Ideal S8192x11008 .bf16 :=
  truncf .bf16 (mulf (mulf (extractStridedSlice S8192x11008 ![0, 0] U slices_S8192x22016_S8192x11008_0_0)
    (Host.divf (broadcastInDim S8192x11008 ![] bcast_S_S8192x11008 (constant S_ .f32 0x3F800000#32))
      (addf (broadcastInDim S8192x11008 ![] bcast_S_S8192x11008 (constant S_ .f32 0x3F800000#32))
        (Host.exp (Host.negf (extractStridedSlice S8192x11008 ![0, 0] U slices_S8192x22016_S8192x11008_0_0))))))
    (extractStridedSlice S8192x11008 ![0, 11008] U slices_S8192x22016_S8192x11008_0_11008)) bitsLt_bf16_f32

/-- The projection at a place. -/
theorem proj_apply (H : FVec Ideal S8192x4096 .bf16) (W : FVec Ideal S1x4096x22016 .f32) (r : Fin 8192) (n : Fin 22016) :
    (proj H W (ix2 r n) : EReal) = up H W r n := by
  unfold up
  pointwise [proj]

/-- The padded projection at a place. -/
theorem padded_apply (H : FVec Ideal S8192x4096 .bf16) (W : FVec Ideal S1x4096x22016 .f32) (i : ℕ) (hi : i < 8194) (n : Fin 22016) :
    (padded (proj H W) (ix2 ⟨i, hi⟩ n) : EReal) = upPad H W i hi n := by
  unfold upPad padded
  by_cases h : i < 2
  · rw [dif_pos h]
    refine (pad_apply_of_not_inside _ _ _ _ _ pads_S8192x22016_S8194x22016_200_000 h_S_ _ 0 (fun hin => absurd hin.1 (Nat.not_le_of_lt h))).trans ?_
    exact (congrArg (fun z : ℤ => ((z : ℝ) : EReal)) (by decide : (0#32 : BitVec 32).toInt = 0)).trans (by simp)
  · rw [dif_neg h]
    refine Eq.trans ?_ (proj_apply H W ⟨i - 2, by omega⟩ n)
    refine pad_apply_of_inside _ _ _ _ _ pads_S8192x22016_S8194x22016_200_000 h_S_ _ (ix2 ⟨i - 2, by omega⟩ n) fun a => ?_
    match a with
    | ⟨0, _⟩ => show i = 2 + (i - 2) * (0 + 1); omega
    | ⟨1, _⟩ => show n.val = 0 + n.val * (0 + 1); omega

/-- The convolution at a place. -/
theorem convRef_apply (H : FVec Ideal S8192x4096 .bf16) (W : FVec Ideal S1x4096x22016 .f32) (C : FVec Ideal S1x3x22016 .f32) (b : FVec Ideal S1x22016 .f32)
    (r : Fin 8192) (n : Fin 22016) : (convRef (padded (proj H W)) C b (ix2 r n) : EReal) = convUp H W C b r n := by
  unfold convUp
  rw [← padded_apply, ← padded_apply, ← padded_apply]
  generalize padded (proj H W) = Q
  pointwise [convRef, spread, mix]
  simp only [Nat.add_comm]

/-- The gating at a place. -/
theorem gateRef_apply (U : FVec Ideal S8192x22016 .f32) (r : Fin 8192) (n : Fin 11008) :
    (gateRef U (ix2 r n) : EReal) = gate (U (ix2 r ⟨n.val, by omega⟩)) (U (ix2 r ⟨11008 + n.val, by omega⟩)) := by
  unfold gate
  pointwise [gateRef, Ideal.logistic]

/-- The whole array. -/
theorem values (H : FVec Ideal S8192x4096 .bf16) (W : FVec Ideal S1x4096x22016 .f32) (C : FVec Ideal S1x3x22016 .f32) (b : FVec Ideal S1x22016 .f32) :
    gateRef (convRef (padded (proj H W)) C b) = fun x : S8192x11008.Idx => G H W C b (x 0) (x 1) := by
  funext x
  obtain ⟨r, n, rfl⟩ : ∃ (r : Fin 8192) (n : Fin 11008), x = ix2 r n := ⟨x 0, x 1, eq_ix2 x⟩
  exact (gateRef_apply _ r n).trans (congrArg₂ gate (convRef_apply H W C b r _) (convRef_apply H W C b r _))

/-- The reference's array. -/
theorem reference_eq (m : (ℓ : Loc nD τ sig) → Buf (Elt Ideal) ℓ) (c : Dev nD) : Cert.Reference4Ideal.Value.res_main_v35 m c
    = fun x => G (m ((c : Thread nD τ).loc main_arg0)) (m ((c : Thread nD τ).loc main_arg1)) (m ((c : Thread nD τ).loc main_arg2)) (m ((c : Thread nD τ).loc main_arg3)) (x 0) (x 1) := by
  refine Eq.trans (b := gateRef (convRef (padded (proj (m ((c : Thread nD τ).loc main_arg0)) (m ((c : Thread nD τ).loc main_arg1)))) (m ((c : Thread nD τ).loc main_arg2)) (m ((c : Thread nD τ).loc main_arg3)))) rfl ?_
  exact values _ _ _ _

end Cert.Proof.UpGlu

end
-- ==== Proof.UpGlu.lean ====
/- The claims of the up projection's call: both frames off the one run, the reference's frame, and the values. -/
module

public import proofs.«01_k».proof.Defs
public import proofs.«01_k».proof.Proof.UpRef
public import proofs.«01_k».proof.Proof.Gen.Kernel4
public import Idealize.ShloMosaic.Lib.Quiescent
public import Idealize.ShloMosaic.Lib.Claim

@[expose] public section

set_option maxRecDepth 16384

noncomputable section

namespace Cert.Proof.UpGlu

open Idealize.ShloMosaic Idealize.SL.Sem

/-- The kernel's frame: its text is the idealization's, so the one run serves. -/
theorem frame_kernel : Cert.quiescent_Kernel4 := by
  have h := fun m ρ (_ : True) => Cert.Kernel4Ideal.Hand.frame_main (F := Bits) m ρ
  exact cast (by sl_kernel_rfl) h

/-- The idealized kernel's frame. -/
theorem frame_kernelIdeal : Cert.quiescent_Kernel4Ideal := fun m ρ _ => Cert.Kernel4Ideal.Hand.frame_main (F := Ideal) m ρ

/-- The reference's frame. -/
theorem frame_reference : Cert.quiescent_Reference4Ideal := fun m g _ =>
  θ_run_mono (Cert.Reference4Ideal.Value.run m g) fun r h => ⟨fun c => (h c).2, sem_eq_zero_of_no_sems (by decide) r.2⟩

/-- The program and the reference leave the same array. -/
theorem algebraic : Cert.algebraic_Kernel4Ideal_Reference4Ideal := by
  pair_intro
  · run_from Cert.Kernel4Ideal.Hand.run_main m g
  · run_from Cert.Reference4Ideal.Value.run m' g'
    obtain ⟨h0, h1, h2, h3⟩ := hagree c
    refine (reference_eq m' c).trans (Eq.trans ?_ (Cert.Kernel4Ideal.Hand.final m c).symm)
    exact funext fun x => congr (congr (congr (congr (congrArg _ h0) h1) h2) h3 |> fun h => congrFun h (x 0)) rfl

end Cert.Proof.UpGlu

end
-- ==== Proof.MergeBody.lean ====
/- The merge of the two mixers: its body at a point, that it leaves the cast weights' buffer alone after the last of their
   blocks, and the run of the program with its frame. -/
module

public import proofs.«01_k».proof.Proof.Gen.Kernel5Ideal.Frame
public import proofs.«01_k».proof.Proof.Gen.Kernel5Ideal.Skeleton
public import Idealize.ShloMosaic.Lib.Claim

@[expose] public section

set_option maxRecDepth 16384

noncomputable section

namespace Cert.Kernel5Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

/-! ## What the body stores -/

/-- A mixer's rows, whole. -/
abbrev rA : Rect S1024x2048 := Rect.unit (s := S1024x2048) ![0, 0] S1024x2048.size inb_S1024x2048_S1024x2048_0_0
/-- A branch's left columns. -/
abbrev rW0 : Rect S2048x512 := Rect.unit (s := S2048x512) ![0, 0] S2048x256.size inb_S2048x512_S2048x256_0_0
/-- A branch's right columns. -/
abbrev rW1 : Rect S2048x512 := Rect.unit (s := S2048x512) ![0, 256] S2048x256.size inb_S2048x512_S2048x256_0_256
/-- A tile's left columns. -/
abbrev rO0 : Rect S1024x512 := Rect.unit (s := S1024x512) ![0, 0] S1024x256.size inb_S1024x512_S1024x256_0_0
/-- A tile's right columns. -/
abbrev rO1 : Rect S1024x512 := Rect.unit (s := S1024x512) ![0, 256] S1024x256.size inb_S1024x512_S1024x256_0_256
/-- The block of the next weights, whole. -/
abbrev rS : Rect S256x4096 := Rect.unit (s := S256x4096) ![0, 0] S256x4096.size inb_S256x4096_S256x4096_0_0

/-- A tile of the result, of the mixers' rows, the branches' columns and the gates' tiles. -/
def tile (x0 x1 : Vec F S1024x2048 .bf16) (x2 x3 : Vec F S2048x512 .bf16) (x4 x5 : Vec F S1024x512 .bf16) : Vec F S1024x512 .bf16 :=
  View.canon [⟨rO1, k0_pay1 (k0_pay4 (View.ld x0 rA) (View.ld x2 rW1)) (k0_pay5 (View.ld x1 rA) (View.ld x3 rW1)) (View.ld x4 rO1) (View.ld x5 rO1)⟩,
    ⟨rO0, k0_pay3 (View.ld x0 rA) (View.ld x1 rA) (View.ld x2 rW0) (View.ld x3 rW0) (View.ld x4 rO0) (View.ld x5 rO0)⟩]

/-- The tile's two stores cover it. -/
theorem tile_cover (p0 : Vec F S1024x256 .bf16) (p1 : Vec F S1024x256 .bf16) (y : S1024x512.Idx) :
    ∃ pc ∈ ([⟨rO1, p0⟩, ⟨rO0, p1⟩] : List (View.Piece (Elt F) S1024x512 .bf16)), y ∈ pc.1.set :=
  View.cover_of_tiled [⟨rO1, p0⟩, ⟨rO0, p1⟩] S1024x256.size (by rfl) y

/-- A block of the next weights, rounded. -/
def sideOf (x6 : Vec F S256x4096 .f32) : Vec F S256x4096 .bf16 :=
  View.canon [⟨rS, k0_pay2 (View.ld x6 rS)⟩]

/-- Its one store covers it. -/
theorem side_cover (p0 : Vec F S256x4096 .bf16) (y : S256x4096.Idx) :
    ∃ pc ∈ ([⟨rS, p0⟩] : List (View.Piece (Elt F) S256x4096 .bf16)), y ∈ pc.1.set :=
  View.cover_of_tiled [⟨rS, p0⟩] S256x4096.size (by rfl) y

/-- What the rounded weights' buffer holds after a point: their block while there are blocks left, else what it held. -/
def sideAt (i : grid0.Coords) (x6 : Vec F S256x4096 .f32) (y8 : Vec F S256x4096 .bf16) : Vec F S256x4096 .bf16 :=
  if k0_cond1 i = 1#1 then sideOf x6 else y8

/-! ## The body's triple -/

set_option maxHeartbeats 1000000 in
/-- The body on whole buffers: the inputs' as they were, the tile's at the result, the rounded weights' at `sideAt`. -/
theorem run_body (c : Dev nD) (E : Set ℕ) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S256x4096 .f32) (harg8 : arg8.IsWhole) (arg9 : Memref sig .tc .vmem S1024x512 .bf16) (harg9 : arg9.IsWhole) (arg10 : Memref sig .tc .vmem S256x4096 .bf16) (harg10 : arg10.IsWhole)
    (x0 : Vec F S1024x2048 .bf16) (x1 : Vec F S1024x2048 .bf16) (x2 : Vec F S2048x512 .bf16) (x3 : Vec F S2048x512 .bf16) (x4 : Vec F S1024x512 .bf16) (x5 : Vec F S1024x512 .bf16) (x6 : Vec F S256x4096 .f32) (y8 : Vec F S256x4096 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare y8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (tile x0 x1 x2 x3 x4 x5) ∗ owns (c : Thread nD τ) arg10 fullShare (sideAt i x6 y8)) -∗ K ⟨⟩))
      ⊢ wp frame (wpE (defs₀ (F := F)) Variants.none c none) E (cc0_merge i arg2 harg2 arg3 harg3 arg4 harg4 arg5 harg5 arg6 harg6 arg7 harg7 arg8 harg8 arg9 harg9 arg10 harg10) K := by
  simp only [cc0_merge_eq_skeleton, k0_part1_eq_skeleton]; unfold cc0_merge_skel sideAt
  simp only [k0_part1_eq_skeleton]; unfold k0_part1_skel
  unfold owns
  by_cases hc : k0_cond1 i = 1#1
  all_goals
    first | rw [if_pos hc] | rw [if_neg hc]
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    subst hf0 hf1 hf2 hf3 hf4 hf5 hf6 hf8
    sl_exec (disch := sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; isplitr
      swap; · iexact H7
      ipureintro
      exact View.read_writes_eq_canon _ _ _ (tile_cover _ _)
    iexists _; isplitr
    swap; · iexact H8
    ipureintro
    first | with_reducible rfl | exact View.read_writes_eq_canon _ _ _ (side_cover _)

/-! ## The proof data -/

variable (m : (ℓ : Loc nD τ sig) → Buf (Elt F) ℓ) (ρ : Dev nD → PrngReg)

/-- The last point at which a block of the next weights is rounded. -/
abbrev lastSide : Fin cfg0.N := ⟨42, by decide⟩

/-- The point whose block of the next weights the rounded weights' buffer holds after point `t`. -/
def sidePt (t : Fin cfg0.N) : Fin cfg0.N := if t.val < 43 then t else lastSide

/-- The proof data: the arrays as the region finds them; after a point the inputs' buffers at their blocks, the tile's
    at the result and the rounded weights' at the last block rounded. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => tile (iblk m c 0 t) (iblk m c 1 t) (iblk m c 2 t) (iblk m c 3 t) (iblk m c 4 t) (iblk m c 5 t)
    | ⟨8, _⟩ => sideOf (iblk m c 6 (sidePt t))
  Φ _ := Pipeline.ΦA spec0 c
  q w := Pipeline.shareOf spec0 w
  owed _ := 0

/-- The arrays. -/
theorem A_eq (c : Dev nD) (w : Fin cfg0.W) : (dats m 0 c).A w = V m c (Pipeline.arrRef spec0 w) := by dsimp only [dats]

/-- After a point: one mixer's rows. -/
theorem after_0 (c : Dev nD) (t : Fin cfg0.N) : (dats m 0 c).after 0 t = iblk m c 0 t := by dsimp only [dats]
/-- After a point: the other's. -/
theorem after_1 (c : Dev nD) (t : Fin cfg0.N) : (dats m 0 c).after 1 t = iblk m c 1 t := by dsimp only [dats]
/-- After a point: one branch's columns. -/
theorem after_2 (c : Dev nD) (t : Fin cfg0.N) : (dats m 0 c).after 2 t = iblk m c 2 t := by dsimp only [dats]
/-- After a point: the other's. -/
theorem after_3 (c : Dev nD) (t : Fin cfg0.N) : (dats m 0 c).after 3 t = iblk m c 3 t := by dsimp only [dats]
/-- After a point: one gate's tile. -/
theorem after_4 (c : Dev nD) (t : Fin cfg0.N) : (dats m 0 c).after 4 t = iblk m c 4 t := by dsimp only [dats]
/-- After a point: the other's. -/
theorem after_5 (c : Dev nD) (t : Fin cfg0.N) : (dats m 0 c).after 5 t = iblk m c 5 t := by dsimp only [dats]
/-- After a point: the next weights' block. -/
theorem after_6 (c : Dev nD) (t : Fin cfg0.N) : (dats m 0 c).after 6 t = iblk m c 6 t := by dsimp only [dats]
/-- After a point: the result's tile. -/
theorem after_7 (c : Dev nD) (t : Fin cfg0.N) : (dats m 0 c).after 7 t = tile (iblk m c 0 t) (iblk m c 1 t) (iblk m c 2 t) (iblk m c 3 t) (iblk m c 4 t) (iblk m c 5 t) := by dsimp only [dats]
/-- After a point: the rounded weights' block. -/
theorem after_8 (c : Dev nD) (t : Fin cfg0.N) : (dats m 0 c).after 8 t = sideOf (iblk m c 6 (sidePt t)) := by dsimp only [dats]

/-- Before a point: one mixer's rows. -/
theorem before_0 (c : Dev nD) (t : Fin cfg0.N) (d) : (dats m 0 c).before 0 t d = iblk m c 0 t :=
  before0_0_of m (dats m 0 c) (A_eq m c 0) (after_0 m c) t d
/-- Before a point: the other's. -/
theorem before_1 (c : Dev nD) (t : Fin cfg0.N) (d) : (dats m 0 c).before 1 t d = iblk m c 1 t :=
  before0_1_of m (dats m 0 c) (A_eq m c 1) (after_1 m c) t d
/-- Before a point: one branch's columns. -/
theorem before_2 (c : Dev nD) (t : Fin cfg0.N) (d) : (dats m 0 c).before 2 t d = iblk m c 2 t :=
  before0_2_of m (dats m 0 c) (A_eq m c 2) (after_2 m c) t d
/-- Before a point: the other's. -/
theorem before_3 (c : Dev nD) (t : Fin cfg0.N) (d) : (dats m 0 c).before 3 t d = iblk m c 3 t :=
  before0_3_of m (dats m 0 c) (A_eq m c 3) (after_3 m c) t d
/-- Before a point: one gate's tile. -/
theorem before_4 (c : Dev nD) (t : Fin cfg0.N) (d) : (dats m 0 c).before 4 t d = iblk m c 4 t :=
  before0_4_of m (dats m 0 c) (A_eq m c 4) (after_4 m c) t d
/-- Before a point: the other's. -/
theorem before_5 (c : Dev nD) (t : Fin cfg0.N) (d) : (dats m 0 c).before 5 t d = iblk m c 5 t :=
  before0_5_of m (dats m 0 c) (A_eq m c 5) (after_5 m c) t d
/-- Before a point: the next weights' block. -/
theorem before_6 (c : Dev nD) (t : Fin cfg0.N) (d) : (dats m 0 c).before 6 t d = iblk m c 6 t :=
  before0_6_of m (dats m 0 c) (A_eq m c 6) (after_6 m c) t d

/-! ## The rounded weights' buffer once there is no block left -/

/-- The first points round a block each. -/
theorem side_iff : ∀ t : Fin cfg0.N, k0_cond1 (grid0.coords t) = 1#1 ↔ t.val < 43 :=
  (by decide +kernel : ∀ t : Fin grid0.N, k0_cond1 (grid0.coords t) = 1#1 ↔ t.val < 43)

/-- The later points leave the rounded weights' buffer alone. -/
theorem idle_8 : ∀ t : Fin cfg0.N, cfg0.idle 8 (cfg0.grid.coords t) = !decide (t.val < 43) :=
  (by decide +kernel : ∀ t : Fin grid0.N, idle0 8 (grid0.coords t) = !decide (t.val < 43))

/-- The rounded weights' blocks are written back as they are left, the last one at the end. -/
theorem flush_8 : ∀ t : Fin cfg0.N, (cfg0.win 8).flush t = (decide (t.val < 42) || decide (t.val = 63)) :=
  (by decide +kernel : ∀ t : Fin grid0.N, win0_8.flush t = (decide (t.val < 42) || decide (t.val = 63)))

/-- Past the last block, the buffer holds that block. -/
theorem before_8 (c : Dev nD) (d) : ∀ (n : ℕ) (hn : n < cfg0.N), 43 ≤ n →
    (dats m 0 c).before 8 ⟨n, hn⟩ d = sideOf (iblk m c 6 lastSide) := by
  intro n
  induction n with
  | zero => intro hn h; exact absurd h (by decide)
  | succ k ih =>
    intro hn h
    have hN : cfg0.N = 64 := rfl
    rw [(dats m 0 c).before_of_pos 8 ⟨k + 1, hn⟩ (Nat.succ_ne_zero k) ((cfg0.win 8).fetch_out rfl _) d]
    have hk : k < cfg0.N := Nat.lt_of_succ_lt hn
    have hfl : (cfg0.win 8).flush ⟨k, hk⟩ = false := by
      rw [flush_8]; simp only [Bool.or_eq_false_iff, decide_eq_false_iff_not]; omega
    show (if (cfg0.win 8).flush ⟨k, hk⟩ then d else (dats m 0 c).left 8 ⟨k, hk⟩ d) = _
    rw [hfl, if_neg Bool.false_ne_true]
    unfold Dat.left
    rw [idle_8]
    by_cases h43 : k < 43
    · have hk42 : k = 42 := by omega
      subst hk42
      show (dats m 0 c).kept 8 lastSide d = _
      unfold Dat.kept
      rw [Pipeline.fill_of_clip_none 8 (cfg0.grid.coords lastSide) (fun _ => rfl) d ((dats m 0 c).after 8 lastSide) _,
        Window.fill_cut, after_8]
      rfl
    · rw [show (!decide ((⟨k, hk⟩ : Fin cfg0.N).val < 43)) = true by simp only [Bool.not_eq_true', decide_eq_false_iff_not]; exact h43]
      exact ih hk (by omega)

/-! ## The body at every point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (dats m 0 c).leavesExact 8 t)

/-- What the body leaves in the rounded weights' buffer is what the pipeline is to find there. -/
theorem leaves_8 (c : Dev nD) (t : Fin cfg0.N) (d) :
    owns (c : Thread nD τ) (st0_8 t) fullShare (sideAt (grid0.coords t) (iblk m c 6 t) ((dats m 0 c).before 8 t d))
      ⊢ ((dats m 0 c).leavesExact 8 t : sProp 𝕄) := by
  unfold sideAt
  by_cases h : t.val < 43
  · rw [if_pos ((side_iff t).mpr h)]
    unfold Dat.leavesExact
    rw [idle_8, show (!decide (t.val < 43)) = false by simp only [Bool.not_eq_false', decide_eq_true_eq]; exact h]
    rw [after_8, show sidePt t = t from if_pos h]
  · rw [if_neg fun hc => h ((side_iff t).mp hc)]
    have hi : cfg0.idle 8 (cfg0.grid.coords t) = true := by
      rw [idle_8]; simp only [Bool.not_eq_true', decide_eq_false_iff_not]; exact h
    by_cases h63 : t.val = 63
    · have hf : (cfg0.win 8).flush t = true := by
        rw [flush_8]; simp only [Bool.or_eq_true, decide_eq_true_eq]; exact .inr h63
      unfold Dat.leavesExact
      rw [hi, hf, after_8, show sidePt t = lastSide from if_neg h, before_8 m c d t.val t.isLt (by omega)]
    · have hf : (cfg0.win 8).flush t = false := by
        rw [flush_8]; simp only [Bool.or_eq_false_iff, decide_eq_false_iff_not]; exact ⟨by omega, h63⟩
      rw [(dats m 0 c).leavesExact_idle 8 t hi hf]
      iintro H; iexists d; iexact H

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_body c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 8 t d8) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (leaves_8 m c t d8)
  iexact H8

/-- The body table's row is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run, every counter at zero at the end. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m)
    (hin := fun c => Idealize.SL.BI.Entails.refl _) (hout := fun c => Idealize.SL.BI.Entails.refl _)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged, the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.Kernel5Ideal.Hand

end
-- ==== Proof.MergeValue.lean ====
/- The merge of the two mixers: the two arrays it leaves are the reference's. -/
module

public import proofs.«01_k».proof.Proof.MergeBody
public import proofs.«01_k».proof.Proof.Gen.Reference5Ideal.Run
public import Idealize.ShloMosaic.Lib.Pipeline.ValueKit
public import Idealize.ShloMosaic.Lib.Claim

@[expose] public section

set_option maxRecDepth 16384

noncomputable section

namespace Cert.Kernel5Ideal.Hand

open Cert.Kernel5Ideal Cert.Kernel5Ideal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The reference's merged rows, of the mixers' rows, the branches' weights and the projection's array that holds the gates. -/
abbrev merged (ya yb : FVec Ideal S8192x2048 .bf16) (wa wb : FVec Ideal S1x2048x4096 .f32) (p : FVec Ideal S8192x14336 .bf16) :
    FVec Ideal S8192x4096 .bf16 :=
  truncf .bf16 (addf
    (mulf (extf .f32 (extractStridedSlice Cert.Reference5Ideal.S8192x4096 ![0, 6144] p Cert.Reference5Ideal.Gen.slices_S8192x14336_S8192x4096_0_6144) Cert.Reference5Ideal.Gen.bitsLt_bf16_f32)
      (Host.dotGeneral Cert.Reference5Ideal.dot_S8192x2048_S2048x4096_S8192x4096_1_0_0_1_n_n none
        (extf .f32 ya Cert.Reference5Ideal.Gen.bitsLt_bf16_f32) (shapeCast _ wa Cert.Reference5Ideal.Gen.shapeCasts_S1x2048x4096_S2048x4096)))
    (mulf (extf .f32 (extractStridedSlice Cert.Reference5Ideal.S8192x4096 ![0, 10240] p Cert.Reference5Ideal.Gen.slices_S8192x14336_S8192x4096_0_10240) Cert.Reference5Ideal.Gen.bitsLt_bf16_f32)
      (Host.dotGeneral Cert.Reference5Ideal.dot_S8192x2048_S2048x4096_S8192x4096_1_0_0_1_n_n none
        (extf .f32 yb Cert.Reference5Ideal.Gen.bitsLt_bf16_f32) (shapeCast _ wb Cert.Reference5Ideal.Gen.shapeCasts_S1x2048x4096_S2048x4096))))
    Cert.Reference5Ideal.Gen.bitsLt_bf16_f32

/-- The reference's rounded weights of the down projection. -/
abbrev rounded (w : FVec Ideal S1x11008x4096 .f32) : FVec Ideal S11008x4096 .bf16 :=
  truncf .bf16 (shapeCast _ w Cert.Reference5Ideal.Gen.shapeCasts_S1x11008x4096_S11008x4096) Cert.Reference5Ideal.Gen.bitsLt_bf16_f32

/-- Every window's block index at every point. -/
theorem idx_val : ∀ t : Fin cfg0.N, win0_0.index t = ![t.val / 8, 0]
    ∧ win0_1.index t = ![t.val / 8, 0]
    ∧ win0_2.index t = ![0, t.val % 8]
    ∧ win0_3.index t = ![0, t.val % 8]
    ∧ win0_4.index t = ![t.val / 8, 12 + t.val % 8]
    ∧ win0_5.index t = ![t.val / 8, 20 + t.val % 8]
    ∧ win0_6.index t = ![min t.val 42, 0]
    ∧ win0_7.index t = ![t.val / 8, t.val % 8]
    ∧ win0_8.index t = ![min t.val 42, 0] :=
  (by decide +kernel : ∀ t : Fin grid0.N, _)

set_option maxHeartbeats 1600000 in
/-- At a point's two column halves, what the body stores is the reference's value there. -/
theorem point (c : Dev nD) (t : Fin cfg0.N) (y) :
    tile (iblk m c 0 t) (iblk m c 1 t) (iblk m c 2 t) (iblk m c 3 t) (iblk m c 4 t) (iblk m c 5 t) y
      = merged (m ((c : Thread nD τ).loc main_arg0)) (m ((c : Thread nD τ).loc main_arg1)) (m ((c : Thread nD τ).loc
        main_arg2)) (m ((c : Thread nD τ).loc main_arg3)) (m ((c : Thread nD τ).loc main_arg4)) (((cfg0.win 7).blk t).view.emb y) := by
  unfold tile
  canon_tiles x h; all_goals (open_payloads; pointwise [merged]; blk_point [iblk, V, idx_val t])

/-- The merged rows after the run. -/
theorem final_merged (c : Dev nD) : (dats m 0 c).arrAt 7 (cfgs 0).N = merged (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp; rw [after_7]
  exact point m c t y

set_option maxHeartbeats 1600000 in
/-- A block of the next weights is stored rounded, where the last point to round one says. -/
theorem point_side (c : Dev nD) (t s : Fin cfg0.N) (hs : min s.val 42 = min t.val 42) (y) :
    sideOf (iblk m c 6 s) y = rounded (m ((c : Thread nD τ).loc main_arg5)) (((cfg0.win 8).blk t).view.emb y) := by
  unfold sideOf
  canon_tiles x h; all_goals (open_payloads; pointwise [rounded]; blk_point [iblk, V, idx_val t, idx_val s, hs])

/-- The rounded weights after the run. -/
theorem final_side (c : Dev nD) : (dats m 0 c).arrAt 8 (cfgs 0).N = rounded (m ((c : Thread nD τ).loc main_arg5)) := by
  refine (dats m 0 c).arrAt_eq_of_covers 8 _ (by decide +kernel) fun t hf y => ?_
  blk_simp; rw [after_8]
  refine point_side m c t (sidePt t) ?_ y
  unfold sidePt
  split
  · rfl
  · show 42 = min t.val 42; omega

end Cert.Kernel5Ideal.Hand

end
-- ==== Proof.Merge.lean ====
/- The claims of the call that merges the two mixers: both frames off the one run, the reference's frame, and the values. -/
module

public import proofs.«01_k».proof.Defs
public import proofs.«01_k».proof.Proof.MergeValue
public import proofs.«01_k».proof.Proof.Gen.Kernel5
public import Idealize.ShloMosaic.Lib.Quiescent
public import Idealize.ShloMosaic.Lib.Claim

@[expose] public section

set_option maxRecDepth 16384

noncomputable section

namespace Cert.Proof.Merge

open Idealize.ShloMosaic Idealize.SL.Sem

/-- The kernel's frame: its text is the idealization's, so the one run serves. -/
theorem frame_kernel : Cert.quiescent_Kernel5 := by
  have h := fun m ρ (_ : True) => Cert.Kernel5Ideal.Hand.frame_main (F := Bits) m ρ
  exact cast (by sl_kernel_rfl) h

/-- The idealized kernel's frame. -/
theorem frame_kernelIdeal : Cert.quiescent_Kernel5Ideal := fun m ρ _ => Cert.Kernel5Ideal.Hand.frame_main (F := Ideal) m ρ

/-- The reference's frame. -/
theorem frame_reference : Cert.quiescent_Reference5Ideal := fun m g _ =>
  θ_run_mono (Cert.Reference5Ideal.Value.run m g) fun r h => ⟨fun c => (h c).2.2, sem_eq_zero_of_no_sems (by decide) r.2⟩

/-- The program and the reference leave the same two arrays. -/
theorem algebraic : Cert.algebraic_Kernel5Ideal_Reference5Ideal := by
  pair_intro
  · run_from Cert.Kernel5Ideal.Hand.run_main m g
  · run_from Cert.Reference5Ideal.Value.run m' g'
    · exact (Cert.Kernel5Ideal.Hand.final_merged m c).symm
    · exact (Cert.Kernel5Ideal.Hand.final_side m c).symm

end Cert.Proof.Merge

end
-- ==== Proof.OutBody.lean ====
/- The output projection: its body at a point, that it leaves the cast weights' buffer alone after the last of their
   blocks, and the run of the program with its frame. -/
module

public import proofs.«01_k».proof.Proof.Gen.Kernel6Ideal.Frame
public import proofs.«01_k».proof.Proof.Gen.Kernel6Ideal.Skeleton
public import Idealize.ShloMosaic.Lib.Claim

@[expose] public section

set_option maxRecDepth 16384

noncomputable section

namespace Cert.Kernel6Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

/-! ## What the body stores -/

/-- The rows, whole. -/
abbrev rA : Rect S1024x4096 := Rect.unit (s := S1024x4096) ![0, 0] S1024x4096.size inb_S1024x4096_S1024x4096_0_0
/-- The weights' left columns. -/
abbrev rW0 : Rect S4096x512 := Rect.unit (s := S4096x512) ![0, 0] S4096x256.size inb_S4096x512_S4096x256_0_0
/-- The weights' right columns. -/
abbrev rW1 : Rect S4096x512 := Rect.unit (s := S4096x512) ![0, 256] S4096x256.size inb_S4096x512_S4096x256_0_256
/-- A tile's left columns. -/
abbrev rO0 : Rect S1024x512 := Rect.unit (s := S1024x512) ![0, 0] S1024x256.size inb_S1024x512_S1024x256_0_0
/-- A tile's right columns. -/
abbrev rO1 : Rect S1024x512 := Rect.unit (s := S1024x512) ![0, 256] S1024x256.size inb_S1024x512_S1024x256_0_256
/-- The block of the next weights, whole. -/
abbrev rS : Rect S128x4096 := Rect.unit (s := S128x4096) ![0, 0] S128x4096.size inb_S128x4096_S128x4096_0_0

/-- A tile of the result, of the rows, the weights' columns and the residual's tile. -/
def tile (x0 : Vec F S1024x4096 .bf16) (x1 : Vec F S4096x512 .bf16) (x2 : Vec F S1024x512 .f32) : Vec F S1024x512 .f32 :=
  View.canon [⟨rO1, k0_pay3 (View.ld x0 rA) (View.ld x2 rO1) (View.ld x1 rW1)⟩,
    ⟨rO0, k0_pay2 (View.ld x0 rA) (View.ld x2 rO0) (View.ld x1 rW0)⟩]

/-- The tile's two stores cover it. -/
theorem tile_cover (p0 : Vec F S1024x256 .f32) (p1 : Vec F S1024x256 .f32) (y : S1024x512.Idx) :
    ∃ pc ∈ ([⟨rO1, p0⟩, ⟨rO0, p1⟩] : List (View.Piece (Elt F) S1024x512 .f32)), y ∈ pc.1.set :=
  View.cover_of_tiled [⟨rO1, p0⟩, ⟨rO0, p1⟩] S1024x256.size (by rfl) y

/-- A block of the next weights, rounded. -/
def sideOf (x3 : Vec F S128x4096 .f32) : Vec F S128x4096 .bf16 :=
  View.canon [⟨rS, k0_pay1 (View.ld x3 rS)⟩]

/-- Its one store covers it. -/
theorem side_cover (p0 : Vec F S128x4096 .bf16) (y : S128x4096.Idx) :
    ∃ pc ∈ ([⟨rS, p0⟩] : List (View.Piece (Elt F) S128x4096 .bf16)), y ∈ pc.1.set :=
  View.cover_of_tiled [⟨rS, p0⟩] S128x4096.size (by rfl) y

/-- What the rounded weights' buffer holds after a point: their block while there are blocks left, else what it held. -/
def sideAt (i : grid0.Coords) (x3 : Vec F S128x4096 .f32) (y5 : Vec F S128x4096 .bf16) : Vec F S128x4096 .bf16 :=
  if k0_cond1 i = 1#1 then sideOf x3 else y5

/-! ## The body's triple -/

set_option maxHeartbeats 1000000 in
/-- The body on whole buffers: the inputs' as they were, the tile's at the result, the rounded weights' at `sideAt`. -/
theorem run_body (c : Dev nD) (E : Set ℕ) (i : grid0.Coords) (arg2 : Memref sig .tc .vmem S1024x4096 .bf16) (harg2 : arg2.IsWhole) (arg3 : Memref sig .tc .vmem S4096x512 .bf16) (harg3 : arg3.IsWhole) (arg4 : Memref sig .tc .vmem S1024x512 .f32) (harg4 : arg4.IsWhole) (arg5 : Memref sig .tc .vmem S128x4096 .f32) (harg5 : arg5.IsWhole) (arg6 : Memref sig .tc .vmem S1024x512 .f32) (harg6 : arg6.IsWhole) (arg7 : Memref sig .tc .vmem S128x4096 .bf16) (harg7 : arg7.IsWhole)
    (x0 : Vec F S1024x4096 .bf16) (x1 : Vec F S4096x512 .bf16) (x2 : Vec F S1024x512 .f32) (x3 : Vec F S128x4096 .f32) (y5 : Vec F S128x4096 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare y5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (tile x0 x1 x2) ∗ owns (c : Thread nD τ) arg7 fullShare (sideAt i x3 y5)) -∗ K ⟨⟩))
      ⊢ wp frame (wpE (defs₀ (F := F)) Variants.none c none) E (cc0_out_res i arg2 harg2 arg3 harg3 arg4 harg4 arg5 harg5 arg6 harg6 arg7 harg7) K := by
  simp only [cc0_out_res_eq_skeleton]; unfold cc0_out_res_skel sideAt
  unfold owns
  by_cases hc : k0_cond1 i = 1#1
  all_goals
    first | rw [if_pos hc] | rw [if_neg hc]
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    subst hf0 hf1 hf2 hf3 hf5
    sl_exec (disch := sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      exact View.read_writes_eq_canon _ _ _ (tile_cover _ _)
    iexists _; isplitr
    swap; · iexact H5
    ipureintro
    first | with_reducible rfl | exact View.read_writes_eq_canon _ _ _ (side_cover _)

/-! ## The proof data -/

variable (m : (ℓ : Loc nD τ sig) → Buf (Elt F) ℓ) (ρ : Dev nD → PrngReg)

/-- The last point at which a block of the next weights is rounded. -/
abbrev lastSide : Fin cfg0.N := ⟨31, by decide⟩

/-- The point whose block of the next weights the rounded weights' buffer holds after point `t`. -/
def sidePt (t : Fin cfg0.N) : Fin cfg0.N := if t.val < 32 then t else lastSide

/-- The proof data: the arrays as the region finds them; after a point the inputs' buffers at their blocks, the tile's
    at the result and the rounded weights' at the last block rounded. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tile (iblk m c 0 t) (iblk m c 1 t) (iblk m c 2 t)
    | ⟨5, _⟩ => sideOf (iblk m c 3 (sidePt t))
  Φ _ := Pipeline.ΦA spec0 c
  q _ := fullShare
  owed _ := 0

/-- The arrays. -/
theorem A_eq (c : Dev nD) (w : Fin cfg0.W) : (dats m 0 c).A w = V m c (Pipeline.arrRef spec0 w) := by dsimp only [dats]

/-- After a point, window by window. -/
theorem after_0 (c : Dev nD) (t : Fin cfg0.N) : (dats m 0 c).after 0 t = iblk m c 0 t := by dsimp only [dats]
/-- The weights' columns. -/
theorem after_1 (c : Dev nD) (t : Fin cfg0.N) : (dats m 0 c).after 1 t = iblk m c 1 t := by dsimp only [dats]
/-- The residual's tile. -/
theorem after_2 (c : Dev nD) (t : Fin cfg0.N) : (dats m 0 c).after 2 t = iblk m c 2 t := by dsimp only [dats]
/-- The next weights' block. -/
theorem after_3 (c : Dev nD) (t : Fin cfg0.N) : (dats m 0 c).after 3 t = iblk m c 3 t := by dsimp only [dats]
/-- The result's tile. -/
theorem after_4 (c : Dev nD) (t : Fin cfg0.N) : (dats m 0 c).after 4 t = tile (iblk m c 0 t) (iblk m c 1 t) (iblk m c 2 t) := by dsimp only [dats]
/-- The rounded weights' block. -/
theorem after_5 (c : Dev nD) (t : Fin cfg0.N) : (dats m 0 c).after 5 t = sideOf (iblk m c 3 (sidePt t)) := by dsimp only [dats]

/-- Before a point the inputs' buffers hold their blocks. -/
theorem before_0 (c : Dev nD) (t : Fin cfg0.N) (d) : (dats m 0 c).before 0 t d = iblk m c 0 t :=
  before0_0_of m (dats m 0 c) (A_eq m c 0) (after_0 m c) t d
/-- The weights' columns. -/
theorem before_1 (c : Dev nD) (t : Fin cfg0.N) (d) : (dats m 0 c).before 1 t d = iblk m c 1 t :=
  before0_1_of m (dats m 0 c) (A_eq m c 1) (after_1 m c) t d
/-- The residual's tile. -/
theorem before_2 (c : Dev nD) (t : Fin cfg0.N) (d) : (dats m 0 c).before 2 t d = iblk m c 2 t :=
  before0_2_of m (dats m 0 c) (A_eq m c 2) (after_2 m c) t d
/-- The next weights' block. -/
theorem before_3 (c : Dev nD) (t : Fin cfg0.N) (d) : (dats m 0 c).before 3 t d = iblk m c 3 t :=
  before0_3_of m (dats m 0 c) (A_eq m c 3) (after_3 m c) t d

/-! ## The rounded weights' buffer once there is no block left -/

/-- The first points round a block each. -/
theorem side_iff : ∀ t : Fin cfg0.N, k0_cond1 (grid0.coords t) = 1#1 ↔ t.val < 32 :=
  (by decide +kernel : ∀ t : Fin grid0.N, k0_cond1 (grid0.coords t) = 1#1 ↔ t.val < 32)

/-- The later points leave the rounded weights' buffer alone. -/
theorem idle_5 : ∀ t : Fin cfg0.N, cfg0.idle 5 (cfg0.grid.coords t) = !decide (t.val < 32) :=
  (by decide +kernel : ∀ t : Fin grid0.N, idle0 5 (grid0.coords t) = !decide (t.val < 32))

/-- The rounded weights' blocks are written back as they are left, the last one at the end. -/
theorem flush_5 : ∀ t : Fin cfg0.N, (cfg0.win 5).flush t = (decide (t.val < 31) || decide (t.val = 63)) :=
  (by decide +kernel : ∀ t : Fin grid0.N, win0_5.flush t = (decide (t.val < 31) || decide (t.val = 63)))

/-- Past the last block, the buffer holds that block. -/
theorem before_5 (c : Dev nD) (d) : ∀ (n : ℕ) (hn : n < cfg0.N), 32 ≤ n →
    (dats m 0 c).before 5 ⟨n, hn⟩ d = sideOf (iblk m c 3 lastSide) := by
  intro n
  induction n with
  | zero => intro hn h; exact absurd h (by decide)
  | succ k ih =>
    intro hn h
    have hN : cfg0.N = 64 := rfl
    rw [(dats m 0 c).before_of_pos 5 ⟨k + 1, hn⟩ (Nat.succ_ne_zero k) ((cfg0.win 5).fetch_out rfl _) d]
    have hk : k < cfg0.N := Nat.lt_of_succ_lt hn
    have hfl : (cfg0.win 5).flush ⟨k, hk⟩ = false := by
      rw [flush_5]; simp only [Bool.or_eq_false_iff, decide_eq_false_iff_not]; omega
    show (if (cfg0.win 5).flush ⟨k, hk⟩ then d else (dats m 0 c).left 5 ⟨k, hk⟩ d) = _
    rw [hfl, if_neg Bool.false_ne_true]
    unfold Dat.left
    rw [idle_5]
    by_cases h32 : k < 32
    · have hk31 : k = 31 := by omega
      subst hk31
      show (dats m 0 c).kept 5 lastSide d = _
      unfold Dat.kept
      rw [Pipeline.fill_of_clip_none 5 (cfg0.grid.coords lastSide) (fun _ => rfl) d ((dats m 0 c).after 5 lastSide) _,
        Window.fill_cut, after_5]
      rfl
    · rw [show (!decide ((⟨k, hk⟩ : Fin cfg0.N).val < 32)) = true by simp only [Bool.not_eq_true', decide_eq_false_iff_not]; exact h32]
      exact ih hk (by omega)

/-! ## The body at every point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

/-- What the body leaves in the rounded weights' buffer is what the pipeline is to find there. -/
theorem leaves_5 (c : Dev nD) (t : Fin cfg0.N) (d) :
    owns (c : Thread nD τ) (st0_5 t) fullShare (sideAt (grid0.coords t) (iblk m c 3 t) ((dats m 0 c).before 5 t d))
      ⊢ ((dats m 0 c).leavesExact 5 t : sProp 𝕄) := by
  unfold sideAt
  by_cases h : t.val < 32
  · rw [if_pos ((side_iff t).mpr h)]
    unfold Dat.leavesExact
    rw [idle_5, show (!decide (t.val < 32)) = false by simp only [Bool.not_eq_false', decide_eq_true_eq]; exact h]
    rw [after_5, show sidePt t = t from if_pos h]
  · rw [if_neg fun hc => h ((side_iff t).mp hc)]
    have hi : cfg0.idle 5 (cfg0.grid.coords t) = true := by
      rw [idle_5]; simp only [Bool.not_eq_true', decide_eq_false_iff_not]; exact h
    by_cases h63 : t.val = 63
    · have hf : (cfg0.win 5).flush t = true := by
        rw [flush_5]; simp only [Bool.or_eq_true, decide_eq_true_eq]; exact .inr h63
      unfold Dat.leavesExact
      rw [hi, hf, after_5, show sidePt t = lastSide from if_neg h, before_5 m c d t.val t.isLt (by omega)]
    · have hf : (cfg0.win 5).flush t = false := by
        rw [flush_5]; simp only [Bool.or_eq_false_iff, decide_eq_false_iff_not]; exact ⟨by omega, h63⟩
      rw [(dats m 0 c).leavesExact_idle 5 t hi hf]
      iintro H; iexists d; iexact H

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩, ⟨%d5, H5⟩⟩
  iapply (run_body c Set.univ (grid0.coords t) _ _ _ _ _ _ _ _ _ _ _ _ (iblk m c 0 t) (iblk m c 1 t) (iblk m c 2 t) (iblk m c 3 t) ((dats m 0 c).before 5 t d5) _)
  isplitl [H0]; · iexact H0
  isplitl [H1]; · iexact H1
  isplitl [H2]; · iexact H2
  isplitl [H3]; · iexact H3
  isplitl [H4]; · iexists _; iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iapply (leaves_5 m c t d5)
  iexact H5

/-- The body table's row is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run, every counter at zero at the end. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged, the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Kernel6Ideal.Hand

end
-- ==== Proof.OutValue.lean ====
/- The output projection: the two arrays it leaves are the reference's. -/
module

public import proofs.«01_k».proof.Proof.OutBody
public import proofs.«01_k».proof.Proof.Gen.Reference6Ideal.Run
public import Idealize.ShloMosaic.Lib.Pipeline.ValueKit
public import Idealize.ShloMosaic.Lib.Claim

@[expose] public section

set_option maxRecDepth 16384

noncomputable section

namespace Cert.Kernel6Ideal.Hand

open Cert.Kernel6Ideal Cert.Kernel6Ideal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The reference's residual stream, of the merged rows, the weights and the residual. -/
abbrev out (a : FVec Ideal S8192x4096 .bf16) (w : FVec Ideal S1x4096x4096 .f32) (x : FVec Ideal S8192x4096 .f32) :
    FVec Ideal S8192x4096 .f32 :=
  addf x (Host.dotGeneral Cert.Reference6Ideal.dot_S8192x4096_S4096x4096_S8192x4096_1_0_0_1_n_n none
    (extf .f32 a Cert.Reference6Ideal.Gen.bitsLt_bf16_f32) (shapeCast _ w Cert.Reference6Ideal.Gen.shapeCasts_S1x4096x4096_S4096x4096))

/-- The reference's rounded weights of the next gate. -/
abbrev rounded (w : FVec Ideal S1x4096x4096 .f32) : FVec Ideal S4096x4096 .bf16 :=
  truncf .bf16 (shapeCast _ w Cert.Reference6Ideal.Gen.shapeCasts_S1x4096x4096_S4096x4096) Cert.Reference6Ideal.Gen.bitsLt_bf16_f32

/-- Every window's block index at every point. -/
theorem idx_val : ∀ t : Fin cfg0.N, win0_0.index t = ![t.val / 8, 0]
    ∧ win0_1.index t = ![0, t.val % 8]
    ∧ win0_2.index t = ![t.val / 8, t.val % 8]
    ∧ win0_3.index t = ![min t.val 31, 0]
    ∧ win0_4.index t = ![t.val / 8, t.val % 8]
    ∧ win0_5.index t = ![min t.val 31, 0] :=
  (by decide +kernel : ∀ t : Fin grid0.N, _)

set_option maxHeartbeats 1600000 in
/-- At a point's two column halves, what the body stores is the reference's value there. -/
theorem point (c : Dev nD) (t : Fin cfg0.N) (y) :
    tile (iblk m c 0 t) (iblk m c 1 t) (iblk m c 2 t) y
      = out (m ((c : Thread nD τ).loc main_arg0)) (m ((c : Thread nD τ).loc main_arg1)) (m ((c : Thread nD τ).loc
        main_arg2)) (((cfg0.win 4).blk t).view.emb y) := by
  unfold tile
  canon_tiles x h; all_goals (open_payloads; pointwise [out]; blk_point [iblk, V, idx_val t])

/-- The residual stream after the run. -/
theorem final_out (c : Dev nD) : (dats m 0 c).arrAt 4 (cfgs 0).N = out (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after_4]
  exact point m c t y

set_option maxHeartbeats 1600000 in
/-- A block of the next weights is stored rounded, where the last point to round one says. -/
theorem point_side (c : Dev nD) (t s : Fin cfg0.N) (hs : min s.val 31 = min t.val 31) (y) :
    sideOf (iblk m c 3 s) y = rounded (m ((c : Thread nD τ).loc main_arg3)) (((cfg0.win 5).blk t).view.emb y) := by
  unfold sideOf
  canon_tiles x h; all_goals (open_payloads; pointwise [rounded]; blk_point [iblk, V, idx_val t, idx_val s, hs])

/-- The rounded weights after the run. -/
theorem final_side (c : Dev nD) : (dats m 0 c).arrAt 5 (cfgs 0).N = rounded (m ((c : Thread nD τ).loc main_arg3)) := by
  refine (dats m 0 c).arrAt_eq_of_covers 5 _ (by decide +kernel) fun t hf y => ?_
  blk_simp; rw [after_5]
  refine point_side m c t (sidePt t) ?_ y
  unfold sidePt
  split
  · rfl
  · show 31 = min t.val 31; omega

end Cert.Kernel6Ideal.Hand

end
-- ==== Proof.OutRes.lean ====
/- The claims of the output projection's call: both frames off the one run, the reference's frame, and the values. -/
module

public import proofs.«01_k».proof.Defs
public import proofs.«01_k».proof.Proof.OutValue
public import proofs.«01_k».proof.Proof.Gen.Kernel6
public import Idealize.ShloMosaic.Lib.Quiescent
public import Idealize.ShloMosaic.Lib.Claim

@[expose] public section

set_option maxRecDepth 16384

noncomputable section

namespace Cert.Proof.OutRes

open Idealize.ShloMosaic Idealize.SL.Sem

/-- The kernel's frame: its text is the idealization's, so the one run serves. -/
theorem frame_kernel : Cert.quiescent_Kernel6 := by
  have h := fun m ρ (_ : True) => Cert.Kernel6Ideal.Hand.frame_main (F := Bits) m ρ
  exact cast (by sl_kernel_rfl) h

/-- The idealized kernel's frame. -/
theorem frame_kernelIdeal : Cert.quiescent_Kernel6Ideal := fun m ρ _ => Cert.Kernel6Ideal.Hand.frame_main (F := Ideal) m ρ

/-- The reference's frame. -/
theorem frame_reference : Cert.quiescent_Reference6Ideal := fun m g _ =>
  θ_run_mono (Cert.Reference6Ideal.Value.run m g) fun r h => ⟨fun c => (h c).2.2, sem_eq_zero_of_no_sems (by decide) r.2⟩

/-- The program and the reference leave the same two arrays. -/
theorem algebraic : Cert.algebraic_Kernel6Ideal_Reference6Ideal := by
  pair_intro
  · run_from Cert.Kernel6Ideal.Hand.run_main m g
  · run_from Cert.Reference6Ideal.Value.run m' g'
    · exact (Cert.Kernel6Ideal.Hand.final_out m c).symm
    · exact (Cert.Kernel6Ideal.Hand.final_side m c).symm

end Cert.Proof.OutRes

end
-- ==== Proof.FoxBlocks.lean ====
/- What one point of the projection computes, tile by tile: the 512 × 256 tiles of the output block, each a sum of
   sixteen products of tiles of the activations and of the transposed weight block; and the next transposed weight
   block, in sixteen tiles of 256 rows. -/
module

public import proofs.«01_k».proof.Proof.Gen.Kernel7Ideal.Skeleton
public import proofs.«01_k».proof.Proof.Gen.Kernel7Ideal.Frame
public import Idealize.ShloMosaic.Lib.Pipeline.ReadBack
public import proofs.«01_k».proof.Proof.Tiles

@[expose] public section

set_option maxRecDepth 16384

noncomputable section

namespace Cert.Kernel7Ideal.Hand

open Idealize.ShloMosaic Idealize.SL.Sem
open Cert.Kernel7Ideal Cert.Kernel7Ideal.Gen Cert.Tiles

variable {F : FTy → Type} [FloatOps F] [Named F]

/-- The product of chunk `c` of row block `i` of the activations and chunk `c` of column block `j` of the weights. -/
def part (H : Vec F S2048x4096 .bf16) (B : Vec F S4096x512 .bf16) (i : Fin 4) (j : Fin 2) (c : Fin 16) : FVec F S512x256 .f32 :=
  matmul dot_S512x256_S256x256_S512x256_1_0_0_1_n_n none (tile (p0 := 4) (p1 := 16) (b0 := 512) (b1 := 256) rfl rfl H i c)
    (tile (p0 := 16) (p1 := 2) (b0 := 256) (b1 := 256) rfl rfl B c j) (constant S512x256 .f32 0x00000000#32)

/-- The first `n + 1` of those products, added up from the left. -/
def accN (H : Vec F S2048x4096 .bf16) (B : Vec F S4096x512 .bf16) (i : Fin 4) (j : Fin 2) : ℕ → FVec F S512x256 .f32
  | 0 => part H B i j 0
  | n + 1 => addf (accN H B i j n) (part H B i j (Fin.ofNat 16 (n + 1)))

/-- All sixteen: a tile of the product before its epilogue. -/
def acc (H : Vec F S2048x4096 .bf16) (B : Vec F S4096x512 .bf16) (i : Fin 4) (j : Fin 2) : FVec F S512x256 .f32 := accN H B i j 15

/-- The queries' epilogue: each head normalised, times the gains and the scale. -/
def epiQ (g : Vec F S1x128 .f32) (a : FVec F S512x256 .f32) : FVec F S512x256 .bf16 :=
  k0_pay34 a (tile (p0 := 1) (p1 := 1) (b0 := 1) (b1 := 128) rfl rfl g 0 0) (tile (p0 := 1) (p1 := 1) (b0 := 1) (b1 := 128) rfl rfl g 0 0)
/-- The keys' epilogue: each head normalised, times the gains. -/
def epiK (g : Vec F S1x128 .f32) (a : FVec F S512x256 .f32) : FVec F S512x256 .bf16 :=
  k0_pay194 a (tile (p0 := 1) (p1 := 1) (b0 := 1) (b1 := 128) rfl rfl g 0 0) (tile (p0 := 1) (p1 := 1) (b0 := 1) (b1 := 128) rfl rfl g 0 0)
/-- The values' epilogue: none. -/
def epiV (a : FVec F S512x256 .f32) : FVec F S512x256 .bf16 := truncf .bf16 a bitsLt_bf16_f32

/-- The three sections of the output's columns. -/
inductive Sec where
  /-- the queries -/ | q
  /-- the keys -/ | k
  /-- the values -/ | v
  deriving DecidableEq

/-- A section's epilogue, the queries' and the keys' gains given. -/
def epi (gq gk : Vec F S1x128 .f32) : Sec → FVec F S512x256 .f32 → FVec F S512x256 .bf16
  | .q => epiQ gq
  | .k => epiK gk
  | .v => epiV

/-- The branch a point takes: its section, and whether it is odd. -/
structure Turn (i : grid0.Coords) (s : Sec) (odd : Bool) : Prop where
  c2 : k0_cond2 i = 1#1 ↔ s = .q ∧ odd = false
  c3 : k0_cond3 i = 1#1 ↔ s = .q ∧ odd = true
  c4 : k0_cond4 i = 1#1 ↔ s = .k ∧ odd = false
  c5 : k0_cond5 i = 1#1 ↔ s = .k ∧ odd = true
  c6 : k0_cond6 i = 1#1 ↔ s = .v ∧ odd = false
  c7 : k0_cond7 i = 1#1 ↔ s = .v ∧ odd = true

/-- The output block under an epilogue. -/
def outBlk (epi : FVec F S512x256 .f32 → FVec F S512x256 .bf16) (H : Vec F S2048x4096 .bf16) (B : Vec F S4096x512 .bf16) : Vec F S2048x512 .bf16 :=
  ofTiles (p0 := 4) (p1 := 2) (b0 := 512) (b1 := 256) (n0 := 2048) (n1 := 512) rfl rfl fun i j => epi (acc H B i j)

/-- A tile of 256 columns of the weight block, transposed and rounded. -/
def castTile (W : Vec F S512x4096 .f32) (c : Fin 16) : FVec F S256x512 .bf16 :=
  k0_pay1 (tile (p0 := 1) (p1 := 16) (b0 := 512) (b1 := 256) rfl rfl W 0 c)

/-- The weight block transposed and rounded. -/
def castBlk (W : Vec F S512x4096 .f32) : Vec F S4096x512 .bf16 :=
  ofTiles (p0 := 16) (p1 := 1) (b0 := 256) (b1 := 512) (n0 := 4096) (n1 := 512) rfl rfl fun c _ => castTile W c

/-- A tile of the output block, read at its place. -/
theorem outBlk_emb (epi : FVec F S512x256 .f32 → FVec F S512x256 .bf16) (H : Vec F S2048x4096 .bf16) (B : Vec F S4096x512 .bf16)
    (i : Fin 4) (j : Fin 2) (o0 o1 : ℕ) (e0 : o0 = 512 * i.val) (e1 : o1 = 256 * j.val)
    (inb : ∀ a, (![o0, o1] : Fin 2 → ℕ) a + S512x256.size a ≤ S2048x512.size a) (p : FVec F S512x256 .bf16) (hp : p = epi (acc H B i j))
    (x : S512x256.Idx) : p x = outBlk epi H B ((Rect.unit (s := S2048x512) ![o0, o1] S512x256.size inb).emb x) := by
  subst hp
  exact (ofTiles_emb (p0 := 4) (p1 := 2) (b0 := 512) (b1 := 256) (n0 := 2048) (n1 := 512) rfl rfl (fun i j => epi (acc H B i j)) i j o0 o1 e0 e1 inb x).symm

/-- A tile of the transposed block, read at its place. -/
theorem castBlk_emb (W : Vec F S512x4096 .f32) (k : Fin 16) (o : ℕ) (e0 : o = 256 * k.val)
    (inb : ∀ a, (![o, 0] : Fin 2 → ℕ) a + S256x512.size a ≤ S4096x512.size a) (p : FVec F S256x512 .bf16) (hp : p = castTile W k)
    (x : S256x512.Idx) : p x = castBlk W ((Rect.unit (s := S4096x512) ![o, 0] S256x512.size inb).emb x) := by
  subst hp
  exact (ofTiles_emb (p0 := 16) (p1 := 1) (b0 := 256) (b1 := 512) (n0 := 4096) (n1 := 512) rfl rfl (fun c _ => castTile W c) k 0 o 0 e0 rfl inb x).symm

/-- The eight stores of a point's output tiles leave the output block. -/
theorem read_outBlk (v : View sig .tc .vmem S2048x512 .bf16) (f : v.ty.Contents (Elt F))
    (epi : FVec F S512x256 .f32 → FVec F S512x256 .bf16) (H : Vec F S2048x4096 .bf16) (B : Vec F S4096x512 .bf16)
    (p31 p30 p21 p20 p11 p10 p01 p00 : FVec F S512x256 .bf16)
    (h31 : p31 = epi (acc H B 3 1)) (h30 : p30 = epi (acc H B 3 0)) (h21 : p21 = epi (acc H B 2 1)) (h20 : p20 = epi (acc H B 2 0)) (h11 : p11 = epi (acc H B 1 1)) (h10 : p10 = epi (acc H B 1 0)) (h01 : p01 = epi (acc H B 0 1)) (h00 : p00 = epi (acc H B 0 0)) :
    v.read (Elt F) (v.writes (Elt F) f
      [ ⟨Rect.unit (s := S2048x512) ![1536, 256] S512x256.size inb_S2048x512_S512x256_1536_256, p31⟩,
        ⟨Rect.unit (s := S2048x512) ![1536, 0] S512x256.size inb_S2048x512_S512x256_1536_0, p30⟩,
        ⟨Rect.unit (s := S2048x512) ![1024, 256] S512x256.size inb_S2048x512_S512x256_1024_256, p21⟩,
        ⟨Rect.unit (s := S2048x512) ![1024, 0] S512x256.size inb_S2048x512_S512x256_1024_0, p20⟩,
        ⟨Rect.unit (s := S2048x512) ![512, 256] S512x256.size inb_S2048x512_S512x256_512_256, p11⟩,
        ⟨Rect.unit (s := S2048x512) ![512, 0] S512x256.size inb_S2048x512_S512x256_512_0, p10⟩,
        ⟨Rect.unit (s := S2048x512) ![0, 256] S512x256.size inb_S2048x512_S512x256_0_256, p01⟩,
        ⟨Rect.unit (s := S2048x512) ![0, 0] S512x256.size inb_S2048x512_S512x256_0_0, p00⟩ ]) = outBlk epi H B := by
  have cov : ∀ y : S2048x512.Idx, ∃ p ∈ ([ ⟨Rect.unit (s := S2048x512) ![1536, 256] S512x256.size inb_S2048x512_S512x256_1536_256, p31⟩,
        ⟨Rect.unit (s := S2048x512) ![1536, 0] S512x256.size inb_S2048x512_S512x256_1536_0, p30⟩,
        ⟨Rect.unit (s := S2048x512) ![1024, 256] S512x256.size inb_S2048x512_S512x256_1024_256, p21⟩,
        ⟨Rect.unit (s := S2048x512) ![1024, 0] S512x256.size inb_S2048x512_S512x256_1024_0, p20⟩,
        ⟨Rect.unit (s := S2048x512) ![512, 256] S512x256.size inb_S2048x512_S512x256_512_256, p11⟩,
        ⟨Rect.unit (s := S2048x512) ![512, 0] S512x256.size inb_S2048x512_S512x256_512_0, p10⟩,
        ⟨Rect.unit (s := S2048x512) ![0, 256] S512x256.size inb_S2048x512_S512x256_0_256, p01⟩,
        ⟨Rect.unit (s := S2048x512) ![0, 0] S512x256.size inb_S2048x512_S512x256_0_0, p00⟩ ] : List (View.Piece (Elt F) S2048x512 .bf16)), y ∈ p.1.set :=
    View.cover_of_tiledL _ S512x256.size (by sl_kernel_rfl)
  rw [View.read_writes_eq_canon _ _ _ cov]
  funext y
  refine View.canon_apply_of_pieces (outBlk epi H B) _ (View.PiecesOf.mem ?_) y (cov y)
  exact ⟨outBlk_emb epi H B 3 1 1536 256 rfl rfl inb_S2048x512_S512x256_1536_256 p31 h31,
    outBlk_emb epi H B 3 0 1536 0 rfl rfl inb_S2048x512_S512x256_1536_0 p30 h30,
    outBlk_emb epi H B 2 1 1024 256 rfl rfl inb_S2048x512_S512x256_1024_256 p21 h21,
    outBlk_emb epi H B 2 0 1024 0 rfl rfl inb_S2048x512_S512x256_1024_0 p20 h20,
    outBlk_emb epi H B 1 1 512 256 rfl rfl inb_S2048x512_S512x256_512_256 p11 h11,
    outBlk_emb epi H B 1 0 512 0 rfl rfl inb_S2048x512_S512x256_512_0 p10 h10,
    outBlk_emb epi H B 0 1 0 256 rfl rfl inb_S2048x512_S512x256_0_256 p01 h01,
    outBlk_emb epi H B 0 0 0 0 rfl rfl inb_S2048x512_S512x256_0_0 p00 h00, trivial⟩

/-- The sixteen stores of the transposed tiles leave the transposed block. -/
theorem read_castBlk (v : View sig .tc .vmem S4096x512 .bf16) (f : v.ty.Contents (Elt F)) (W : Vec F S512x4096 .f32)
    (p15 p14 p13 p12 p11 p10 p9 p8 p7 p6 p5 p4 p3 p2 p1 p0 : FVec F S256x512 .bf16)
    (h15 : p15 = castTile W 15) (h14 : p14 = castTile W 14) (h13 : p13 = castTile W 13) (h12 : p12 = castTile W 12) (h11 : p11 = castTile W 11) (h10 : p10 = castTile W 10) (h9 : p9 = castTile W 9) (h8 : p8 = castTile W 8) (h7 : p7 = castTile W 7) (h6 : p6 = castTile W 6) (h5 : p5 = castTile W 5) (h4 : p4 = castTile W 4) (h3 : p3 = castTile W 3) (h2 : p2 = castTile W 2) (h1 : p1 = castTile W 1) (h0 : p0 = castTile W 0) :
    v.read (Elt F) (v.writes (Elt F) f
      [ ⟨Rect.unit (s := S4096x512) ![3840, 0] S256x512.size inb_S4096x512_S256x512_3840_0, p15⟩,
        ⟨Rect.unit (s := S4096x512) ![3584, 0] S256x512.size inb_S4096x512_S256x512_3584_0, p14⟩,
        ⟨Rect.unit (s := S4096x512) ![3328, 0] S256x512.size inb_S4096x512_S256x512_3328_0, p13⟩,
        ⟨Rect.unit (s := S4096x512) ![3072, 0] S256x512.size inb_S4096x512_S256x512_3072_0, p12⟩,
        ⟨Rect.unit (s := S4096x512) ![2816, 0] S256x512.size inb_S4096x512_S256x512_2816_0, p11⟩,
        ⟨Rect.unit (s := S4096x512) ![2560, 0] S256x512.size inb_S4096x512_S256x512_2560_0, p10⟩,
        ⟨Rect.unit (s := S4096x512) ![2304, 0] S256x512.size inb_S4096x512_S256x512_2304_0, p9⟩,
        ⟨Rect.unit (s := S4096x512) ![2048, 0] S256x512.size inb_S4096x512_S256x512_2048_0, p8⟩,
        ⟨Rect.unit (s := S4096x512) ![1792, 0] S256x512.size inb_S4096x512_S256x512_1792_0, p7⟩,
        ⟨Rect.unit (s := S4096x512) ![1536, 0] S256x512.size inb_S4096x512_S256x512_1536_0, p6⟩,
        ⟨Rect.unit (s := S4096x512) ![1280, 0] S256x512.size inb_S4096x512_S256x512_1280_0, p5⟩,
        ⟨Rect.unit (s := S4096x512) ![1024, 0] S256x512.size inb_S4096x512_S256x512_1024_0, p4⟩,
        ⟨Rect.unit (s := S4096x512) ![768, 0] S256x512.size inb_S4096x512_S256x512_768_0, p3⟩,
        ⟨Rect.unit (s := S4096x512) ![512, 0] S256x512.size inb_S4096x512_S256x512_512_0, p2⟩,
        ⟨Rect.unit (s := S4096x512) ![256, 0] S256x512.size inb_S4096x512_S256x512_256_0, p1⟩,
        ⟨Rect.unit (s := S4096x512) ![0, 0] S256x512.size inb_S4096x512_S256x512_0_0, p0⟩ ]) = castBlk W := by
  have cov : ∀ y : S4096x512.Idx, ∃ p ∈ ([ ⟨Rect.unit (s := S4096x512) ![3840, 0] S256x512.size inb_S4096x512_S256x512_3840_0, p15⟩,
        ⟨Rect.unit (s := S4096x512) ![3584, 0] S256x512.size inb_S4096x512_S256x512_3584_0, p14⟩,
        ⟨Rect.unit (s := S4096x512) ![3328, 0] S256x512.size inb_S4096x512_S256x512_3328_0, p13⟩,
        ⟨Rect.unit (s := S4096x512) ![3072, 0] S256x512.size inb_S4096x512_S256x512_3072_0, p12⟩,
        ⟨Rect.unit (s := S4096x512) ![2816, 0] S256x512.size inb_S4096x512_S256x512_2816_0, p11⟩,
        ⟨Rect.unit (s := S4096x512) ![2560, 0] S256x512.size inb_S4096x512_S256x512_2560_0, p10⟩,
        ⟨Rect.unit (s := S4096x512) ![2304, 0] S256x512.size inb_S4096x512_S256x512_2304_0, p9⟩,
        ⟨Rect.unit (s := S4096x512) ![2048, 0] S256x512.size inb_S4096x512_S256x512_2048_0, p8⟩,
        ⟨Rect.unit (s := S4096x512) ![1792, 0] S256x512.size inb_S4096x512_S256x512_1792_0, p7⟩,
        ⟨Rect.unit (s := S4096x512) ![1536, 0] S256x512.size inb_S4096x512_S256x512_1536_0, p6⟩,
        ⟨Rect.unit (s := S4096x512) ![1280, 0] S256x512.size inb_S4096x512_S256x512_1280_0, p5⟩,
        ⟨Rect.unit (s := S4096x512) ![1024, 0] S256x512.size inb_S4096x512_S256x512_1024_0, p4⟩,
        ⟨Rect.unit (s := S4096x512) ![768, 0] S256x512.size inb_S4096x512_S256x512_768_0, p3⟩,
        ⟨Rect.unit (s := S4096x512) ![512, 0] S256x512.size inb_S4096x512_S256x512_512_0, p2⟩,
        ⟨Rect.unit (s := S4096x512) ![256, 0] S256x512.size inb_S4096x512_S256x512_256_0, p1⟩,
        ⟨Rect.unit (s := S4096x512) ![0, 0] S256x512.size inb_S4096x512_S256x512_0_0, p0⟩ ] : List (View.Piece (Elt F) S4096x512 .bf16)), y ∈ p.1.set :=
    View.cover_of_tiledL _ S256x512.size (by sl_kernel_rfl)
  rw [View.read_writes_eq_canon _ _ _ cov]
  funext y
  refine View.canon_apply_of_pieces (castBlk W) _ (View.PiecesOf.mem ?_) y (cov y)
  exact ⟨castBlk_emb W 15 3840 rfl inb_S4096x512_S256x512_3840_0 p15 h15,
    castBlk_emb W 14 3584 rfl inb_S4096x512_S256x512_3584_0 p14 h14,
    castBlk_emb W 13 3328 rfl inb_S4096x512_S256x512_3328_0 p13 h13,
    castBlk_emb W 12 3072 rfl inb_S4096x512_S256x512_3072_0 p12 h12,
    castBlk_emb W 11 2816 rfl inb_S4096x512_S256x512_2816_0 p11 h11,
    castBlk_emb W 10 2560 rfl inb_S4096x512_S256x512_2560_0 p10 h10,
    castBlk_emb W 9 2304 rfl inb_S4096x512_S256x512_2304_0 p9 h9,
    castBlk_emb W 8 2048 rfl inb_S4096x512_S256x512_2048_0 p8 h8,
    castBlk_emb W 7 1792 rfl inb_S4096x512_S256x512_1792_0 p7 h7,
    castBlk_emb W 6 1536 rfl inb_S4096x512_S256x512_1536_0 p6 h6,
    castBlk_emb W 5 1280 rfl inb_S4096x512_S256x512_1280_0 p5 h5,
    castBlk_emb W 4 1024 rfl inb_S4096x512_S256x512_1024_0 p4 h4,
    castBlk_emb W 3 768 rfl inb_S4096x512_S256x512_768_0 p3 h3,
    castBlk_emb W 2 512 rfl inb_S4096x512_S256x512_512_0 p2 h2,
    castBlk_emb W 1 256 rfl inb_S4096x512_S256x512_256_0 p1 h1,
    castBlk_emb W 0 0 rfl inb_S4096x512_S256x512_0_0 p0 h0, trivial⟩

/-- The scratch after the first point's fill. -/
def zeroBlk : Vec F S4096x512 .bf16 :=
  View.canon [(⟨Rect.unit (s := S4096x512) ![0, 0] S4096x512.size inb_S4096x512_S4096x512_0_0, k0_pay451⟩ : View.Piece (Elt F) S4096x512 .bf16)]

/-- The fill leaves it. -/
theorem read_zeroBlk (v : View sig .tc .vmem S4096x512 .bf16) (f : v.ty.Contents (Elt F)) :
    v.read (Elt F) (v.writes (Elt F) f [⟨Rect.unit (s := S4096x512) ![0, 0] S4096x512.size inb_S4096x512_S4096x512_0_0, k0_pay451⟩]) = zeroBlk :=
  View.read_writes_eq_canon _ _ _ (View.cover_of_tiledL _ S4096x512.size (by sl_kernel_rfl))

end Cert.Kernel7Ideal.Hand

end
-- ==== Proof.FoxRunFirst.lean ====
/- The body at the first point. -/
module

public import proofs.«01_k».proof.Proof.FoxBlocks

@[expose] public section

set_option maxRecDepth 16384

noncomputable section

namespace Cert.Kernel7Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel7Ideal Cert.Kernel7Ideal.Gen Cert.Tiles

variable {F : FTy → Type} [FloatOps F] [Named F]

local notation "𝕄" => MT nD τ sig Unit (Elt F) ℕ (UR sig nD τ) ℕ

set_option maxHeartbeats 2000000 in
/-- The body at the first point: the output block comes of a scratch of zeros, and the first scratch ends with the weight
    block transposed. -/
theorem run_first (c : Dev nD) (i : grid0.Coords) (arg1 : Memref sig .tc .vmem S2048x4096 .bf16) (harg1 : arg1.IsWhole)
    (arg2 : Memref sig .tc .vmem S512x4096 .f32) (harg2 : arg2.IsWhole) (arg3 : Memref sig .tc .vmem S1x128 .f32) (harg3 : arg3.IsWhole) (arg4 : Memref sig .tc .vmem S1x128 .f32) (harg4 : arg4.IsWhole)
    (arg5 : Memref sig .tc .vmem S2048x512 .bf16) (harg5 : arg5.IsWhole)
    (arg6 : Memref sig .tc .vmem S4096x512 .bf16) (harg6 : arg6.IsWhole) (arg7 : Memref sig .tc .vmem S4096x512 .bf16) (harg7 : arg7.IsWhole)
    (hc0 : (Scalar.cmpi .ne (Scalar.extui (Scalar.cmpi .eq (BitVec.ofNat 32 (i 0).val) 0#32)) 0#32) = 1#1) (hs : Turn i .q false)
    (H : Vec F S2048x4096 .bf16) (W : Vec F S512x4096 .f32) (gq gk : Vec F S1x128 .f32) (E : Set ℕ) (K : PUnit → sProp 𝕄) :
    iprop(owns (c : Thread nD τ) arg1 fullShare H ∗ owns (c : Thread nD τ) arg2 fullShare W ∗ owns (c : Thread nD τ) arg3 fullShare gq ∗ owns (c : Thread nD τ) arg4 fullShare gk ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare H ∗ owns (c : Thread nD τ) arg2 fullShare W ∗ owns (c : Thread nD τ) arg3 fullShare gq ∗ owns (c : Thread nD τ) arg4 fullShare gk
            ∗ owns (c : Thread nD τ) arg5 fullShare (outBlk (epi gq gk .q) H zeroBlk)
            ∗ owns (c : Thread nD τ) arg6 fullShare (castBlk W) ∗ (∃ d, owns (c : Thread nD τ) arg7 fullShare d)) -∗ K ⟨⟩))
      ⊢ wp frame (wpE (defs₀ (F := F)) Variants.none c none) E (cc0_proj_fox i arg1 harg1 arg2 harg2 arg3 harg3 arg4 harg4 arg5 harg5 arg6 harg6 arg7 harg7) K := by
  simp only [cc0_proj_fox_eq_skeleton]; unfold cc0_proj_fox_skel
  rw [k0_part145_eq_skeleton, wp_bind]
  unfold k0_part145_skel
  extract_lets
  rw [dif_pos hc0]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  generalize hF : arg7.view.writes (Elt F) f7 _ = f7'
  simp +zetaDelta only [k0_part145_eq_skeleton, k0_part146_eq_skeleton, k0_part147_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  obtain ⟨hc2, hc3, hc4, hc5, hc6, hc7⟩ := hs
  simp at hc2 hc3 hc4 hc5 hc6 hc7
  sl_exec (disch := first | sl_exact hc2 | sl_exact hc3 | sl_exact hc4 | sl_exact hc5 | sl_exact hc6 | sl_exact hc7)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    have hz : View.read (Elt F) arg7.view f7' = zeroBlk (F := F) := by rw [← hF]; exact read_zeroBlk _ _
    rw [← hz]
    exact read_outBlk (F := F) _ _ _ _ _ _ _ _ _ _ _ _ _ rfl rfl rfl rfl rfl rfl rfl rfl
  isplitl [H6]
  · iexists _; isplitr
    swap; · iexact H6
    ipureintro
    exact read_castBlk (F := F) _ _ _ _ _ _ _ _ _ _ _ _ _ _ _ _ _ _ _ rfl rfl rfl rfl rfl rfl rfl rfl rfl rfl rfl rfl rfl rfl rfl rfl
  · iexists (View.read (Elt F) arg7.view f7'), f7'; isplitr; · ipureintro; rfl
    iexact H7

end Cert.Kernel7Ideal.Hand

end
-- ==== Proof.FoxRunEven.lean ====
/- The body at an even point after the first. -/
module

public import proofs.«01_k».proof.Proof.FoxBlocks

@[expose] public section

set_option maxRecDepth 16384

noncomputable section

namespace Cert.Kernel7Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel7Ideal Cert.Kernel7Ideal.Gen Cert.Tiles

variable {F : FTy → Type} [FloatOps F] [Named F]

local notation "𝕄" => MT nD τ sig Unit (Elt F) ℕ (UR sig nD τ) ℕ

set_option maxHeartbeats 2000000 in
/-- The body at an even point after the first: the output block is its section's tiles over the second scratch, and the
    first scratch ends with the weight block transposed. -/
theorem run_even (c : Dev nD) (i : grid0.Coords) (s : Sec) (arg1 : Memref sig .tc .vmem S2048x4096 .bf16) (harg1 : arg1.IsWhole)
    (arg2 : Memref sig .tc .vmem S512x4096 .f32) (harg2 : arg2.IsWhole) (arg3 : Memref sig .tc .vmem S1x128 .f32) (harg3 : arg3.IsWhole) (arg4 : Memref sig .tc .vmem S1x128 .f32) (harg4 : arg4.IsWhole)
    (arg5 : Memref sig .tc .vmem S2048x512 .bf16) (harg5 : arg5.IsWhole)
    (arg6 : Memref sig .tc .vmem S4096x512 .bf16) (harg6 : arg6.IsWhole) (arg7 : Memref sig .tc .vmem S4096x512 .bf16) (harg7 : arg7.IsWhole)
    (hc0 : ¬(Scalar.cmpi .ne (Scalar.extui (Scalar.cmpi .eq (BitVec.ofNat 32 (i 0).val) 0#32)) 0#32) = 1#1) (hs : Turn i s false)
    (H : Vec F S2048x4096 .bf16) (W : Vec F S512x4096 .f32) (gq gk : Vec F S1x128 .f32) (B : Vec F S4096x512 .bf16) (E : Set ℕ) (K : PUnit → sProp 𝕄) :
    iprop(owns (c : Thread nD τ) arg1 fullShare H ∗ owns (c : Thread nD τ) arg2 fullShare W ∗ owns (c : Thread nD τ) arg3 fullShare gq ∗ owns (c : Thread nD τ) arg4 fullShare gk ∗ (∃ d, owns (c : Thread nD τ) arg5 fullShare d)
        ∗ (∃ d, owns (c : Thread nD τ) arg6 fullShare d) ∗ owns (c : Thread nD τ) arg7 fullShare B
        ∗ (iprop(owns (c : Thread nD τ) arg1 fullShare H ∗ owns (c : Thread nD τ) arg2 fullShare W ∗ owns (c : Thread nD τ) arg3 fullShare gq ∗ owns (c : Thread nD τ) arg4 fullShare gk
            ∗ owns (c : Thread nD τ) arg5 fullShare (outBlk (epi gq gk s) H B)
            ∗ owns (c : Thread nD τ) arg6 fullShare (castBlk W) ∗ owns (c : Thread nD τ) arg7 fullShare B) -∗ K ⟨⟩))
      ⊢ wp frame (wpE (defs₀ (F := F)) Variants.none c none) E (cc0_proj_fox i arg1 harg1 arg2 harg2 arg3 harg3 arg4 harg4 arg5 harg5 arg6 harg6 arg7 harg7) K := by
  obtain ⟨hc2, hc3, hc4, hc5, hc6, hc7⟩ := hs
  simp only [cc0_proj_fox_eq_skeleton]; unfold cc0_proj_fox_skel
  cases s
  case' q => simp only [k0_part145_eq_skeleton, k0_part146_eq_skeleton, k0_part147_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  case' k => simp only [k0_part145_eq_skeleton, k0_part146_eq_skeleton, k0_part147_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton]
  case' v => simp only [k0_part145_eq_skeleton, k0_part146_eq_skeleton, k0_part147_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton]
  all_goals
  simp at hc2 hc3 hc4 hc5 hc6 hc7
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  subst hf1 hf2 hf3 hf4 hf7
  sl_exec (disch := first | sl_exact hc0 | sl_exact hc2 | sl_exact hc3 | sl_exact hc4 | sl_exact hc5 | sl_exact hc6 | sl_exact hc7)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    exact read_outBlk _ _ _ _ _ _ _ _ _ _ _ _ _ rfl rfl rfl rfl rfl rfl rfl rfl
  isplitl [H6]
  · iexists _; isplitr
    swap; · iexact H6
    ipureintro
    exact read_castBlk _ _ _ _ _ _ _ _ _ _ _ _ _ _ _ _ _ _ _ rfl rfl rfl rfl rfl rfl rfl rfl rfl rfl rfl rfl rfl rfl rfl rfl
  · iexists _; isplitr; · ipureintro; rfl
    iexact H7

end Cert.Kernel7Ideal.Hand

end
-- ==== Proof.FoxRunOdd.lean ====
/- The body at an odd point. -/
module

public import proofs.«01_k».proof.Proof.FoxBlocks

@[expose] public section

set_option maxRecDepth 16384

noncomputable section

namespace Cert.Kernel7Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel7Ideal Cert.Kernel7Ideal.Gen Cert.Tiles

variable {F : FTy → Type} [FloatOps F] [Named F]

local notation "𝕄" => MT nD τ sig Unit (Elt F) ℕ (UR sig nD τ) ℕ

set_option maxHeartbeats 2000000 in
/-- The body at an odd point: the output block is its section's tiles over the first scratch, and the second scratch ends
    with the weight block transposed. -/
theorem run_odd (c : Dev nD) (i : grid0.Coords) (s : Sec) (arg1 : Memref sig .tc .vmem S2048x4096 .bf16) (harg1 : arg1.IsWhole)
    (arg2 : Memref sig .tc .vmem S512x4096 .f32) (harg2 : arg2.IsWhole) (arg3 : Memref sig .tc .vmem S1x128 .f32) (harg3 : arg3.IsWhole) (arg4 : Memref sig .tc .vmem S1x128 .f32) (harg4 : arg4.IsWhole)
    (arg5 : Memref sig .tc .vmem S2048x512 .bf16) (harg5 : arg5.IsWhole)
    (arg6 : Memref sig .tc .vmem S4096x512 .bf16) (harg6 : arg6.IsWhole) (arg7 : Memref sig .tc .vmem S4096x512 .bf16) (harg7 : arg7.IsWhole)
    (hc0 : ¬(Scalar.cmpi .ne (Scalar.extui (Scalar.cmpi .eq (BitVec.ofNat 32 (i 0).val) 0#32)) 0#32) = 1#1) (hs : Turn i s true)
    (H : Vec F S2048x4096 .bf16) (W : Vec F S512x4096 .f32) (gq gk : Vec F S1x128 .f32) (B : Vec F S4096x512 .bf16) (E : Set ℕ) (K : PUnit → sProp 𝕄) :
    iprop(owns (c : Thread nD τ) arg1 fullShare H ∗ owns (c : Thread nD τ) arg2 fullShare W ∗ owns (c : Thread nD τ) arg3 fullShare gq ∗ owns (c : Thread nD τ) arg4 fullShare gk ∗ (∃ d, owns (c : Thread nD τ) arg5 fullShare d)
        ∗ owns (c : Thread nD τ) arg6 fullShare B ∗ (∃ d, owns (c : Thread nD τ) arg7 fullShare d)
        ∗ (iprop(owns (c : Thread nD τ) arg1 fullShare H ∗ owns (c : Thread nD τ) arg2 fullShare W ∗ owns (c : Thread nD τ) arg3 fullShare gq ∗ owns (c : Thread nD τ) arg4 fullShare gk
            ∗ owns (c : Thread nD τ) arg5 fullShare (outBlk (epi gq gk s) H B)
            ∗ owns (c : Thread nD τ) arg6 fullShare B ∗ owns (c : Thread nD τ) arg7 fullShare (castBlk W)) -∗ K ⟨⟩))
      ⊢ wp frame (wpE (defs₀ (F := F)) Variants.none c none) E (cc0_proj_fox i arg1 harg1 arg2 harg2 arg3 harg3 arg4 harg4 arg5 harg5 arg6 harg6 arg7 harg7) K := by
  obtain ⟨hc2, hc3, hc4, hc5, hc6, hc7⟩ := hs
  simp only [cc0_proj_fox_eq_skeleton]; unfold cc0_proj_fox_skel
  cases s
  case' q => simp only [k0_part145_eq_skeleton, k0_part146_eq_skeleton, k0_part147_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
  case' k => simp only [k0_part145_eq_skeleton, k0_part146_eq_skeleton, k0_part147_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton]
  case' v => simp only [k0_part145_eq_skeleton, k0_part146_eq_skeleton, k0_part147_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton]
  all_goals
  simp at hc2 hc3 hc4 hc5 hc6 hc7
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, Hk⟩
  subst hf1 hf2 hf3 hf4 hf6
  sl_exec (disch := first | sl_exact hc0 | sl_exact hc2 | sl_exact hc3 | sl_exact hc4 | sl_exact hc5 | sl_exact hc6 | sl_exact hc7)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    exact read_outBlk _ _ _ _ _ _ _ _ _ _ _ _ _ rfl rfl rfl rfl rfl rfl rfl rfl
  isplitl [H6]
  · iexists _; isplitr; · ipureintro; rfl
    iexact H6
  · iexists _; isplitr
    swap; · iexact H7
    ipureintro
    exact read_castBlk _ _ _ _ _ _ _ _ _ _ _ _ _ _ _ _ _ _ _ rfl rfl rfl rfl rfl rfl rfl rfl rfl rfl rfl rfl rfl rfl rfl rfl

end Cert.Kernel7Ideal.Hand

end
-- ==== Proof.FoxBody.lean ====
/- The invariant between the points, the body at every point, and the run of the program with its frame. -/
module

public import proofs.«01_k».proof.Proof.FoxRunFirst
public import proofs.«01_k».proof.Proof.FoxRunEven
public import proofs.«01_k».proof.Proof.FoxRunOdd

@[expose] public section

set_option maxRecDepth 16384

noncomputable section

namespace Cert.Kernel7Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen Cert.Tiles

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which branch a point takes -/

/-- The section of the columns that point `t` multiplies. -/
def secAt (t : ℕ) : Sec := if (t - 1) % 12 < 4 then .q else if (t - 1) % 12 < 8 then .k else .v

/-- The first point alone fills the second scratch. -/
theorem first_iff : ∀ t : Fin cfg0.N, (Scalar.cmpi .ne (Scalar.extui (Scalar.cmpi .eq (BitVec.ofNat 32 (grid0.coords t 0).val) 0#32)) 0#32) = 1#1 ↔ t.val = 0 :=
  (by decide +kernel : ∀ t : Fin grid0.N, (Scalar.cmpi .ne (Scalar.extui (Scalar.cmpi .eq (BitVec.ofNat 32 (grid0.coords t 0).val) 0#32)) 0#32) = 1#1 ↔ t.val = 0)

/-- Every point takes the branch of its section and its parity. -/
theorem turn (t : Fin cfg0.N) : Turn (grid0.coords t) (secAt t.val) (decide (t.val % 2 = 1)) :=
  ⟨(by decide +kernel : ∀ t : Fin grid0.N, k0_cond2 (grid0.coords t) = 1#1 ↔ secAt t.val = .q ∧ decide (t.val % 2 = 1) = false) t,
   (by decide +kernel : ∀ t : Fin grid0.N, k0_cond3 (grid0.coords t) = 1#1 ↔ secAt t.val = .q ∧ decide (t.val % 2 = 1) = true) t,
   (by decide +kernel : ∀ t : Fin grid0.N, k0_cond4 (grid0.coords t) = 1#1 ↔ secAt t.val = .k ∧ decide (t.val % 2 = 1) = false) t,
   (by decide +kernel : ∀ t : Fin grid0.N, k0_cond5 (grid0.coords t) = 1#1 ↔ secAt t.val = .k ∧ decide (t.val % 2 = 1) = true) t,
   (by decide +kernel : ∀ t : Fin grid0.N, k0_cond6 (grid0.coords t) = 1#1 ↔ secAt t.val = .v ∧ decide (t.val % 2 = 1) = false) t,
   (by decide +kernel : ∀ t : Fin grid0.N, k0_cond7 (grid0.coords t) = 1#1 ↔ secAt t.val = .v ∧ decide (t.val % 2 = 1) = true) t⟩

/-- At an even point. -/
theorem turn_even (t : Fin cfg0.N) (h : t.val % 2 = 0) : Turn (grid0.coords t) (secAt t.val) false := by
  have := turn t; rwa [show decide (t.val % 2 = 1) = false by simp [h]] at this
/-- At an odd point. -/
theorem turn_odd (t : Fin cfg0.N) (h : t.val % 2 = 1) : Turn (grid0.coords t) (secAt t.val) true := by
  have := turn t; rwa [show decide (t.val % 2 = 1) = true by simp [h]] at this

/-- No window is idle at any point. -/
theorem live (w : Fin cfg0.W) (t : Fin cfg0.N) : cfg0.idle w (grid0.coords t) = false := by
  revert t
  fin_cases w
  · exact fun _ => rfl
  · exact fun _ => rfl
  · exact fun _ => rfl
  · exact fun _ => rfl
  · exact (by decide +kernel : ∀ t : Fin grid0.N, cfg0.idle 4 (grid0.coords t) = false)

/-! ## What the points leave -/

/-- The activations' block at point `t`. -/
abbrev hAt (c : Dev nD) (t : Fin cfg0.N) : Vec F S2048x4096 .bf16 := iblk m c 0 t
/-- The weights' block at point `t`. -/
abbrev wAt (c : Dev nD) (t : Fin cfg0.N) : Vec F S512x4096 .f32 := iblk m c 1 t

/-- The queries' gains at point `t`. -/
abbrev gqAt (c : Dev nD) (t : Fin cfg0.N) : Vec F S1x128 .f32 := iblk m c 2 t
/-- The keys' gains at point `t`. -/
abbrev gkAt (c : Dev nD) (t : Fin cfg0.N) : Vec F S1x128 .f32 := iblk m c 3 t

/-- The weights that point `n` multiplies: the ones the point before transposed; zeros at the first. -/
def wbAt (c : Dev nD) : (n : ℕ) → n < cfg0.N → Vec F S4096x512 .bf16
  | 0, _ => zeroBlk
  | n + 1, h => castBlk (wAt m c ⟨n, Nat.lt_of_succ_lt h⟩)

/-- The output block of point `t`. -/
def outAt (c : Dev nD) (t : Fin cfg0.N) : Vec F S2048x512 .bf16 := outBlk (epi (gqAt m c t) (gkAt m c t) (secAt t.val)) (hAt m c t) (wbAt m c t.val t.isLt)

/-- The two scratches. -/
abbrev sc0 : Memref sig .tc .vmem S4096x512 .bf16 := Memref.whole cc0_scratch0
abbrev sc1 : Memref sig .tc .vmem S4096x512 .bf16 := Memref.whole cc0_scratch1

/-- The invariant: before the first point the scratches hold anything; after point `n` the one of `n`'s parity holds
    that point's weights transposed. -/
def PhiS (c : Dev nD) : (n : ℕ) → n ≤ cfg0.N → sProp 𝕄
  | 0, _ => iprop(iprop((∃ d, owns (c : Thread nD τ) sc0 fullShare d) ∗ (∃ d, owns (c : Thread nD τ) sc1 fullShare d)) ∗ (∃ r, prngReg c r))
  | n + 1, h => if n % 2 = 0
      then iprop(iprop(owns (c : Thread nD τ) sc0 fullShare (castBlk (wAt m c ⟨n, h⟩)) ∗ (∃ d, owns (c : Thread nD τ) sc1 fullShare d)) ∗ (∃ r, prngReg c r))
      else iprop(iprop((∃ d, owns (c : Thread nD τ) sc0 fullShare d) ∗ owns (c : Thread nD τ) sc1 fullShare (castBlk (wAt m c ⟨n, h⟩))) ∗ (∃ r, prngReg c r))

/-- The invariant after an even point. -/
theorem PhiS_even (c : Dev nD) (n : ℕ) (h : n + 1 ≤ cfg0.N) (hp : n % 2 = 0) : PhiS m c (n + 1) h
    = iprop(iprop(owns (c : Thread nD τ) sc0 fullShare (castBlk (wAt m c ⟨n, h⟩)) ∗ (∃ d, owns (c : Thread nD τ) sc1 fullShare d)) ∗ (∃ r, prngReg c r)) :=
  if_pos hp

/-- The invariant after an odd point. -/
theorem PhiS_odd (c : Dev nD) (n : ℕ) (h : n + 1 ≤ cfg0.N) (hp : ¬n % 2 = 0) : PhiS m c (n + 1) h
    = iprop(iprop((∃ d, owns (c : Thread nD τ) sc0 fullShare d) ∗ owns (c : Thread nD τ) sc1 fullShare (castBlk (wAt m c ⟨n, h⟩))) ∗ (∃ r, prngReg c r)) :=
  if_neg hp

/-- What the launch hands over, spelt with the two scratches. -/
theorem PhiA_eq (c : Dev nD) : (Pipeline.ΦA spec0 c : sProp 𝕄)
    = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The proof data: the arrays as the region finds them, the blocks each point leaves, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem Phi_at (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What a window's buffer is left with is its block after the body. -/
theorem leaves (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w t]

/-! ## The body -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t)

set_option maxHeartbeats 1000000 in
/-- The body at any point: the first point, an even one after it, or an odd one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [leaves m c 0, leaves m c 1, leaves m c 2, leaves m c 3, leaves m c 4, after_0, after_1, after_2, after_3, after_4,
    show (dats m 0 c).owesAt () t.succ = (dats m 0 c).owesAt () t.castSucc from rfl,
    show (dats m 0 c).Φ t.succ = PhiS m c (t.val + 1) t.isLt from rfl, Phi_at]
  obtain ⟨n, hn⟩ := t
  unfold outAt
  match n, hn with
  | 0, hn =>
    have hf := (first_iff ⟨0, hn⟩).mpr rfl
    have ht := turn_even ⟨0, hn⟩ rfl
    rw [PhiS_even m c 0 hn rfl]
    unfold PhiS
    iintro ⟨⟨⟨HS0, HS1⟩, Hg⟩, Ho, ⟨%d0, H0⟩, ⟨%d1, H1⟩, ⟨%d2, H2⟩, ⟨%d3, H3⟩, ⟨%d4, H4⟩⟩
    iapply (run_first c (grid0.coords ⟨0, hn⟩) _ _ _ _ _ _ _ _ _ _ _ _ _ _ hf ht (hAt m c ⟨0, hn⟩) (wAt m c ⟨0, hn⟩) (gqAt m c ⟨0, hn⟩) (gkAt m c ⟨0, hn⟩) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    iexact H4
  | n + 1, hn =>
    have hf : ¬_ := fun h => Nat.succ_ne_zero n ((first_iff ⟨n + 1, hn⟩).mp h)
    rcases Nat.mod_two_eq_zero_or_one n with hp | hp
    · have ht := turn_odd ⟨n + 1, hn⟩ (by show (n + 1) % 2 = 1; omega)
      rw [PhiS_odd m c (n + 1) hn (by omega), PhiS_even m c n _ hp]
      iintro ⟨⟨⟨HS0, HS1⟩, Hg⟩, Ho, ⟨%d0, H0⟩, ⟨%d1, H1⟩, ⟨%d2, H2⟩, ⟨%d3, H3⟩, ⟨%d4, H4⟩⟩
      iapply (run_odd c (grid0.coords ⟨n + 1, hn⟩) (secAt (n + 1)) _ _ _ _ _ _ _ _ _ _ _ _ _ _ hf ht (hAt m c ⟨n + 1, hn⟩) (wAt m c ⟨n + 1, hn⟩) (gqAt m c ⟨n + 1, hn⟩) (gkAt m c ⟨n + 1, hn⟩) _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexists _; iexact HS0
          iexact HS1
        iexact Hg
      isplitl [Ho]; · iexact Ho
      isplitl [H0]; · iexact H0
      isplitl [H1]; · iexact H1
      isplitl [H2]; · iexact H2
      isplitl [H3]; · iexact H3
      iexact H4
    · have ht := turn_even ⟨n + 1, hn⟩ (by show (n + 1) % 2 = 0; omega)
      rw [PhiS_even m c (n + 1) hn (by omega), PhiS_odd m c n _ (by omega)]
      iintro ⟨⟨⟨HS0, HS1⟩, Hg⟩, Ho, ⟨%d0, H0⟩, ⟨%d1, H1⟩, ⟨%d2, H2⟩, ⟨%d3, H3⟩, ⟨%d4, H4⟩⟩
      iapply (run_even c (grid0.coords ⟨n + 1, hn⟩) (secAt (n + 1)) _ _ _ _ _ _ _ _ _ _ _ _ _ _ hf ht (hAt m c ⟨n + 1, hn⟩) (wAt m c ⟨n + 1, hn⟩) (gqAt m c ⟨n + 1, hn⟩) (gkAt m c ⟨n + 1, hn⟩) _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexists _; iexact HS1
        iexact Hg
      isplitl [Ho]; · iexact Ho
      isplitl [H0]; · iexact H0
      isplitl [H1]; · iexact H1
      isplitl [H2]; · iexact H2
      isplitl [H3]; · iexact H3
      iexact H4

/-! ## The run -/

/-- The body table's row at a point's slots is the body there. -/
theorem row (t : Fin cfg0.N) : defs₀ (F := F) .tc cfg0.body (cfg0.bodyArgs t (cfg0.slots t)) = bodyAt0 t := by
  unfold defs₀; rw [Defs.onTc_tc]

/-- The obligation of the pipeline's rule. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-- The launch establishes the invariant. -/
theorem hin (c : Dev nD) : Pipeline.ΦA spec0 c ⊢ (dats m 0 c).Φ 0 := by
  rw [show (dats m 0 c).Φ 0 = PhiS m c 0 (Nat.zero_le _) from rfl, PhiA_eq]
  exact Idealize.SL.BI.Entails.refl _

/-- The invariant at the end gives the scratches back. -/
theorem hout (c : Dev nD) : (dats m 0 c).Φ (Fin.last cfg0.N) ⊢ Pipeline.ΦA spec0 c := by
  rw [show (dats m 0 c).Φ (Fin.last cfg0.N) = PhiS m c (48 + 1) (by decide) from rfl, PhiA_eq, PhiS_even m c 48 _ rfl]
  iintro ⟨⟨HS0, HS1⟩, Hg⟩
  isplitl [HS0 HS1]
  · isplitl [HS0]
    · iexists _; iexact HS0
    iexact HS1
  iexact Hg

set_option backward.isDefEq.respectTransparency.types false in
/-- The program runs to its end, every array as the proof data says, every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged, the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Kernel7Ideal.Hand

end
-- ==== Proof.FoxValue.lean ====
/- The values at the ideal instance: one point's output block as a product of matrices, each head of the queries and the
   keys normalised. -/
module

public import proofs.«01_k».proof.Proof.FoxBlocks
public import proofs.«01_k».proof.Proof.Chunks

@[expose] public section

set_option maxRecDepth 16384

noncomputable section

namespace Cert.Kernel7Ideal.Hand

open Idealize.ShloMosaic Idealize.SL.Sem
open Cert.Kernel7Ideal Cert.Kernel7Ideal.Gen Cert.Tiles

/-- One chunk's product at a place. -/
theorem part_apply (H : Vec Ideal S2048x4096 .bf16) (B : Vec Ideal S4096x512 .bf16) (i : Fin 4) (j : Fin 2) (c : Fin 16) (r : Fin 512) (n : Fin 256) :
    part H B i j c (ix2 r n) = ∑ k : Fin 256, (H (ix2 ⟨512 * i.val + r.val, chunk_lt rfl i r⟩ ⟨256 * c.val + k.val, chunk_lt rfl c k⟩) : EReal)
      * B (ix2 ⟨256 * c.val + k.val, chunk_lt rfl c k⟩ ⟨256 * j.val + n.val, chunk_lt rfl j n⟩) := by
  unfold part
  pointwise
  refine Finset.sum_congr rfl fun k _ => ?_
  rw [tile_apply, tile_apply]

/-- The chunks added up to the `n`-th, at a place. -/
theorem accN_apply (H : Vec Ideal S2048x4096 .bf16) (B : Vec Ideal S4096x512 .bf16) (i : Fin 4) (j : Fin 2) (x : S512x256.Idx) :
    ∀ n : ℕ, (accN H B i j n x : EReal) = ∑ c ∈ Finset.range (n + 1), (part H B i j (Fin.ofNat 16 c) x : EReal)
  | 0 => by rw [Finset.sum_range_one]; rfl
  | n + 1 => by
    rw [Finset.sum_range_succ, ← accN_apply H B i j x n]; rfl

/-- The product of the blocks at a place. -/
theorem acc_apply (H : Vec Ideal S2048x4096 .bf16) (B : Vec Ideal S4096x512 .bf16) (i : Fin 4) (j : Fin 2) (r : Fin 512) (n : Fin 256) :
    acc H B i j (ix2 r n) = ∑ k : Fin 4096, (H (ix2 ⟨512 * i.val + r.val, chunk_lt rfl i r⟩ k) : EReal)
      * B (ix2 k ⟨256 * j.val + n.val, chunk_lt rfl j n⟩) := by
  refine Eq.trans ?_ (sum_chunks (p := 16) (b := 256) (n := 4096) rfl fun k => (H (ix2 ⟨512 * i.val + r.val, chunk_lt rfl i r⟩ k) : EReal)
      * B (ix2 k ⟨256 * j.val + n.val, chunk_lt rfl j n⟩))
  refine Eq.trans ?_ (Finset.sum_congr rfl fun c _ => part_apply H B i j c r n)
  exact (accN_apply H B i j (ix2 r n) 15).trans (Fin.sum_univ_eq_sum_range (fun c => (part H B i j (Fin.ofNat 16 c) (ix2 r n) : EReal)) 16).symm |>.trans
    (Finset.sum_congr rfl fun c _ => by rw [Fin.ofNat_val_eq_self])

/-- The reciprocal root of a head's mean square. -/
def rms (a : Fin 128 → EReal) : EReal :=
  Ideal.rsqrt (Ideal.div (∑ d, a d * a d) (Ideal.ofBits .f32 0x43000000#32) + Ideal.ofBits .f32 0x358637BD#32)

/-- The section's last step on one head: its numbers, the gains, the place in the head. -/
def fin (gq gk : Fin 128 → EReal) : Sec → (Fin 128 → EReal) → Fin 128 → EReal
  | .q, a, d => a d * rms a * gq d * ((Real.sqrt 128)⁻¹ * (Real.log 2)⁻¹ : ℝ)
  | .k, a, d => a d * rms a * gk d
  | .v, a, d => a d

/-- The row of gains. -/
def row1 (g : Vec Ideal S1x128 .f32) (d : Fin 128) : EReal := g (ix2 0 d)

/-- The scale is the value its name stands for. -/
theorem scale_named : Named.named (F := Ideal) κ "q_scale" (φ := .f32) 0x3E0293EE#32 = (((Real.sqrt 128)⁻¹ * (Real.log 2)⁻¹ : ℝ) : EReal) :=
  IdealRules.named_const.ideal_named_scalar _ _ _ _ rfl

/-- The row of gains as the body loads it. -/
theorem tile_row1 (g : Vec Ideal S1x128 .f32) (d : Fin 128) :
    (tile (p0 := 1) (p1 := 1) (b0 := 1) (b1 := 128) rfl rfl g 0 0 (ix2 0 d) : EReal) = row1 g d :=
  (tile_apply (p0 := 1) (p1 := 1) (b0 := 1) (b1 := 128) rfl rfl g 0 0 0 d).trans
    (congrArg (fun z => (g (ix2 0 z) : EReal)) (Fin.ext (Nat.zero_add d.val)))

/-- The queries' epilogue at a place. -/
theorem epiQ_apply (gq gk : Vec Ideal S1x128 .f32) (a : FVec Ideal S512x256 .f32) (r : Fin 512) (e : Fin 2) (d : Fin 128) :
    (epiQ gq a (ix2 r ⟨128 * e.val + d.val, by omega⟩) : EReal)
      = fin (row1 gq) (row1 gk) .q (fun d' => a (ix2 r ⟨128 * e.val + d'.val, by omega⟩)) d := by
  unfold epiQ
  fin_cases e
  all_goals
    pointwise [k0_pay34]
    rw [tile_row1, scale_named]
    rfl

/-- The keys' epilogue at a place. -/
theorem epiK_apply (gq gk : Vec Ideal S1x128 .f32) (a : FVec Ideal S512x256 .f32) (r : Fin 512) (e : Fin 2) (d : Fin 128) :
    (epiK gk a (ix2 r ⟨128 * e.val + d.val, by omega⟩) : EReal)
      = fin (row1 gq) (row1 gk) .k (fun d' => a (ix2 r ⟨128 * e.val + d'.val, by omega⟩)) d := by
  unfold epiK
  fin_cases e
  all_goals
    pointwise [k0_pay194]
    rw [tile_row1]
    rfl

/-- The place of a head's number in a row of a tile. -/
theorem head_lt {n m : ℕ} (h : n < 128 * m) (d : Fin 128) : 128 * (n / 128) + d.val < 128 * m := by omega

/-- A section's epilogue at a place. -/
theorem epi_apply (s : Sec) (gq gk : Vec Ideal S1x128 .f32) (a : FVec Ideal S512x256 .f32) (r : Fin 512) (n : Fin 256) :
    (epi gq gk s a (ix2 r n) : EReal)
      = fin (row1 gq) (row1 gk) s (fun d' => a (ix2 r ⟨128 * (n.val / 128) + d'.val, head_lt (m := 2) n.isLt d'⟩)) ⟨n.val % 128, Nat.mod_lt _ (by decide)⟩ := by
  have he : n.val / 128 < 2 := Nat.div_lt_of_lt_mul n.isLt
  have e : n = ⟨128 * (n.val / 128) + n.val % 128, by omega⟩ := Fin.ext (Nat.div_add_mod n.val 128).symm
  cases s
  · exact (congrArg (fun n => (epiQ gq a (ix2 r n) : EReal)) e).trans (epiQ_apply gq gk a r ⟨n.val / 128, he⟩ ⟨n.val % 128, Nat.mod_lt _ (by decide)⟩)
  · exact (congrArg (fun n => (epiK gk a (ix2 r n) : EReal)) e).trans (epiK_apply gq gk a r ⟨n.val / 128, he⟩ ⟨n.val % 128, Nat.mod_lt _ (by decide)⟩)
  · exact congrArg (fun n => (a (ix2 r n) : EReal)) e

/-- A point's output block at a place. -/
theorem outBlk_apply (s : Sec) (gq gk : Vec Ideal S1x128 .f32) (H : Vec Ideal S2048x4096 .bf16) (B : Vec Ideal S4096x512 .bf16) (y : S2048x512.Idx) :
    (outBlk (epi gq gk s) H B y : EReal) = fin (row1 gq) (row1 gk) s
      (fun d => ∑ k : Fin 4096, (H (ix2 (y 0) k) : EReal) * B (ix2 k ⟨128 * ((y 1).val / 128) + d.val, head_lt (m := 4) (y 1).isLt d⟩))
      ⟨(y 1).val % 128, Nat.mod_lt _ (by decide)⟩ :=
  ofTiles_eq (p0 := 4) (p1 := 2) (b0 := 512) (b1 := 256) (n0 := 2048) (n1 := 512) rfl rfl _
    (fun r n => fin (row1 gq) (row1 gk) s
      (fun d => ∑ k : Fin 4096, (H (ix2 r k) : EReal) * B (ix2 k ⟨128 * (n.val / 128) + d.val, head_lt (m := 4) n.isLt d⟩))
      ⟨n.val % 128, Nat.mod_lt _ (by decide)⟩)
    (fun i j r n => by
      have hj := j.isLt
      have hn := n.isLt
      refine (epi_apply s gq gk _ _ _).trans ?_
      refine congrArg₂ (fin (row1 gq) (row1 gk) s) (funext fun d => (acc_apply H B i j r _).trans ?_) (Fin.ext ?_)
      · refine Finset.sum_congr rfl fun k _ => congrArg (fun z => (H (ix2 _ k) : EReal) * B (ix2 k z)) (Fin.ext ?_)
        show 256 * j.val + (128 * (n.val / 128) + d.val) = 128 * ((256 * j.val + n.val) / 128) + d.val
        omega
      · show n.val % 128 = (256 * j.val + n.val) % 128
        omega) y

/-- The transposed block at a place. -/
theorem castBlk_apply (W : Vec Ideal S512x4096 .f32) (y : S4096x512.Idx) : (castBlk W y : EReal) = W (ix2 (y 1) (y 0)) :=
  ofTiles_eq (p0 := 16) (p1 := 1) (b0 := 256) (b1 := 512) (n0 := 4096) (n1 := 512) rfl rfl _
    (fun k n => W (ix2 n k)) (fun c z k n => by
      unfold castTile
      pointwise [k0_pay1]
      rw [tile_apply]
      blk_ext) y

end Cert.Kernel7Ideal.Hand

end
-- ==== Proof.FoxFinal.lean ====
/- The array the program leaves, at the ideal instance. -/
module

public import proofs.«01_k».proof.Proof.FoxBody
public import proofs.«01_k».proof.Proof.FoxValue

@[expose] public section

set_option maxRecDepth 16384

noncomputable section

namespace Cert.Kernel7Ideal.Hand

open Idealize.ShloMosaic Idealize.ShloMosaic.TcCoe Idealize.SL.Sem
open Idealize.ShloMosaic.Pipeline (Dat)
open Cert.Kernel7Ideal Cert.Kernel7Ideal.Gen Cert.Tiles

variable (m : (ℓ : Loc nD τ sig) → Buf (Elt Ideal) ℓ)

/-- The section of a column of the result. -/
def secOf (n : ℕ) : Sec := if n < 2048 then .q else if n < 4096 then .k else .v

/-- What the program computes: the first 6144 columns of the projection, each head of each section finished in its way. -/
def G (H : Vec Ideal S8192x4096 .bf16) (W : Vec Ideal S1x4096x20496 .f32) (gq gk : Vec Ideal S1x128 .f32) (y : S8192x6144.Idx) : EReal :=
  fin (row1 gq) (row1 gk) (secOf (y 1).val)
    (fun d => ∑ k : Fin 4096, (H (ix2 (y 0) k) : EReal) * W (ix3 0 k ⟨128 * ((y 1).val / 128) + d.val, by
      have := (y 1).isLt; have : S8192x6144.size 1 = 6144 := rfl; omega⟩))
    ⟨(y 1).val % 128, Nat.mod_lt _ (by decide)⟩

/-- Where the windows' blocks sit at a point after the first. -/
theorem idx : ∀ t : Fin cfg0.N, t.val ≠ 0 → win0_0.index t = ![(t.val - 1) / 12, 0] ∧ win0_4.index t = ![(t.val - 1) / 12, (t.val - 1) % 12] :=
  (by decide +kernel : ∀ t : Fin grid0.N, t.val ≠ 0 → win0_0.index t = ![(t.val - 1) / 12, 0] ∧ win0_4.index t = ![(t.val - 1) / 12, (t.val - 1) % 12])

/-- Where the weights' block sits at a point before the last. -/
theorem idxW : ∀ t : Fin cfg0.N, t.val ≠ 48 → win0_1.index t = ![512 * (t.val % 12), 0] :=
  (by decide +kernel : ∀ t : Fin grid0.N, t.val ≠ 48 → win0_1.index t = ![512 * (t.val % 12), 0])

/-- The first point's block is not written back. -/
theorem flush_pos : ∀ t : Fin cfg0.N, (cfg0.win 4).flush t = true → t.val ≠ 0 :=
  (by decide +kernel : ∀ t : Fin grid0.N, (cfg0.win 4).flush t = true → t.val ≠ 0)

/-- The weights' array as the region finds it: the transpose of the argument. -/
theorem entry_w (c : Dev nD) (x : S20496x4096.Idx) : V m c main_v1 x = m ((c : Thread nD τ).loc main_arg1) (ix3 0 (x 1) (x 0)) := by
  entry_read
  pointwise

/-- A column's section is its point's. -/
theorem sec_eq (t n : ℕ) (h : n < 512) : secOf (512 * ((t - 1) % 12) + n) = secAt t := by
  unfold secOf secAt
  have : (t - 1) % 12 < 12 := Nat.mod_lt _ (by decide)
  split_ifs <;> first | rfl | omega

/-- The activations' block at a point after the first, at a place. -/
theorem h_read (c : Dev nD) (t : Fin cfg0.N) (ht : t.val ≠ 0) (r : Fin 2048) (k : Fin 4096) (h : 2048 * ((t.val - 1) / 12) + r.val < 8192) :
    hAt m c t (ix2 r k) = m ((c : Thread nD τ).loc main_arg0) (ix2 ⟨2048 * ((t.val - 1) / 12) + r.val, h⟩ k) := by
  have e := (idx t ht).1
  blk_point [hAt, iblk, V_main_arg0, e]

/-- The weights that a point after the first multiplies, at a place. -/
theorem wb_read (c : Dev nD) (n : ℕ) (hn : n + 1 < cfg0.N) (k : Fin 4096) (j : Fin 512) (h : 512 * (n % 12) + j.val < 20496) :
    (wbAt m c (n + 1) hn (ix2 k j) : EReal) = m ((c : Thread nD τ).loc main_arg1) (ix3 0 k ⟨512 * (n % 12) + j.val, h⟩) := by
  have e := idxW ⟨n, Nat.lt_of_succ_lt hn⟩ (by have : cfg0.N = 49 := rfl; show n ≠ 48; omega)
  refine (castBlk_apply _ _).trans ?_
  have e' : ∀ y, wAt m c ⟨n, Nat.lt_of_succ_lt hn⟩ y = V m c main_v1 (ix2 ⟨(512 * (n % 12) + (y 0).val), by have := (y 0).isLt; have : S512x4096.size 0 = 512 := rfl; omega⟩ (y 1)) := fun y => by
    refine congrArg (V m c main_v1) (funext fun a => Fin.ext ?_)
    refine (win0_1.rect_emb_val_off ⟨n, Nat.lt_of_succ_lt hn⟩ y a).trans ?_
    match a with
    | ⟨0, _⟩ =>
      show win0_1.index _ 0 + _ = _
      rw [e]
      rfl
    | ⟨1, _⟩ =>
      show win0_1.index _ 1 + _ = _
      rw [e]
      exact Nat.zero_add _
  rw [e', entry_w]
  rfl

/-- The queries' gains at a point are the argument. -/
theorem gq_read (c : Dev nD) (t : Fin cfg0.N) : row1 (gqAt m c t) = row1 (m ((c : Thread nD τ).loc main_arg2)) := funext fun d => by
  have e : win0_2.index t = ![0, 0] := (by decide +kernel : ∀ t : Fin grid0.N, win0_2.index t = ![0, 0]) t
  unfold row1
  blk_point [gqAt, iblk, V_main_arg2, e]

/-- The keys' gains at a point are the argument. -/
theorem gk_read (c : Dev nD) (t : Fin cfg0.N) : row1 (gkAt m c t) = row1 (m ((c : Thread nD τ).loc main_arg3)) := funext fun d => by
  have e : win0_3.index t = ![0, 0] := (by decide +kernel : ∀ t : Fin grid0.N, win0_3.index t = ![0, 0]) t
  unfold row1
  blk_point [gkAt, iblk, V_main_arg3, e]

/-- A point's output block is its part of the result. -/
theorem out_apply (c : Dev nD) (n : ℕ) (hn : n + 1 < cfg0.N) (y : S2048x512.Idx) (h0 : 2048 * (n / 12) + (y 0).val < 8192)
    (h1 : 512 * (n % 12) + (y 1).val < 6144) :
    (outAt m c ⟨n + 1, hn⟩ y : EReal) = G (m ((c : Thread nD τ).loc main_arg0)) (m ((c : Thread nD τ).loc main_arg1))
      (m ((c : Thread nD τ).loc main_arg2)) (m ((c : Thread nD τ).loc main_arg3))
      (ix2 ⟨2048 * (n / 12) + (y 0).val, h0⟩ ⟨512 * (n % 12) + (y 1).val, h1⟩) := by
  have y1 : (y 1).val < 512 := (y 1).isLt
  have eH : ∀ k, (hAt m c ⟨n + 1, hn⟩ (ix2 (y 0) k) : EReal) = m ((c : Thread nD τ).loc main_arg0) (ix2 ⟨2048 * (n / 12) + (y 0).val, h0⟩ k) :=
    fun k => h_read m c ⟨n + 1, hn⟩ (Nat.succ_ne_zero n) (y 0) k h0
  have eW : ∀ (k) (j : Fin 512), (wbAt m c (n + 1) hn (ix2 k j) : EReal) = m ((c : Thread nD τ).loc main_arg1) (ix3 0 k ⟨512 * (n % 12) + j.val, by have := j.isLt; omega⟩) :=
    fun k j => wb_read m c n hn k j _
  unfold outAt
  rw [outBlk_apply, gq_read, gk_read]
  simp only [eH, eW]
  rw [← sec_eq (n + 1) (y 1).val (y 1).isLt]
  refine congrArg₂ (fin _ _ _) (funext fun d => Finset.sum_congr rfl fun k _ => congrArg (fun z => (_ : EReal) * m ((c : Thread nD τ).loc main_arg1) (ix3 0 k z)) (Fin.ext ?_)) (Fin.ext ?_)
  · show 512 * (n % 12) + (128 * ((y 1).val / 128) + d.val) = 128 * ((512 * (n % 12) + (y 1).val) / 128) + d.val
    omega
  · show (y 1).val % 128 = (512 * (n % 12) + (y 1).val) % 128
    omega

/-- The array the program leaves. -/
theorem final (c : Dev nD) : (dats m 0 c).arrAt 4 cfg0.N
    = G (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  have h0 := flush_pos t hf
  obtain ⟨n, hn⟩ := t
  match n, hn with
  | 0, _ => exact absurd rfl h0
  | n + 1, hn =>
    have e : win0_4.index ⟨n + 1, hn⟩ = ![n / 12, n % 12] := (idx ⟨n + 1, hn⟩ h0).2
    have htl : n + 1 < 49 := hn
    have y0 : (y 0).val < 2048 := (y 0).isLt
    have y1 : (y 1).val < 512 := (y 1).isLt
    have hd : n / 12 < 4 := by omega
    have hm : n % 12 < 12 := Nat.mod_lt _ (by decide)
    have emb : ((cfg0.win 4).blk ⟨n + 1, hn⟩).view.emb y
        = ix2 ⟨2048 * (n / 12) + (y 0).val, by omega⟩ ⟨512 * (n % 12) + (y 1).val, by omega⟩ := by
      blk_ext [e]
    rw [emb, after_4]
    blk_simp
    exact out_apply m c n hn y _ _

end Cert.Kernel7Ideal.Hand

end
-- ==== Proof.FoxRef.lean ====
/- The reference's result for the forgetting mixer's columns, and that it is the program's. -/
module

public import proofs.«01_k».proof.Proof.FoxFinal
public import proofs.«01_k».proof.Proof.Equal
public import proofs.«01_k».proof.Proof.Gen.Reference7Ideal
public import Idealize.ShloMosaic.Lib.Quiescent
public import Idealize.ShloMosaic.Lib.Claim
public import Idealize.ShloMosaic.Lib.StableHlo.RunRead

@[expose] public section

set_option maxRecDepth 16384

noncomputable section

namespace Cert.Proof.Fox

open Idealize.ShloMosaic Idealize.ShloMosaic.TcCoe Idealize.SL.Sem

/-- Three arrays laid side by side, read array by array. -/
theorem concat3 {α : Type} (t : Shape) (a : Fin t.rank) {s0 s1 s2 : Shape} {x0 y0 : s0.Idx → α} {x1 y1 : s1.Idx → α} {x2 y2 : s2.Idx → α}
    (e0 : x0 = y0) (e1 : x1 = y1) (e2 : x2 = y2) (h) (h') :
    concatenate t a [⟨s0, x0⟩, ⟨s1, x1⟩, ⟨s2, x2⟩] h = concatenate t a [⟨s0, y0⟩, ⟨s1, y1⟩, ⟨s2, y2⟩] h' := by
  subst e0 e1 e2; rfl

section Terms

open Cert.Reference7Ideal Cert.Reference7Ideal.Gen

/-- The reference's projection. -/
def proj (H : FVec Ideal S8192x4096 .bf16) (W : FVec Ideal S1x4096x20496 .f32) : FVec Ideal S8192x20496 .f32 :=
  Host.dotGeneral dot_S8192x4096_S4096x20496_S8192x20496_1_0_0_1_n_n none (extf .f32 H bitsLt_bf16_f32)
    (shapeCast S4096x20496 W shapeCasts_S1x4096x20496_S4096x20496)

/-- The reference's mean squares, head by head. -/
def meanSq (X : FVec Ideal S8192x16x128 .f32) : FVec Ideal S8192x16x1 .f32 :=
  Host.divf (broadcastInDim S8192x16x1 ![0, 1] bcast_S8192x16_S8192x16x1_0_1
      (Host.reduceAdd (mulf X X) (constant S_ .f32 0x00000000#32) reducesTo_S8192x16x128_S8192x16_d2 h_S_))
    (broadcastInDim S8192x16x1 ![] bcast_S_S8192x16x1 (constant S_ .f32 0x43000000#32))

/-- The reference's norm of the heads. -/
def heads (X : FVec Ideal S8192x16x128 .f32) (g : FVec Ideal S1x128 .f32) : FVec Ideal S8192x16x128 .f32 :=
  mulf (mulf X (broadcastInDim S8192x16x128 ![0, 1, 2] bcast_S8192x16x1_S8192x16x128_0_1_2
      (Host.rsqrt (addf (meanSq X) (broadcastInDim S8192x16x1 ![] bcast_S_S8192x16x1 (constant S_ .f32 0x358637BD#32))))))
    (broadcastInDim S8192x16x128 ![0, 1, 2] bcast_S1x1x128_S8192x16x128_0_1_2
      (broadcastInDim S1x1x128 ![2] bcast_S128_S1x1x128_2 (shapeCast S128 g shapeCasts_S1x128_S128)))

/-- The same on the columns as they lie. -/
def norm (X : FVec Ideal S8192x2048 .f32) (g : FVec Ideal S1x128 .f32) : FVec Ideal S8192x2048 .f32 :=
  shapeCast S8192x2048 (heads (shapeCast S8192x16x128 X shapeCasts_S8192x2048_S8192x16x128) g) shapeCasts_S8192x16x128_S8192x2048

/-- The reference's queries, from the projection. -/
def qOf (P : FVec Ideal S8192x20496 .f32) (g : FVec Ideal S1x128 .f32) : FVec Ideal S8192x2048 .f32 :=
  Host.divf (Host.divf (norm (extractStridedSlice S8192x2048 ![0, 0] P slices_S8192x20496_S8192x2048_0_0) g)
    (broadcastInDim S8192x2048 ![] bcast_S_S8192x2048 (Host.sqrt (constant S_ .f32 0x43000000#32))))
    (broadcastInDim S8192x2048 ![] bcast_S_S8192x2048 (Host.log (constant S_ .f32 0x40000000#32)))

/-- The reference's result, from the projection. -/
def refOf (P : FVec Ideal S8192x20496 .f32) (gq gk : FVec Ideal S1x128 .f32) : FVec Ideal S8192x6144 .bf16 :=
  truncf .bf16 (concatenate S8192x6144 1
    [⟨S8192x2048, qOf P gq⟩,
     ⟨S8192x2048, norm (extractStridedSlice S8192x2048 ![0, 2048] P slices_S8192x20496_S8192x2048_0_2048) gk⟩,
     ⟨S8192x2048, extractStridedSlice S8192x2048 ![0, 4096] P slices_S8192x20496_S8192x2048_0_4096⟩]
    concatenates_S8192x2048_S8192x2048_S8192x2048_S8192x6144_d1) bitsLt_bf16_f32

end Terms

/-- What the reference's run leaves: the result, and its arguments as they were. -/
theorem run_reference (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => ∀ c : Dev Cert.Reference7Ideal.nD,
      r.2.mem ((c.tc : Thread Cert.Reference7Ideal.nD Cert.Reference7Ideal.τ).loc Cert.Reference7Ideal.main_v45) = refOf (proj (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)))
        (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))
      ∧ r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)) := by
  refine θ_run_mono (StableHlo.run_hlo _ _ (by hlo_seq) (by decide) (by decide) (by simp)
      (by intro _ h; (repeat (cases h with | head => rfl | tail _ h => ?_)); exact nomatch h) _ _) fun r hr c => ⟨?_, ?_, ?_, ?_, ?_⟩
  · rw [hr c]
    after_reads_simp
    refine congrArg (fun z => truncf .bf16 z _) (concat3 _ _ ?_ ?_ ?_ _ _)
    · show StableHlo.upto _ _ _ (Proc.devRef .tc Cert.Reference7Ideal.main_v25) = _
      after_reads_simp; rfl
    · show StableHlo.upto _ _ _ (Proc.devRef .tc Cert.Reference7Ideal.main_v42) = _
      after_reads_simp; rfl
    · show StableHlo.upto _ _ _ (Proc.devRef .tc Cert.Reference7Ideal.main_v43) = _
      after_reads_simp; rfl
  · rw [hr c]
    after_reads_simp
  · rw [hr c]
    after_reads_simp
  · rw [hr c]
    after_reads_simp
  · rw [hr c]
    after_reads_simp

section Values

open Cert.Reference7Ideal Cert.Kernel7Ideal.Hand

/-- The projection at a place. -/
theorem proj_apply (H : FVec Ideal S8192x4096 .bf16) (W : FVec Ideal S1x4096x20496 .f32) (r : Fin 8192) (n : Fin 20496) :
    (proj H W (ix2 r n) : EReal) = ∑ k : Fin 4096, (H (ix2 r k) : EReal) * W (ix3 0 k n) := by
  pointwise [proj]

/-- A head's norm at a place. -/
theorem heads_apply (X : FVec Ideal S8192x16x128 .f32) (g : FVec Ideal S1x128 .f32) (r : Fin 8192) (e : Fin 16) (d : Fin 128) :
    (heads X g (ix3 r e d) : EReal) = X (ix3 r e d) * rms (fun d => X (ix3 r e d)) * row1 g d := by
  pointwise [heads, meanSq]
  rfl

/-- The norm at a place. -/
theorem norm_apply (X : FVec Ideal S8192x2048 .f32) (g : FVec Ideal S1x128 .f32) (r : Fin 8192) (e : Fin 16) (d : Fin 128) :
    (norm X g (ix2 r ⟨128 * e.val + d.val, by omega⟩) : EReal) = X (ix2 r ⟨128 * e.val + d.val, by omega⟩)
      * rms (fun d => X (ix2 r ⟨128 * e.val + d.val, by omega⟩)) * row1 g d := by
  have hx : ∀ d : Fin 128, (shapeCast S8192x16x128 X Gen.shapeCasts_S8192x2048_S8192x16x128 (ix3 r e d) : EReal) = X (ix2 r ⟨128 * e.val + d.val, by omega⟩) := by
    intro d
    pointwise
    exact congrArg (fun z => X (ix2 r z)) (Fin.ext (by show e.val * 128 + d.val = 128 * e.val + d.val; omega))
  have hy : (norm X g (ix2 r ⟨128 * e.val + d.val, by omega⟩) : EReal) = heads (shapeCast S8192x16x128 X Gen.shapeCasts_S8192x2048_S8192x16x128) g (ix3 r e d) := by
    unfold norm
    generalize heads _ _ = Y
    pointwise
  rw [hy, heads_apply]
  simp only [hx]

/-- Both compute the same result. -/
theorem values (H : FVec Ideal S8192x4096 .bf16) (W : FVec Ideal S1x4096x20496 .f32) (gq gk : FVec Ideal S1x128 .f32) :
    refOf (proj H W) gq gk = G H W gq gk := by
  funext y
  obtain ⟨r, n, rfl⟩ : ∃ (r : Fin 8192) (n : Fin 6144), y = ix2 r n := ⟨y 0, y 1, eq_ix2 y⟩
  have hn := n.isLt
  have e : G H W gq gk (ix2 r n) = fin (row1 gq) (row1 gk) (secOf n.val)
      (fun d => proj H W (ix2 r ⟨128 * (n.val / 128) + d.val, by omega⟩)) ⟨n.val % 128, Nat.mod_lt _ (by decide)⟩ :=
    congrArg (fun a => fin (row1 gq) (row1 gk) (secOf n.val) a _) (funext fun d => (proj_apply H W r _).symm)
  rw [e]
  generalize proj H W = P
  have sec : ∀ s, secOf n.val = s → ∀ z : EReal, z = fin (row1 gq) (row1 gk) s (fun d => P (ix2 r ⟨128 * (n.val / 128) + d.val, by omega⟩)) ⟨n.val % 128, Nat.mod_lt _ (by decide)⟩ →
      z = fin (row1 gq) (row1 gk) (secOf n.val) (fun d => P (ix2 r ⟨128 * (n.val / 128) + d.val, by omega⟩)) ⟨n.val % 128, Nat.mod_lt _ (by decide)⟩ := by
    rintro _ rfl _ h; exact h
  have nrm : ∀ (o : ℕ) (hs : S8192x20496.Slices ![0, o] S8192x2048) (g : FVec Ideal S1x128 .f32) (i : Fin 2048), o % 128 = 0 → o + i.val = n.val →
      (norm (extractStridedSlice S8192x2048 ![0, o] P hs) g (ix2 r i) : EReal)
        = P (ix2 r ⟨128 * (n.val / 128) + n.val % 128, by omega⟩)
          * rms (fun d => P (ix2 r ⟨128 * (n.val / 128) + d.val, by omega⟩)) * row1 g ⟨n.val % 128, Nat.mod_lt _ (by decide)⟩ := fun o hs g i ho hi => by
    have hi' := i.isLt
    have hmod : i.val % 128 = n.val % 128 := by omega
    have ei : i = ⟨128 * (⟨i.val / 128, by omega⟩ : Fin 16).val + (⟨n.val % 128, Nat.mod_lt _ (by decide)⟩ : Fin 128).val, by show 128 * (i.val / 128) + n.val % 128 < 2048; omega⟩ :=
      Fin.ext (by show i.val = 128 * (i.val / 128) + n.val % 128; omega)
    have hp : ∀ d : Fin 128, (extractStridedSlice S8192x2048 ![0, o] P hs (ix2 r ⟨128 * (⟨i.val / 128, by omega⟩ : Fin 16).val + d.val, by show 128 * (i.val / 128) + d.val < 2048; omega⟩) : EReal)
        = P (ix2 r ⟨128 * (n.val / 128) + d.val, by omega⟩) := fun d => by
      pointwise
      refine congrArg (fun z => P (ix2 r z)) (Fin.ext ?_)
      show o + (128 * (i.val / 128) + d.val) = 128 * (n.val / 128) + d.val
      omega
    refine (congrArg (fun z => (norm (extractStridedSlice S8192x2048 ![0, o] P hs) g (ix2 r z) : EReal)) ei).trans ?_
    refine (norm_apply _ g r ⟨i.val / 128, by omega⟩ ⟨n.val % 128, Nat.mod_lt _ (by decide)⟩).trans ?_
    exact congrArg₂ (fun a b => a * rms b * row1 g _) (hp _) (funext hp)
  unfold refOf
  pointwise
  by_cases h1 : n.val < 2048
  · refine (dif_pos h1).trans (sec .q (if_pos h1) _ ?_)
    refine Eq.trans ?_ (congrArg (fun z => z * (((Real.sqrt 128)⁻¹ * (Real.log 2)⁻¹ : ℝ) : EReal)) (nrm 0 Gen.slices_S8192x20496_S8192x2048_0_0 gq ⟨n.val, h1⟩ rfl (Nat.zero_add _)))
    refine Eq.trans ?_ (scale_eq _)
    pointwise [qOf]
  refine (dif_neg h1).trans ?_
  by_cases h2 : n.val - 2048 < 2048
  · exact (dif_pos h2).trans (sec .k ((if_neg h1).trans (if_pos (by omega))) _
      (nrm 2048 Gen.slices_S8192x20496_S8192x2048_0_2048 gk ⟨n.val - 2048, h2⟩ rfl (by show 2048 + (n.val - 2048) = n.val; omega)))
  refine (dif_neg h2).trans (sec .v ((if_neg h1).trans (if_neg (by omega))) _ ?_)
  refine congrArg (fun z => P (ix2 r z)) (Fin.ext ?_)
  show 4096 + (n.val - 2048 - 2048) = 128 * (n.val / 128) + n.val % 128
  omega

end Values

end Cert.Proof.Fox

end
-- ==== Proof.Fox.lean ====
/- The claims of the forgetting mixer's projection: both frames off the one run, the reference's frame, the named constant,
   and the values. -/
module

public import proofs.«01_k».proof.Defs
public import proofs.«01_k».proof.Proof.FoxRef
public import proofs.«01_k».proof.Proof.Frames
public import proofs.«01_k».proof.Proof.Gen.Kernel7

@[expose] public section

set_option maxRecDepth 16384

noncomputable section

namespace Cert.Proof.Fox

open Idealize.ShloMosaic Idealize.SL.Sem

/-- The idealized kernel's frame. -/
theorem frame_kernelIdeal : Cert.quiescent_Kernel7Ideal := fun m ρ _ => Cert.Kernel7Ideal.Hand.frame_main (F := Ideal) m ρ

/-- The kernel's frame: at the bit patterns the named constant is its literal, and the text the idealization's. -/
theorem frame_kernel : Cert.quiescent_Kernel7 := by
  have h := fun m ρ (_ : True) => Cert.Kernel7Ideal.Hand.frame_main (F := Bits) m ρ
  exact cast (by sl_kernel_rfl) h

/-- The reference runs to its end, its arguments unchanged, every counter at zero. -/
theorem frame_reference : Cert.quiescent_Reference7Ideal := fun m g _ =>
  θ_run_mono (run_reference m g) fun r h => ⟨fun c => (h c).2, sem_eq_zero_of_no_sems (by decide) r.2⟩

/-- The one constant named is the value its name stands for. -/
theorem preserves : Cert.preserves_Kernel7_Kernel7Ideal :=
  IdealRules.named_const.statement Cert.Kernel7Ideal.κ "q_scale" .f32 0x3E0293EE#32 (((Real.sqrt 128)⁻¹ * (Real.log 2)⁻¹ : ℝ) : EReal) rfl

/-- The program and the reference leave the same result. -/
theorem algebraic : Cert.algebraic_Kernel7Ideal_Reference7Ideal := by
  pair_intro
  · run_from Cert.Kernel7Ideal.Hand.run_main m g
  · run_from run_reference m' g'
    exact (values _ _ _ _).trans (Cert.Kernel7Ideal.Hand.final m c).symm

end Cert.Proof.Fox

end
-- ==== Proof.lean ====
module

public import proofs.«01_k».proof.Defs
public import proofs.«01_k».proof.Proof.Frames
public import proofs.«01_k».proof.Proof.Equal
public import proofs.«01_k».proof.Proof.Down
public import proofs.«01_k».proof.Proof.Ple
public import proofs.«01_k».proof.Proof.UpGlu
public import proofs.«01_k».proof.Proof.Merge
public import proofs.«01_k».proof.Proof.OutRes
public import proofs.«01_k».proof.Proof.Fox

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  frame_kernel, frame_kernelIdeal, frame_reference,
  Down.frame_kernel, Down.frame_kernelIdeal, Down.frame_reference,
  Ple.frame_kernel, Ple.frame_kernelIdeal, Ple.frame_reference,
  UpGlu.frame_kernel, UpGlu.frame_kernelIdeal, UpGlu.frame_reference,
  Merge.frame_kernel, Merge.frame_kernelIdeal, Merge.frame_reference,
  OutRes.frame_kernel, OutRes.frame_kernelIdeal, OutRes.frame_reference,
  Fox.frame_kernel, Fox.frame_kernelIdeal, Fox.frame_reference,
  preserves, algebraic, trivial, Down.algebraic, trivial, Ple.algebraic, trivial, UpGlu.algebraic, trivial, Merge.algebraic, trivial, OutRes.algebraic,
  Fox.preserves, Fox.algebraic⟩

end Cert.Proof

end
